-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2, 2] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2, 2] ![[2], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2, 2] ![[2], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S128x2048 : S_.BroadcastsInDim S128x2048 (![] : Fin 0 → Fin S128x2048.rank)
  reducesTo_S128x2048_S_d0_1 : S128x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .f32) (main_arg6 : FVec F S2048x32 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .f32 := Host.absf main_arg6
  let main_cst_8 : FVec F S_ .f32 := constant S_ .f32 0x7F800000#32
  let main_v25 : FVec F S2048x32 .f32 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S2x512x2048 .f32) (main_arg1 : FVec F S2048x128 .f32) (main_arg2 : FVec F S128x2048 .f32) (main_arg3 : FVec F S128x2048 .f32) (main_arg4 : FVec F S2048x2048 .f32) (main_arg5 : FVec F S2048x512 .f32) (main_arg6 : FVec F S2048x32 .f32) (main_arg7 : FVec F S2048x2048 .f32) : IVec S_ 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_v13 main_v16
-- ==== Pre_finite_ReferenceIdeal.lean ====
abbrev S2x512x2048 : Shape := ⟨3, ![2, 512, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256x2048 : S_.BroadcastsInDim S256x2048 (![] : Fin 0 → Fin S256x2048.rank)
  reducesTo_S256x2048_S_d0_1 : S256x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .f32) (main_arg6 : FVec F S2048x32 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .f32 := Host.absf main_arg6
  let main_cst_8 : FVec F S_ .f32 := constant S_ .f32 0x7F800000#32
  let main_v25 : FVec F S2048x32 .f32 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S2x512x2048 .f32) (main_arg1 : FVec F S2048x256 .f32) (main_arg2 : FVec F S256x2048 .f32) (main_arg3 : FVec F S256x2048 .f32) (main_arg4 : FVec F S2048x2048 .f32) (main_arg5 : FVec F S2048x512 .f32) (main_arg6 : FVec F S2048x32 .f32) (main_arg7 : FVec F S2048x2048 .f32) : IVec S_ 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256x2048 .f32 := Host.absf main_arg2
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_v13 main_v16
-- ==== Kernel.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x2048 : Shape := ⟨2, ![1024, 2048]⟩
abbrev S1024x4096 : Shape := ⟨2, ![1024, 4096]⟩
abbrev S1024x32 : Shape := ⟨2, ![1024, 32]⟩
abbrev S1024x256 : Shape := ⟨2, ![1024, 256]⟩
abbrev S256x2048 : Shape := ⟨2, ![256, 2048]⟩
abbrev S1024x1024 : Shape := ⟨2, ![1024, 1024]⟩
abbrev S1024x128 : Shape := ⟨2, ![1024, 128]⟩
abbrev S4x1024x128 : Shape := ⟨3, ![4, 1024, 128]⟩
abbrev S3 : Shape := ⟨1, ![3]⟩
abbrev S_ : Shape := ⟨0, ![]⟩
abbrev S1 : Shape := ⟨1, ![1]⟩
abbrev S1024x512 : Shape := ⟨2, ![1024, 512]⟩
abbrev S1x1024x128 : Shape := ⟨3, ![1, 1024, 128]⟩
abbrev S512x4096 : Shape := ⟨2, ![512, 4096]⟩
abbrev S512x32 : Shape := ⟨2, ![512, 32]⟩
abbrev S512x256 : Shape := ⟨2, ![512, 256]⟩
abbrev S512x2048 : Shape := ⟨2, ![512, 2048]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 35
  | .smem => 0
  | _ => 0

abbrev bufTy : (tb : Table) → Fin (tcTables nBuf tb) → BufTy
  | .hbm, ⟨0, _⟩ => ⟨S2x512x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1024x2048, .f32⟩
  | .hbm, ⟨9, _⟩ => ⟨S1024x4096, .bf16⟩
  | .hbm, ⟨10, _⟩ => ⟨S1024x32, .bf16⟩
  | .hbm, ⟨11, _⟩ => ⟨S1024x256, .bf16⟩
  | .hbm, ⟨12, _⟩ => ⟨S256x2048, .bf16⟩
  | .hbm, ⟨13, _⟩ => ⟨S256x2048, .bf16⟩
  | .hbm, ⟨14, _⟩ => ⟨S1024x2048, .f32⟩
  | .hbm, ⟨15, _⟩ => ⟨S2x512x2048, .f32⟩
  | .local _ .vmem, ⟨0, _⟩ => ⟨S1024x2048, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S2048x32, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x1024, .bf16⟩
  | .local _ .vmem, ⟨9, _⟩ => ⟨S1024x1024, .bf16⟩
  | .local _ .vmem, ⟨10, _⟩ => ⟨S1024x32, .bf16⟩
  | .local _ .vmem, ⟨11, _⟩ => ⟨S1024x256, .bf16⟩
  | .local _ .vmem, ⟨12, _⟩ => ⟨S256x2048, .bf16⟩
  | .local _ .vmem, ⟨13, _⟩ => ⟨S256x2048, .bf16⟩
  | .local _ .vmem, ⟨14, _⟩ => ⟨S1024x128, .bf16⟩
  | .local _ .vmem, ⟨15, _⟩ => ⟨S1024x128, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S4x1024x128, .bf16⟩
  | .local _ .vmem, ⟨21, _⟩ => ⟨S512x4096, .bf16⟩
  | .local _ .vmem, ⟨22, _⟩ => ⟨S512x4096, .bf16⟩
  | .local _ .vmem, ⟨23, _⟩ => ⟨S512x32, .bf16⟩
  | .local _ .vmem, ⟨24, _⟩ => ⟨S512x32, .bf16⟩
  | .local _ .vmem, ⟨25, _⟩ => ⟨S512x256, .bf16⟩
  | .local _ .vmem, ⟨26, _⟩ => ⟨S512x256, .bf16⟩
  | .local _ .vmem, ⟨27, _⟩ => ⟨S256x2048, .bf16⟩
  | .local _ .vmem, ⟨28, _⟩ => ⟨S256x2048, .bf16⟩
  | .local _ .vmem, ⟨29, _⟩ => ⟨S2048x2048, .f32⟩
  | .local _ .vmem, ⟨30, _⟩ => ⟨S512x2048, .f32⟩
  | .local _ .vmem, ⟨31, _⟩ => ⟨S512x2048, .f32⟩
  | .local _ .vmem, ⟨32, _⟩ => ⟨S512x4096, .bf16⟩
  | .local _ .vmem, ⟨33, _⟩ => ⟨S512x2048, .bf16⟩
  | .local _ .vmem, ⟨34, _⟩ => ⟨S512x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg6_1 : Ref sig .tc := ⟨.vmem, 31, rfl⟩
abbrev cc1_scratch0 : Ref sig .tc := ⟨.vmem, 32, rfl⟩
abbrev cc1_scratch1 : Ref sig .tc := ⟨.vmem, 33, rfl⟩
abbrev cc1_scratch2 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem10_0 : DmaSem sig := 12
abbrev cc0_sem11_0 : DmaSem sig := 13
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem6_1 : DmaSem sig := 30
abbrev barrier0 : Sem sig := 0

abbrev nD : Nat := 8
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_4 : BitVec 32 := 0#32
  let v12 : BitVec 1 := Scalar.cmpi .ne v11 c0_i32_4
  v12

def k0_dev1 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v47 : BitVec 32 := Scalar.muli v2 c4_i32_24
  let v48 : BitVec 32 := Scalar.addi c0_i32_25 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v49 : BitVec 32 := Scalar.muli v5 c2_i32_26
  let v50 : BitVec 32 := Scalar.addi v48 v49
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v51 : BitVec 32 := Scalar.muli v9 c1_i32_27
  let v52 : BitVec 32 := Scalar.addi v50 v51
  v52.toNat
def k0_dev2 (d0 : Dev nD) : Nat :=
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_39 : BitVec 32 := 4#32
  let v65 : BitVec 32 := Scalar.muli v2 c4_i32_39
  let v66 : BitVec 32 := Scalar.addi c0_i32_40 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v67 : BitVec 32 := Scalar.muli v5 c2_i32_41
  let v68 : BitVec 32 := Scalar.addi v66 v67
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_42 : BitVec 32 := 1#32
  let v69 : BitVec 32 := Scalar.muli v9 c1_i32_42
  let v70 : BitVec 32 := Scalar.addi v68 v69
  v70.toNat
def k0_dev3 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v75 : BitVec 32 := Scalar.muli v2 c4_i32_45
  let v76 : BitVec 32 := Scalar.addi c0_i32_46 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v77 : BitVec 32 := Scalar.muli v5 c2_i32_47
  let v78 : BitVec 32 := Scalar.addi v76 v77
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_48 : BitVec 32 := 1#32
  let v79 : BitVec 32 := Scalar.muli v9 c1_i32_48
  let v80 : BitVec 32 := Scalar.addi v78 v79
  v80.toNat
def k0_dev4 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v94 : BitVec 32 := Scalar.muli v2 c4_i32_58
  let v95 : BitVec 32 := Scalar.addi c0_i32_59 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v96 : BitVec 32 := Scalar.muli v5 c2_i32_60
  let v97 : BitVec 32 := Scalar.addi v95 v96
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_61 : BitVec 32 := 1#32
  let v98 : BitVec 32 := Scalar.muli v9 c1_i32_61
  let v99 : BitVec 32 := Scalar.addi v97 v98
  v99.toNat
def k0_off1 (i : grid0.Coords) : Fin 3 → Nat :=
  let arg0 : BitVec 32 := BitVec.ofNat 32 (i 0).val
  let v18 : Index := Scalar.indexCast arg0
  let c0_8 : Index := 0#32
  let c0_9 : Index := 0#32
  ![v18.toNat, 0, 0]
def k0_cond2 (i : grid0.Coords) : BitVec 1 :=
  let arg0 : BitVec 32 := BitVec.ofNat 32 (i 0).val
  let c3_i32 : BitVec 32 := 3#32
  let v43 : BitVec 1 := Scalar.cmpi .eq arg0 c3_i32
  let v44 : BitVec 32 := Scalar.extui v43
  let c0_i32_22 : BitVec 32 := 0#32
  let v45 : BitVec 1 := Scalar.cmpi .ne v44 c0_i32_22
  v45

def k0_off2 (d0 : Dev nD) : Fin 2 → Nat :=
  let c0_52 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v77 : BitVec 32 := Scalar.muli v8 c128_i32
  let v78 : Index := Scalar.indexCast v77
  ![0, v78.toNat]
def k0_off3 (d0 : Dev nD) : Fin 2 → Nat :=
  let c0_57 : Index := 0#32
  let c1_i32_55 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v81 : BitVec 32 := Scalar.subi c1_i32_55 v8
  let c128_i32_56 : BitVec 32 := 128#32
  let v82 : BitVec 32 := Scalar.muli v81 c128_i32_56
  let v83 : Index := Scalar.indexCast v82
  ![0, v83.toNat]
def k0_off4 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_60 : BitVec 32 := 128#32
  let v86 : BitVec 32 := Scalar.muli v8 c128_i32_60
  let v87 : Index := Scalar.indexCast v86
  let c0_61 : Index := 0#32
  ![v87.toNat, 0]
def k0_off5 (d0 : Dev nD) : Fin 2 → Nat :=
  let c1_i32_64 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v90 : BitVec 32 := Scalar.subi c1_i32_64 v8
  let c128_i32_65 : BitVec 32 := 128#32
  let v91 : BitVec 32 := Scalar.muli v90 c128_i32_65
  let v92 : Index := Scalar.indexCast v91
  let c0_66 : Index := 0#32
  ![v92.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨2, ![2, 1], ![false, false]⟩

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S256x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S2048x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S2x512x2048 : Shape := ⟨3, ![2, 512, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S2x512x256 : Shape := ⟨3, ![2, 512, 256]⟩
abbrev S2x512x16x128 : Shape := ⟨4, ![2, 512, 16, 128]⟩
abbrev S2x512x512 : Shape := ⟨3, ![2, 512, 512]⟩
abbrev S2x512x16x32 : Shape := ⟨4, ![2, 512, 16, 32]⟩
abbrev S2x512x32 : Shape := ⟨3, ![2, 512, 32]⟩
abbrev S2x512x1x32 : Shape := ⟨4, ![2, 512, 1, 32]⟩
abbrev S2x16x512x512 : Shape := ⟨4, ![2, 16, 512, 512]⟩
abbrev S_ : Shape := ⟨0, ![]⟩
abbrev S2x16x512 : Shape := ⟨3, ![2, 16, 512]⟩
abbrev S2x16x512x1 : Shape := ⟨4, ![2, 16, 512, 1]⟩
abbrev S2x16x128x512 : Shape := ⟨4, ![2, 16, 128, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2048x256, .f32⟩
  | .hbm, ⟨2, _⟩ => ⟨S256x2048, .f32⟩
  | .hbm, ⟨3, _⟩ => ⟨S256x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S2x512x256, .f32⟩
  | .hbm, ⟨9, _⟩ => ⟨S2x512x2048, .f32⟩
  | .hbm, ⟨10, _⟩ => ⟨S2x512x16x128, .f32⟩
  | .hbm, ⟨11, _⟩ => ⟨S2x512x2048, .f32⟩
  | .hbm, ⟨12, _⟩ => ⟨S2x512x16x128, .f32⟩
  | .hbm, ⟨13, _⟩ => ⟨S2x512x2048, .f32⟩
  | .hbm, ⟨14, _⟩ => ⟨S2x512x16x128, .f32⟩
  | .hbm, ⟨15, _⟩ => ⟨S2x512x512, .f32⟩
  | .hbm, ⟨16, _⟩ => ⟨S2x512x16x32, .f32⟩
  | .hbm, ⟨17, _⟩ => ⟨S2x512x32, .f32⟩
  | .hbm, ⟨18, _⟩ => ⟨S2x512x1x32, .f32⟩
  | .hbm, ⟨19, _⟩ => ⟨S2x16x512x512, .f32⟩
  | .hbm, ⟨20, _⟩ => ⟨S2x512x16x32, .f32⟩
  | .hbm, ⟨21, _⟩ => ⟨S2x16x512x512, .f32⟩
  | .hbm, ⟨22, _⟩ => ⟨S2x16x512x512, .f32⟩
  | .hbm, ⟨23, _⟩ => ⟨S_, .f32⟩
  | .hbm, ⟨24, _⟩ => ⟨S2x16x512x512, .f32⟩
  | .hbm, ⟨25, _⟩ => ⟨S2x16x512x512, .f32⟩
  | .hbm, ⟨26, _⟩ => ⟨S_, .f32⟩
  | .hbm, ⟨27, _⟩ => ⟨S2x16x512, .f32⟩
  | .hbm, ⟨28, _⟩ => ⟨S2x16x512x1, .f32⟩
  | .hbm, ⟨29, _⟩ => ⟨S2x16x512x512, .f32⟩
  | .hbm, ⟨30, _⟩ => ⟨S2x16x512x512, .f32⟩
  | .hbm, ⟨31, _⟩ => ⟨S2x16x512x512, .f32⟩
  | .hbm, ⟨32, _⟩ => ⟨S_, .f32⟩
  | .hbm, ⟨33, _⟩ => ⟨S2x16x512, .f32⟩
  | .hbm, ⟨34, _⟩ => ⟨S2x16x512x1, .f32⟩
  | .hbm, ⟨35, _⟩ => ⟨S2x16x512x512, .f32⟩
  | .hbm, ⟨36, _⟩ => ⟨S2x16x512x512, .f32⟩
  | .hbm, ⟨37, _⟩ => ⟨S2x16x128x512, .f32⟩
  | .hbm, ⟨38, _⟩ => ⟨S2x512x16x128, .f32⟩
  | .hbm, ⟨39, _⟩ => ⟨S2x512x2048, .f32⟩
  | .hbm, ⟨40, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Base.lean ====
/- What the modules of this certificate share: the shape of a buffer held whole, and the resources they are stated over. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.PureOps

@[expose] public section

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The pipelines' round tokens beside the exchange's own. -/
abbrev UU : Type := UR sig nD τ × UR sig nD τ

/-- The resources every statement here is made over. -/
abbrev MM (F : FTy → Type) : Type := MT nD τ sig Unit (Elt F) ℕ UU ℕ

/-- The pipelines' round tokens inside the resources. -/
abbrev EP : Emb (UR sig nD τ) (MM F) := embL
/-- The exchange's round tokens inside the resources. -/
abbrev ER : Emb (UR sig nD τ) (MM F) := embR

/-- The contents a memref's buffer can have on device `c`. -/
abbrev Bf (F : FTy → Type) (c : Dev nD) {sp : Space} {S : Shape} {e : EltTy} (M : Memref sig .tc sp S e) : Type :=
  Buf (Elt F) (M.view.loc (c : Thread nD τ))
/-- A memref's whole buffer on device `c`, holding `f`. -/
abbrev pt (c : Dev nD) {sp : Space} {S : Shape} {e : EltTy} (M : Memref sig .tc sp S e) (f : Bf F c M) : sProp (MM F) :=
  M.view.loc (c : Thread nD τ) ↦{fullShare} f

/-- No loop needs a bound on its calls. -/
abbrev 𝒱₀ : Variants := Variants.none

end Cert.Mla

end
-- ==== Proof.Protocol.lean ====
/- The exchange between the two devices of a pair: its semaphore cells, what is paid to each, and what each device owes. -/
module

public import proofs.«01_k».proof.Proof.Base

@[expose] public section

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The device a device exchanges with: the one beside it on the last axis of the mesh. -/
def pr (c : Dev nD) : Dev nD := ⟨(4 * (c.val / 4) + 2 * ((c.val / 2) % 2) + 1) - c.val % 2, by revert c; decide⟩
/-- The partner of a device's partner is the device. -/
theorem pr_pr (c : Dev nD) : pr (pr c) = c := by revert c; decide
/-- Exchanging is a permutation of the devices. -/
def prEquiv : Dev nD ≃ Dev nD := ⟨pr, pr, pr_pr, pr_pr⟩

/-- The semaphore the two devices meet on. -/
abbrev barS : Sem sig := sig.barrier 0 rfl
/-- The semaphores of the three copies on the sending side … -/
abbrev sndS (k : Fin 3) : DmaSem sig := ⟨14 + k.val, by show 14 + k.val < 31; omega⟩
/-- … and on the receiving side. -/
abbrev rcvS (k : Fin 3) : DmaSem sig := ⟨17 + k.val, by show 17 + k.val < 31; omega⟩

abbrev barCell (c : Dev nD) : GSem nD τ sig := ((c : Thread nD τ), .reg barS)
abbrev sndCell (k : Fin 3) (c : Dev nD) : GSem nD τ sig := ((c : Thread nD τ), .dma (sndS k))
abbrev rcvCell (k : Fin 3) (c : Dev nD) : GSem nD τ sig := ((c : Thread nD τ), .dma (rcvS k))

/-- The exchange's own semaphores inside its call. -/
abbrev osem0 : Fin 6 → SemLoc sig :=
  fun | 0 => .dma (sndS 0) | 1 => .dma (sndS 1) | 2 => .dma (sndS 2) | 3 => .dma (rcvS 0) | 4 => .dma (rcvS 1) | 5 => .dma (rcvS 2)

abbrev cS : Memref sig .tc .vmem S1024x128 .bf16 := Memref.whole cc0_scratch0
abbrev cR : Memref sig .tc .vmem S1024x128 .bf16 := Memref.whole cc0_scratch1
abbrev kS : Memref sig .tc .vmem S128x2048 .bf16 := Memref.whole cc0_scratch2
abbrev kR : Memref sig .tc .vmem S128x2048 .bf16 := Memref.whole cc0_scratch3
abbrev vS : Memref sig .tc .vmem S128x2048 .bf16 := Memref.whole cc0_scratch4
abbrev vR : Memref sig .tc .vmem S128x2048 .bf16 := Memref.whole cc0_scratch5
abbrev qS : Memref sig .tc .vmem S4x1024x128 .bf16 := Memref.whole cc0_scratch6

/-- What a copy of a weight share counts for, and what a copy of the latent share counts for. -/
abbrev Nw : ℕ := kR.view.dmaCredit
abbrev Nc : ℕ := cR.view.dmaCredit
/-- A weight copy credits a positive amount. -/
theorem Nw_pos : 0 < Nw := View.dmaCredit_pos _ (by decide)
/-- The latents' copy credits a positive amount. -/
theorem Nc_pos : 0 < Nc := View.dmaCredit_pos _ (by decide)

/-- What every device sends: its share of the latents and of the two up-projections. -/
structure Sent (F : FTy → Type) where
  c : Dev nD → Vec F S1024x128 .bf16
  k : Dev nD → Vec F S128x2048 .bf16
  v : Dev nD → Vec F S128x2048 .bf16

variable (S : Sent F)

/-- Paid to device `c`'s meeting cell by the other device: the other device's three landing buffers, whose cells it has opened. -/
def barPay (c : Dev nD) : sProp (MM F) :=
  iprop((∃ f, pt (pr c) kR f) ∗ (∃ f, pt (pr c) vR f) ∗ (∃ f, pt (pr c) cR f)
    ∗ reached ER (rcvCell 0 (pr c)) 0 ∗ reached ER (rcvCell 1 (pr c)) 0 ∗ reached ER (rcvCell 2 (pr c)) 0)

/-- Paid to a cell when a copy has left: the buffer it was read from. When it has landed: the landing buffer, holding what the other
    device sent. -/
def pay (c : Dev nD) (s : SemLoc sig) : sProp (MM F) :=
  if s = .reg barS then barPay c
  else if s = .dma (sndS 0) then pt c kS (S.k c)
  else if s = .dma (sndS 1) then pt c vS (S.v c)
  else if s = .dma (sndS 2) then pt c cS (S.c c)
  else if s = .dma (rcvS 0) then pt c kR (S.k (pr c))
  else if s = .dma (rcvS 1) then pt c vR (S.v (pr c))
  else if s = .dma (rcvS 2) then pt c cR (S.c (pr c))
  else iprop(emp)

/-- How much one payment of a cell is. -/
def amt (s : SemLoc sig) : ℕ :=
  if s = .reg barS then 1 else if s = .dma (sndS 2) ∨ s = .dma (rcvS 2) then Nc else Nw

/-- The cells the exchange uses. -/
def IsX (g : GSem nD τ sig) : Prop :=
  g.1.2 = .tc ∧ (g.2 = .reg barS ∨ ∃ k : Fin 3, g.2 = .dma (sndS k) ∨ g.2 = .dma (rcvS k))
instance (g : GSem nD τ sig) : Decidable (IsX g) := by unfold IsX; infer_instance

/-- One payment on every cell of the exchange, in its first round; none later. -/
def xRd : Rounds.Schedule (GSem nD τ sig) Unit (MM F) where
  duties g r := if r = 0 ∧ IsX g then {()} else ∅
  unitless _ := False
  amount g _ _ := amt g.2
  payload g _ _ := pay S g.1.1 g.2
  amount_pos g _ _ _ := by
    show 0 < amt g.2
    unfold amt
    split
    · exact Nat.one_pos
    · split
      · exact Nc_pos
      · exact Nw_pos

set_option synthInstance.maxHeartbeats 200000 in
instance barPay_storable (c : Dev nD) : BI.Storable (upEmb : UEmb _ (MM F)) (barPay (F := F) c) := by
  unfold barPay; infer_instance

instance xRd_payload_storable (g : GSem nD τ sig) (r : ℕ) (d : Unit) :
    BI.Storable (upEmb : UEmb _ (MM F)) ((xRd S).payload g r d) := by
  show BI.Storable upEmb (pay S g.1.1 g.2)
  unfold pay
  (repeat' split) <;> infer_instance

section Sched

variable (c : Dev nD)

/-- The barrier cell belongs to the exchange. -/
theorem isX_bar : IsX (barCell c) := ⟨rfl, .inl rfl⟩
/-- The three send cells belong to the exchange. -/
theorem isX_snd (k : Fin 3) : IsX (sndCell k c) := ⟨rfl, .inr ⟨k, .inl rfl⟩⟩
/-- The three receive cells belong to the exchange. -/
theorem isX_rcv (k : Fin 3) : IsX (rcvCell k c) := ⟨rfl, .inr ⟨k, .inr rfl⟩⟩

/-- A cell of the exchange has one duty in its first round. -/
theorem duties_of {g : GSem nD τ sig} (h : IsX g) : (xRd S).duties g 0 = {()} := if_pos ⟨rfl, h⟩
/-- No cell has a duty after its first round. -/
theorem duties_later (g : GSem nD τ sig) : ∀ r, 1 ≤ r → (xRd S).duties g r = ∅ := fun _ hr => if_neg fun h => by omega

/-- The barrier signal is of one unit. -/
theorem amount_bar (u : Unit) : (xRd S).amount (barCell c) 0 u = 1 := by
  show amt (.reg barS) = _; unfold amt; rw [if_pos rfl]
/-- The send cell of the key weights expects the copy's credit. -/
theorem amount_snd0 (u : Unit) : (xRd S).amount (sndCell 0 c) 0 u = Nw := by
  show amt (.dma (sndS 0)) = _; unfold amt; rw [if_neg (by decide), if_neg (by decide)]
/-- The send cell of the value weights expects the copy's credit. -/
theorem amount_snd1 (u : Unit) : (xRd S).amount (sndCell 1 c) 0 u = Nw := by
  show amt (.dma (sndS 1)) = _; unfold amt; rw [if_neg (by decide), if_neg (by decide)]
/-- The send cell of the latents expects the copy's credit. -/
theorem amount_snd2 (u : Unit) : (xRd S).amount (sndCell 2 c) 0 u = Nc := by
  show amt (.dma (sndS 2)) = _; unfold amt; rw [if_neg (by decide), if_pos (by decide)]
/-- The receive cell of the key weights expects the copy's credit. -/
theorem amount_rcv0 (u : Unit) : (xRd S).amount (rcvCell 0 c) 0 u = Nw := by
  show amt (.dma (rcvS 0)) = _; unfold amt; rw [if_neg (by decide), if_neg (by decide)]
/-- The receive cell of the value weights expects the copy's credit. -/
theorem amount_rcv1 (u : Unit) : (xRd S).amount (rcvCell 1 c) 0 u = Nw := by
  show amt (.dma (rcvS 1)) = _; unfold amt; rw [if_neg (by decide), if_neg (by decide)]
/-- The receive cell of the latents expects the copy's credit. -/
theorem amount_rcv2 (u : Unit) : (xRd S).amount (rcvCell 2 c) 0 u = Nc := by
  show amt (.dma (rcvS 2)) = _; unfold amt; rw [if_neg (by decide), if_pos (by decide)]

/-- A cell of the exchange expects its one duty's amount. -/
theorem expect_of {g : GSem nD τ sig} (h : IsX g) {n : ℕ} (hn : (xRd S).amount g 0 () = n) : (xRd S).expect g 0 = n := by
  unfold Schedule.expect Schedule.amountOf; rw [duties_of S h, Finset.sum_singleton, hn]

/-- A duty's payload depends on the device and the semaphore alone. -/
theorem payload_eq (g : GSem nD τ sig) (r : ℕ) (u : Unit) : (xRd S).payload g r u = pay S g.1.1 g.2 := rfl
/-- What the barrier signal hands over. -/
theorem pay_bar : pay S c (.reg barS) = barPay c := if_pos rfl
/-- The end of the key weights' copy returns its source. -/
theorem pay_snd0 : pay S c (.dma (sndS 0)) = pt c kS (S.k c) := by
  unfold pay; rw [if_neg (by decide), if_pos rfl]
/-- The end of the value weights' copy returns its source. -/
theorem pay_snd1 : pay S c (.dma (sndS 1)) = pt c vS (S.v c) := by
  unfold pay; rw [if_neg (by decide), if_neg (by decide), if_pos rfl]
/-- The end of the latents' copy returns its source. -/
theorem pay_snd2 : pay S c (.dma (sndS 2)) = pt c cS (S.c c) := by
  unfold pay; rw [if_neg (by decide), if_neg (by decide), if_neg (by decide), if_pos rfl]
/-- The landing of the key weights' copy hands over the partner's share. -/
theorem pay_rcv0 : pay S c (.dma (rcvS 0)) = pt c kR (S.k (pr c)) := by
  unfold pay; rw [if_neg (by decide), if_neg (by decide), if_neg (by decide), if_neg (by decide), if_pos rfl]
/-- The landing of the value weights' copy hands over the partner's share. -/
theorem pay_rcv1 : pay S c (.dma (rcvS 1)) = pt c vR (S.v (pr c)) := by
  unfold pay; rw [if_neg (by decide), if_neg (by decide), if_neg (by decide), if_neg (by decide), if_neg (by decide), if_pos rfl]
/-- The landing of the latents' copy hands over the partner's share. -/
theorem pay_rcv2 : pay S c (.dma (rcvS 2)) = pt c cR (S.c (pr c)) := by
  unfold pay
  rw [if_neg (by decide), if_neg (by decide), if_neg (by decide), if_neg (by decide), if_neg (by decide), if_neg (by decide), if_pos rfl]

/-- What is left of a cell's first round. -/
theorem rest_of {g : GSem nD τ sig} (h : IsX g) :
    bigSep ((xRd S).duties g 0 \ ∅) (fun u => (xRd S).payload g 0 u) = pay S g.1.1 g.2 := by
  rw [Finset.sdiff_empty, duties_of S h, bigSep_singleton]; rfl

end Sched

/-! ## What each core owes at launch; the levels -/

/-- The three landings on the other device. -/
def Orcv (c : Dev nD) : CellTallies nD τ sig Unit :=
  tallyAt (rcvCell 2 (pr c)) () Nc + tallyAt (rcvCell 1 (pr c)) () Nw + tallyAt (rcvCell 0 (pr c)) () Nw
/-- Those and the other device's meeting unit. -/
def O₀ (c : Dev nD) : CellTallies nD τ sig Unit := Orcv c + tallyAt (barCell (pr c)) () 1

/-- Every cell of a core carries one entry. -/
def L (g : GSem nD τ sig) : Finset Unit := if g.1.2 = .tc then {()} else ∅
/-- Meeting cells at 1, landing cells at 2, the rest at 0. -/
def lv (g : GSem nD τ sig) (_ : Unit) : ℕ :=
  if g.2 = .reg barS then 1 else if g.2 = .dma (rcvS 0) ∨ g.2 = .dma (rcvS 1) ∨ g.2 = .dma (rcvS 2) then 2 else 0

/-- Only the tensor core's cells have levels. -/
theorem L_of_ne (g : GSem nD τ sig) (h : g.1.2 ≠ .tc) : L g = ∅ := if_neg h
/-- Each cell of the tensor core has one level. -/
theorem L_tc (c : Dev nD) (sm : SemLoc sig) : L ((c : Thread nD τ), sm) = {()} := if_pos rfl

/-- What is owed of the landings is owed on landing cells. -/
theorem Orcv_pos (c : Dev nD) (g : GSem nD τ sig) (u : Unit) (h : 0 < Orcv c g u) : ∃ k, g = rcvCell k (pr c) := by
  unfold Orcv at h
  rw [Pi.add_apply, Pi.add_apply, Finsupp.add_apply, Finsupp.add_apply, tallyAt_apply, tallyAt_apply, tallyAt_apply] at h
  by_cases h0 : g = rcvCell 0 (pr c)
  · exact ⟨0, h0⟩
  by_cases h1 : g = rcvCell 1 (pr c)
  · exact ⟨1, h1⟩
  by_cases h2 : g = rcvCell 2 (pr c)
  · exact ⟨2, h2⟩
  rw [if_neg (fun h : g = rcvCell 2 (pr c) ∧ u = () => h2 h.1), if_neg (fun h : g = rcvCell 1 (pr c) ∧ u = () => h1 h.1),
    if_neg (fun h : g = rcvCell 0 (pr c) ∧ u = () => h0 h.1)] at h
  exact absurd h (Nat.lt_irrefl 0)

/-- The receive cells lie at level 2. -/
theorem lv_rcv (k : Fin 3) (c : Dev nD) (u : Unit) : lv (rcvCell k c) u = 2 := by
  dsimp only [lv]
  rw [if_neg (by clear u; revert k; decide), if_pos (by clear u; revert k; decide)]

/-- Waiting to meet, a device may still owe the landings. -/
theorem mayWait_bar (c : Dev nD) :
    (levAts L lv : sProp (MM F)) ⊢ MayWait (c : Thread nD τ) (.reg barS) () (Orcv c) :=
  MayOwe.of_cut (L := L) (lev := lv) 1 (fun p hp => by rw [Finset.mem_singleton.mp hp, L_tc]; exact Finset.mem_singleton_self _)
    (fun g u hg => by
      obtain ⟨k, rfl⟩ := Orcv_pos c g u hg
      rw [L_tc]; exact Finset.mem_singleton_self _)
    (fun p hp => by rw [Finset.mem_singleton.mp hp]; dsimp only [lv]; rw [if_pos rfl])
    (fun g u hg => by
      obtain ⟨k, rfl⟩ := Orcv_pos c g u hg
      rw [lv_rcv]; decide)

/-! ## The protocol's ghost state -/

/-- The invariants device `c` opens: its own seven cells', and the other device's meeting cell's and landing cells'. -/
def invs (K : GSem nD τ sig → ℕ) (c : Dev nD) : sProp (MM F) :=
  iprop(cellInv ER (xRd S) (K (barCell c)) (barCell c)
    ∗ cellInv ER (xRd S) (K (sndCell 0 c)) (sndCell 0 c) ∗ cellInv ER (xRd S) (K (sndCell 1 c)) (sndCell 1 c) ∗ cellInv ER (xRd S) (K (sndCell 2 c)) (sndCell 2 c)
    ∗ cellInv ER (xRd S) (K (rcvCell 0 c)) (rcvCell 0 c) ∗ cellInv ER (xRd S) (K (rcvCell 1 c)) (rcvCell 1 c) ∗ cellInv ER (xRd S) (K (rcvCell 2 c)) (rcvCell 2 c)
    ∗ cellInv ER (xRd S) (K (barCell (pr c))) (barCell (pr c))
    ∗ cellInv ER (xRd S) (K (rcvCell 0 (pr c))) (rcvCell 0 (pr c)) ∗ cellInv ER (xRd S) (K (rcvCell 1 (pr c))) (rcvCell 1 (pr c))
    ∗ cellInv ER (xRd S) (K (rcvCell 2 (pr c))) (rcvCell 2 (pr c)))
instance invs_persistent (K : GSem nD τ sig → ℕ) (c : Dev nD) : BI.Persistent (invs S K c) := by unfold invs; infer_instance

/-- The right to pay: one token per payment a device makes. -/
def toks (c : Dev nD) : sProp (MM F) :=
  iprop(dutyTok ER (barCell (pr c)) 0 ()
    ∗ dutyTok ER (rcvCell 0 (pr c)) 0 () ∗ dutyTok ER (rcvCell 1 (pr c)) 0 () ∗ dutyTok ER (rcvCell 2 (pr c)) 0 ()
    ∗ dutyTok ER (sndCell 0 c) 0 () ∗ dutyTok ER (sndCell 1 c) 0 () ∗ dutyTok ER (sndCell 2 c) 0 ())

/-- The credits a device waits with. -/
def creds (c : Dev nD) : sProp (MM F) :=
  iprop(cred (tallyAt (barCell c) () 1) ∗ cred (tallyAt (rcvCell 0 c) () Nw) ∗ cred (tallyAt (rcvCell 1 c) () Nw) ∗ cred (tallyAt (rcvCell 2 c) () Nc))

/-- What device `c` carries from launch to the exchange: the invariants, its place at its meeting cell, the right to open its six
    dormant cells, the tokens. -/
def ghost (K : GSem nD τ sig → ℕ) (c : Dev nD) : sProp (MM F) :=
  iprop(invs S K c ∗ atPos ER (barCell c) 0 ∅ 0
    ∗ openTok ER (sndCell 0 c) ∗ openTok ER (sndCell 1 c) ∗ openTok ER (sndCell 2 c)
    ∗ openTok ER (rcvCell 0 c) ∗ openTok ER (rcvCell 1 c) ∗ openTok ER (rcvCell 2 c)
    ∗ reached ER (barCell (pr c)) 0 ∗ toks c)

/-- With the credits: what rides the thread's state. -/
def start (c : Dev nD) : sProp (MM F) := iprop((∃ K, ghost S K c) ∗ creds c ∗ ∃ r, prngReg c r)

/-- After opening the six cells. -/
def opened (K : GSem nD τ sig → ℕ) (c : Dev nD) : sProp (MM F) :=
  iprop(invs S K c ∗ atPos ER (barCell c) 0 ∅ 0
    ∗ atPos ER (sndCell 0 c) 0 ∅ 0 ∗ atPos ER (sndCell 1 c) 0 ∅ 0 ∗ atPos ER (sndCell 2 c) 0 ∅ 0
    ∗ atPos ER (rcvCell 0 c) 0 ∅ 0 ∗ atPos ER (rcvCell 1 c) 0 ∅ 0 ∗ atPos ER (rcvCell 2 c) 0 ∅ 0
    ∗ reached ER (barCell (pr c)) 0
    ∗ reached ER (sndCell 0 c) 0 ∗ reached ER (sndCell 1 c) 0 ∗ reached ER (sndCell 2 c) 0
    ∗ reached ER (rcvCell 0 c) 0 ∗ reached ER (rcvCell 1 c) 0 ∗ reached ER (rcvCell 2 c) 0
    ∗ toks c)

/-- Between the first grid point and the last: the copies are on their way. -/
def sent (K : GSem nD τ sig → ℕ) (c : Dev nD) : sProp (MM F) :=
  iprop(invs S K c ∗ semVal (barCell c) 0
    ∗ atPos ER (sndCell 0 c) 0 ∅ 0 ∗ atPos ER (sndCell 1 c) 0 ∅ 0 ∗ atPos ER (sndCell 2 c) 0 ∅ 0
    ∗ atPos ER (rcvCell 0 c) 0 ∅ 0 ∗ atPos ER (rcvCell 1 c) 0 ∅ 0 ∗ atPos ER (rcvCell 2 c) 0 ∅ 0
    ∗ cred (tallyAt (sndCell 0 c) () Nw) ∗ cred (tallyAt (sndCell 1 c) () Nw) ∗ cred (tallyAt (sndCell 2 c) () Nc)
    ∗ cred (tallyAt (rcvCell 0 c) () Nw) ∗ cred (tallyAt (rcvCell 1 c) () Nw) ∗ cred (tallyAt (rcvCell 2 c) () Nc))

/-- The six counters back in hand at zero. -/
def closed (c : Dev nD) : sProp (MM F) :=
  iprop(semVal (sndCell 0 c) 0 ∗ semVal (sndCell 1 c) 0 ∗ semVal (sndCell 2 c) 0
    ∗ semVal (rcvCell 0 c) 0 ∗ semVal (rcvCell 1 c) 0 ∗ semVal (rcvCell 2 c) 0)

/-- A cell past its one round gives its counter back, at zero. -/
theorem close (κ : ℕ) (g : GSem nD τ sig) :
    iprop(cellInv ER (xRd S) κ g ∗ atPos ER g (0 + 1) ∅ 0) ⊢ (|={Set.univ}=> semVal g 0 : sProp (MM F)) :=
  Rounds.cell_close ER (xRd S) (Set.mem_univ κ) id (duties_later S g)

/-- A whole buffer is its view's elements. -/
theorem pt_set (c : Dev nD) {b : Ref sig .tc} (f : Bf F c (Memref.whole b)) :
    ((Memref.whole b).view.loc (c : Thread nD τ) ↦[(Memref.whole b).view.set]{fullShare} f : sProp (MM F)) = pt c (Memref.whole b) f := by
  rw [show (Memref.whole b).view.set = Finset.univ from View.set_whole _]

end Cert.Mla
end
-- ==== Proof.Attn.lean ====
/- The attention call's body: what it leaves in its output block, as one function of the blocks it reads. -/
module

public import proofs.«01_k».proof.Proof.Base
public import Idealize.ShloMosaic.Lib.ValueIdxCore
public import Idealize.ShloMosaic.Lib.Pipeline.FrameBody
public import Idealize.ShloMosaic.Lib.Pipeline.Value

@[expose] public section

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- The columns from `o` on of a matrix, as many as the target shape holds. -/
def cols {α : Type} {n m : ℕ} (w o : ℕ) (h : o + w ≤ m) (X : (⟨2, ![n, m]⟩ : Shape).Idx → α) : (⟨2, ![n, w]⟩ : Shape).Idx → α :=
  fun j => X (ix2 (j 0) ⟨o + (j 1).val, by have := idx2_lt1 j; omega⟩)

/-- All heads' keys side by side. -/
def kAll (cf : Vec F S512x256 .bf16) (wuk : Vec F S256x2048 .bf16) : Vec F S512x2048 .bf16 :=
  truncf .bf16 (k1_pay2 cf wuk) bitsLt_bf16_f32

/-- The packed keys: per head 128 key columns, 32 rotary columns, 96 columns of zeros. -/
def kbAll (kr : Vec F S512x32 .bf16) (cf : Vec F S512x256 .bf16) (wuk : Vec F S256x2048 .bf16) : Vec F S512x4096 .bf16 :=
  fun y => if h : (y 1).val % 256 < 128 then
      kAll cf wuk (ix2 (y 0) ⟨128 * ((y 1).val / 256) + (y 1).val % 256, by have := idx2_lt1 y; omega⟩)
    else if h' : (y 1).val % 256 < 160 then kr (ix2 (y 0) ⟨(y 1).val % 256 - 128, by omega⟩)
    else k1_pay4 y

/-- One head's share of the output columns. -/
def headOut (q : Vec F S512x4096 .bf16) (kr : Vec F S512x32 .bf16) (cf : Vec F S512x256 .bf16) (wuk wuv : Vec F S256x2048 .bf16)
    (h : Fin 16) : Vec F S512x128 .f32 :=
  k1_pay40 (cols (n := 512) (m := 4096) 256 (256 * h.val) (by omega) q) (cols (n := 512) (m := 4096) 256 (256 * h.val) (by omega) (kbAll kr cf wuk))
    (cols (n := 512) (m := 2048) 128 (128 * h.val) (by omega) (k1_pay3 cf wuv))

/-- All heads' outputs side by side. -/
def oAll (q : Vec F S512x4096 .bf16) (kr : Vec F S512x32 .bf16) (cf : Vec F S512x256 .bf16) (wuk wuv : Vec F S256x2048 .bf16) :
    Vec F S512x2048 .f32 :=
  fun y => headOut q kr cf wuk wuv ⟨(y 1).val / 128, by have := idx2_lt1 y; omega⟩ (ix2 (y 0) ⟨(y 1).val % 128, by omega⟩)

/-- The block the body writes. -/
def attnOut (q : Vec F S512x4096 .bf16) (kr : Vec F S512x32 .bf16) (cf : Vec F S512x256 .bf16) (wuk wuv : Vec F S256x2048 .bf16)
    (wo : Vec F S2048x2048 .f32) : Vec F S512x2048 .f32 :=
  k1_pay1 (oAll q kr cf wuk wuv) wo (constant S512x2048 .f32 0x00000000#32)

/-- Reading a rectangle of unit strides at a pair of coordinates. -/
theorem emb_unit2 {n m a b w v : ℕ} (inb) (x : (Rect.unit (s := ⟨2, ![n, m]⟩) ![a, b] ![w, v] inb).shape.Idx) (p : Fin n) (q : Fin m)
    (hp : p.val = a + (x 0).val) (hq : q.val = b + (x 1).val) :
    (Rect.unit (s := ⟨2, ![n, m]⟩) ![a, b] ![w, v] inb).emb x = ix2 p q := by
  funext d
  apply Fin.ext
  match d with
  | ⟨0, _⟩ => show a + 1 * (x 0).val = p.val; omega
  | ⟨1, _⟩ => show b + 1 * (x 1).val = q.val; omega

/-- Writes of pieces over one that covers everything: off the pieces the first one shows. -/
theorem canon_pieces_base {Val : EltTy → Type} [∀ e, Nonempty (Val e)] {s : Shape} {e : EltTy} (G : s.Idx → Val e) (b : View.Piece Val s e) :
    ∀ L : List (View.Piece Val s e), (∀ p ∈ L, ∀ x : p.1.shape.Idx, p.2 x = G (p.1.emb x)) → ∀ y : s.Idx,
      ((∀ p ∈ L, y ∉ p.1.set) → View.canon [b] y = G y) → View.canon (L ++ [b]) y = G y
  | [], _, y, h => h (by simp)
  | p :: L, hG, y, h => by
    by_cases hy : y ∈ p.1.set
    · obtain ⟨r, w⟩ := p
      obtain ⟨x, rfl⟩ : ∃ x, r.emb x = y := r.exists_idx_of_mem hy
      rw [List.cons_append, View.canon_cons_emb]
      exact hG ⟨r, w⟩ List.mem_cons_self x
    · rw [List.cons_append, View.canon_cons_of_not_mem _ _ hy]
      refine canon_pieces_base G b L (fun p' hp' => hG p' (List.mem_cons_of_mem _ hp')) y fun h' => h fun p' hp' => ?_
      rcases List.mem_cons.mp hp' with rfl | hp'
      · exact hy
      · exact h' p' hp'

/-- A single write of the whole shape leaves its payload. -/
theorem canon_whole2 {Val : EltTy → Type} [∀ e, Nonempty (Val e)] {n m : ℕ} {e : EltTy} (inb) (w : (⟨2, ![n, m]⟩ : Shape).Idx → Val e)
    (L : List (View.Piece Val ⟨2, ![n, m]⟩ e)) :
    View.canon (⟨Rect.unit (s := ⟨2, ![n, m]⟩) ![0, 0] ![n, m] inb, w⟩ :: L) = w := by
  funext y
  have hy : y = (Rect.unit (s := ⟨2, ![n, m]⟩) ![0, 0] ![n, m] inb).emb y := by
    rw [emb_unit2 inb y (y 0) (y 1) (by simp) (by simp)]; exact eq_ix2 y
  conv_lhs => rw [hy]
  exact View.canon_cons_emb _ _ _ _

/-- The body's stores of keys and rotary keys, the last one first. -/
def kPieces (kr : Vec F S512x32 .bf16) (cf : Vec F S512x256 .bf16) (wuk : Vec F S256x2048 .bf16) : List (View.Piece (Elt F) S512x4096 .bf16) :=
  [⟨Rect.unit ![0, 3968] S512x32.size inb_S512x4096_S512x32_0_3968, k1_pay39 (k1_pay5 kr)⟩,
   ⟨Rect.unit ![0, 3840] S512x128.size inb_S512x4096_S512x128_0_3840, k1_pay38 (k1_pay2 cf wuk)⟩,
   ⟨Rect.unit ![0, 3712] S512x32.size inb_S512x4096_S512x32_0_3712, k1_pay37 (k1_pay5 kr)⟩,
   ⟨Rect.unit ![0, 3584] S512x128.size inb_S512x4096_S512x128_0_3584, k1_pay36 (k1_pay35 (k1_pay2 cf wuk))⟩,
   ⟨Rect.unit ![0, 3456] S512x32.size inb_S512x4096_S512x32_0_3456, k1_pay34 (k1_pay5 kr)⟩,
   ⟨Rect.unit ![0, 3328] S512x128.size inb_S512x4096_S512x128_0_3328, k1_pay33 (k1_pay2 cf wuk)⟩,
   ⟨Rect.unit ![0, 3200] S512x32.size inb_S512x4096_S512x32_0_3200, k1_pay32 (k1_pay5 kr)⟩,
   ⟨Rect.unit ![0, 3072] S512x128.size inb_S512x4096_S512x128_0_3072, k1_pay31 (k1_pay2 cf wuk)⟩,
   ⟨Rect.unit ![0, 2944] S512x32.size inb_S512x4096_S512x32_0_2944, k1_pay30 (k1_pay5 kr)⟩,
   ⟨Rect.unit ![0, 2816] S512x128.size inb_S512x4096_S512x128_0_2816, k1_pay29 (k1_pay2 cf wuk)⟩,
   ⟨Rect.unit ![0, 2688] S512x32.size inb_S512x4096_S512x32_0_2688, k1_pay28 (k1_pay5 kr)⟩,
   ⟨Rect.unit ![0, 2560] S512x128.size inb_S512x4096_S512x128_0_2560, k1_pay27 (k1_pay26 (k1_pay2 cf wuk))⟩,
   ⟨Rect.unit ![0, 2432] S512x32.size inb_S512x4096_S512x32_0_2432, k1_pay25 (k1_pay5 kr)⟩,
   ⟨Rect.unit ![0, 2304] S512x128.size inb_S512x4096_S512x128_0_2304, k1_pay24 (k1_pay2 cf wuk)⟩,
   ⟨Rect.unit ![0, 2176] S512x32.size inb_S512x4096_S512x32_0_2176, k1_pay23 (k1_pay5 kr)⟩,
   ⟨Rect.unit ![0, 2048] S512x128.size inb_S512x4096_S512x128_0_2048, k1_pay22 (k1_pay2 cf wuk)⟩,
   ⟨Rect.unit ![0, 1920] S512x32.size inb_S512x4096_S512x32_0_1920, k1_pay21 (k1_pay5 kr)⟩,
   ⟨Rect.unit ![0, 1792] S512x128.size inb_S512x4096_S512x128_0_1792, k1_pay20 (k1_pay2 cf wuk)⟩,
   ⟨Rect.unit ![0, 1664] S512x32.size inb_S512x4096_S512x32_0_1664, k1_pay19 (k1_pay5 kr)⟩,
   ⟨Rect.unit ![0, 1536] S512x128.size inb_S512x4096_S512x128_0_1536, k1_pay18 (k1_pay2 cf wuk)⟩,
   ⟨Rect.unit ![0, 1408] S512x32.size inb_S512x4096_S512x32_0_1408, k1_pay17 (k1_pay5 kr)⟩,
   ⟨Rect.unit ![0, 1280] S512x128.size inb_S512x4096_S512x128_0_1280, k1_pay16 (k1_pay2 cf wuk)⟩,
   ⟨Rect.unit ![0, 1152] S512x32.size inb_S512x4096_S512x32_0_1152, k1_pay15 (k1_pay5 kr)⟩,
   ⟨Rect.unit ![0, 1024] S512x128.size inb_S512x4096_S512x128_0_1024, k1_pay14 (k1_pay2 cf wuk)⟩,
   ⟨Rect.unit ![0, 896] S512x32.size inb_S512x4096_S512x32_0_896, k1_pay13 (k1_pay5 kr)⟩,
   ⟨Rect.unit ![0, 768] S512x128.size inb_S512x4096_S512x128_0_768, k1_pay12 (k1_pay2 cf wuk)⟩,
   ⟨Rect.unit ![0, 640] S512x32.size inb_S512x4096_S512x32_0_640, k1_pay11 (k1_pay5 kr)⟩,
   ⟨Rect.unit ![0, 512] S512x128.size inb_S512x4096_S512x128_0_512, k1_pay10 (k1_pay2 cf wuk)⟩,
   ⟨Rect.unit ![0, 384] S512x32.size inb_S512x4096_S512x32_0_384, k1_pay9 (k1_pay5 kr)⟩,
   ⟨Rect.unit ![0, 256] S512x128.size inb_S512x4096_S512x128_0_256, k1_pay8 cf wuk⟩,
   ⟨Rect.unit ![0, 128] S512x32.size inb_S512x4096_S512x32_0_128, k1_pay7 kr⟩,
   ⟨Rect.unit ![0, 0] S512x128.size inb_S512x4096_S512x128_0_0, k1_pay6 cf wuk⟩]

/-- The body's stores of head outputs, the last one first. -/
def oPieces (Q K : Fin 16 → Vec F S512x256 .bf16) (V : Fin 16 → Vec F S512x128 .bf16) : List (View.Piece (Elt F) S512x2048 .f32) :=
  [⟨Rect.unit ![0, 1920] S512x128.size inb_S512x2048_S512x128_0_1920, k1_pay60 (Q 15) (K 15) (V 15)⟩,
   ⟨Rect.unit ![0, 1792] S512x128.size inb_S512x2048_S512x128_0_1792, k1_pay59 (k1_pay58 (Q 14)) (K 14) (V 14)⟩,
   ⟨Rect.unit ![0, 1664] S512x128.size inb_S512x2048_S512x128_0_1664, k1_pay57 (Q 13) (K 13) (V 13)⟩,
   ⟨Rect.unit ![0, 1536] S512x128.size inb_S512x2048_S512x128_0_1536, k1_pay56 (k1_pay55 (Q 12)) (K 12) (V 12)⟩,
   ⟨Rect.unit ![0, 1408] S512x128.size inb_S512x2048_S512x128_0_1408, k1_pay54 (Q 11) (K 11) (V 11)⟩,
   ⟨Rect.unit ![0, 1280] S512x128.size inb_S512x2048_S512x128_0_1280, k1_pay53 (Q 10) (K 10) (V 10)⟩,
   ⟨Rect.unit ![0, 1152] S512x128.size inb_S512x2048_S512x128_0_1152, k1_pay52 (Q 9) (K 9) (V 9)⟩,
   ⟨Rect.unit ![0, 1024] S512x128.size inb_S512x2048_S512x128_0_1024, k1_pay51 (Q 8) (K 8) (V 8)⟩,
   ⟨Rect.unit ![0, 896] S512x128.size inb_S512x2048_S512x128_0_896, k1_pay50 (Q 7) (K 7) (V 7)⟩,
   ⟨Rect.unit ![0, 768] S512x128.size inb_S512x2048_S512x128_0_768, k1_pay49 (Q 6) (K 6) (V 6)⟩,
   ⟨Rect.unit ![0, 640] S512x128.size inb_S512x2048_S512x128_0_640, k1_pay48 (k1_pay47 (Q 5) (K 5) (V 5))⟩,
   ⟨Rect.unit ![0, 512] S512x128.size inb_S512x2048_S512x128_0_512, k1_pay46 (Q 4) (K 4) (V 4)⟩,
   ⟨Rect.unit ![0, 384] S512x128.size inb_S512x2048_S512x128_0_384, k1_pay45 (k1_pay44 (Q 3) (K 3) (V 3))⟩,
   ⟨Rect.unit ![0, 256] S512x128.size inb_S512x2048_S512x128_0_256, k1_pay43 (Q 2) (K 2) (V 2)⟩,
   ⟨Rect.unit ![0, 128] S512x128.size inb_S512x2048_S512x128_0_128, k1_pay42 (k1_pay41 (Q 1) (K 1) (V 1))⟩,
   ⟨Rect.unit ![0, 0] S512x128.size inb_S512x2048_S512x128_0_0, k1_pay40 (Q 0) (K 0) (V 0)⟩]

/-- A read of the whole of a buffer. -/
theorem ld_whole2 {Val : EltTy → Type} {e : EltTy} {n m : ℕ} (inb) (X : (⟨2, ![n, m]⟩ : Shape).Idx → Val e) :
    View.ld (Val := Val) X (Rect.unit (s := ⟨2, ![n, m]⟩) ![0, 0] ![n, m] inb) = X := by
  funext y
  show X ((Rect.unit (s := ⟨2, ![n, m]⟩) ![0, 0] ![n, m] inb).emb y) = X y
  rw [emb_unit2 inb y (y 0) (y 1) (by simp) (by simp)]; exact congrArg X (eq_ix2 y).symm

/-- A slice of a matrix from column `o` on, at an index. -/
theorem slice_apply {α : Type} {n m w : ℕ} (o : ℕ) (X : (⟨2, ![n, m]⟩ : Shape).Idx → α) (sl) (x : (⟨2, ![n, w]⟩ : Shape).Idx) (ho : o + (x 1).val < m) :
    extractStridedSlice (⟨2, ![n, w]⟩ : Shape) ![0, o] X sl x = X (ix2 (x 0) ⟨o + (x 1).val, ho⟩) := by
  refine congrArg X (funext fun d => Fin.ext ?_)
  match d with
  | ⟨0, _⟩ => exact Nat.zero_add _
  | ⟨1, _⟩ => rfl

/-- A head's stored keys are its share of the packed keys. -/
theorem kPiece (kr : Vec F S512x32 .bf16) (cf : Vec F S512x256 .bf16) (wuk : Vec F S256x2048 .bf16) (h : Fin 16) (o1 o2 : ℕ)
    (h1 : o1 = 256 * h.val) (h2 : o2 = 128 * h.val) (inb) (sl) (x : S512x128.Idx) :
    truncf .bf16 (extractStridedSlice S512x128 ![0, o2] (k1_pay2 cf wuk) sl) bitsLt_bf16_f32 x
      = kbAll kr cf wuk ((Rect.unit (s := S512x4096) ![0, o1] S512x128.size inb).emb x) := by
  subst h1 h2
  have hx : (x 1).val < 128 := idx2_lt1 x
  rw [emb_unit2 inb x (x 0) ⟨256 * h.val + (x 1).val, by omega⟩ (by simp) rfl]
  unfold kbAll
  rw [dif_pos (show (256 * h.val + (x 1).val) % 256 < 128 by omega)]
  refine (slice_apply (n := 512) (m := 2048) (w := 128) (128 * h.val) (truncf .bf16 (k1_pay2 cf wuk) bitsLt_bf16_f32) sl x (by omega)).trans ?_
  refine congrArg (fun z => kAll cf wuk (ix2 (n0 := 512) (n1 := 2048) (x 0) z)) (Fin.ext ?_)
  show 128 * h.val + (x 1).val = 128 * ((256 * h.val + (x 1).val) / 256) + (256 * h.val + (x 1).val) % 256
  omega

/-- A head's stored rotary keys are its share of the packed keys. -/
theorem rPiece (kr : Vec F S512x32 .bf16) (cf : Vec F S512x256 .bf16) (wuk : Vec F S256x2048 .bf16) (h : Fin 16) (o1 : ℕ)
    (h1 : o1 = 256 * h.val + 128) (inb) (x : S512x32.Idx) :
    kr x = kbAll kr cf wuk ((Rect.unit (s := S512x4096) ![0, o1] S512x32.size inb).emb x) := by
  subst h1
  have hx : (x 1).val < 32 := idx2_lt1 x
  rw [emb_unit2 inb x (x 0) ⟨256 * h.val + 128 + (x 1).val, by omega⟩ (by simp) rfl]
  unfold kbAll
  rw [dif_neg (show ¬ (256 * h.val + 128 + (x 1).val) % 256 < 128 by omega), dif_pos (show (256 * h.val + 128 + (x 1).val) % 256 < 160 by omega)]
  refine congrArg kr ((eq_ix2 (n0 := 512) (n1 := 32) x).trans (congrArg (ix2 (n0 := 512) (n1 := 32) (x 0)) (Fin.ext ?_)))
  show (x 1).val = (256 * h.val + 128 + (x 1).val) % 256 - 128
  omega

/-- An index off a stretch of columns has its column outside. -/
theorem not_mem_cols {n m c w : ℕ} (inb) (y : (⟨2, ![n, m]⟩ : Shape).Idx) (h : y ∉ (Rect.unit (s := ⟨2, ![n, m]⟩) ![0, c] ![n, w] inb).set) :
    ¬ (c ≤ (y 1).val ∧ (y 1).val < c + w) := by
  rintro ⟨h1, h2⟩
  refine h (Rect.mem_set_unit.mpr fun d => ?_)
  match d with
  | ⟨0, _⟩ => exact ⟨Nat.zero_le _, by show (y 0).val < 0 + n; have := idx2_lt0 y; omega⟩
  | ⟨1, _⟩ => exact ⟨h1, h2⟩

/-- What the stores of keys leave. -/
theorem canon_kPieces (kr : Vec F S512x32 .bf16) (cf : Vec F S512x256 .bf16) (wuk : Vec F S256x2048 .bf16) (inb) (y : S512x4096.Idx) :
    View.canon (kPieces kr cf wuk ++ [⟨Rect.unit ![0, 0] S512x4096.size inb, k1_pay4⟩]) y = kbAll kr cf wuk y := by
  refine canon_pieces_base (kbAll kr cf wuk) _ _ ?_ y ?_
  · intro p hp x
    simp only [kPieces, List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact rPiece kr cf wuk ⟨15, by omega⟩ _ rfl _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact kPiece kr cf wuk ⟨15, by omega⟩ _ _ rfl rfl _ _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact rPiece kr cf wuk ⟨14, by omega⟩ _ rfl _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact kPiece kr cf wuk ⟨14, by omega⟩ _ _ rfl rfl _ _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact rPiece kr cf wuk ⟨13, by omega⟩ _ rfl _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact kPiece kr cf wuk ⟨13, by omega⟩ _ _ rfl rfl _ _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact rPiece kr cf wuk ⟨12, by omega⟩ _ rfl _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact kPiece kr cf wuk ⟨12, by omega⟩ _ _ rfl rfl _ _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact rPiece kr cf wuk ⟨11, by omega⟩ _ rfl _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact kPiece kr cf wuk ⟨11, by omega⟩ _ _ rfl rfl _ _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact rPiece kr cf wuk ⟨10, by omega⟩ _ rfl _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact kPiece kr cf wuk ⟨10, by omega⟩ _ _ rfl rfl _ _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact rPiece kr cf wuk ⟨9, by omega⟩ _ rfl _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact kPiece kr cf wuk ⟨9, by omega⟩ _ _ rfl rfl _ _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact rPiece kr cf wuk ⟨8, by omega⟩ _ rfl _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact kPiece kr cf wuk ⟨8, by omega⟩ _ _ rfl rfl _ _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact rPiece kr cf wuk ⟨7, by omega⟩ _ rfl _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact kPiece kr cf wuk ⟨7, by omega⟩ _ _ rfl rfl _ _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact rPiece kr cf wuk ⟨6, by omega⟩ _ rfl _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact kPiece kr cf wuk ⟨6, by omega⟩ _ _ rfl rfl _ _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact rPiece kr cf wuk ⟨5, by omega⟩ _ rfl _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact kPiece kr cf wuk ⟨5, by omega⟩ _ _ rfl rfl _ _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact rPiece kr cf wuk ⟨4, by omega⟩ _ rfl _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact kPiece kr cf wuk ⟨4, by omega⟩ _ _ rfl rfl _ _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact rPiece kr cf wuk ⟨3, by omega⟩ _ rfl _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact kPiece kr cf wuk ⟨3, by omega⟩ _ _ rfl rfl _ _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact rPiece kr cf wuk ⟨2, by omega⟩ _ rfl _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact kPiece kr cf wuk ⟨2, by omega⟩ _ _ rfl rfl _ _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact rPiece kr cf wuk ⟨1, by omega⟩ _ rfl _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact kPiece kr cf wuk ⟨1, by omega⟩ _ _ rfl rfl _ _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact rPiece kr cf wuk ⟨0, by omega⟩ _ rfl _ x
    · simp only [k1_pay5,k1_pay6,k1_pay7,k1_pay8,k1_pay9,k1_pay10,k1_pay11,k1_pay12,k1_pay13,k1_pay14,k1_pay15,k1_pay16,k1_pay17,k1_pay18,k1_pay19,k1_pay20,k1_pay21,k1_pay22,k1_pay23,k1_pay24,k1_pay25,k1_pay26,k1_pay27,k1_pay28,k1_pay29,k1_pay30,k1_pay31,k1_pay32,k1_pay33,k1_pay34,k1_pay35,k1_pay36,k1_pay37,k1_pay38,k1_pay39, shapeCast_self]
      exact kPiece kr cf wuk ⟨0, by omega⟩ _ _ rfl rfl _ _ x
  · intro h
    rw [canon_whole2]
    have hy : (y 1).val < 4096 := idx2_lt1 y
    simp only [kPieces, List.forall_mem_cons] at h
    obtain ⟨g0, g1, g2, g3, g4, g5, g6, g7, g8, g9, g10, g11, g12, g13, g14, g15, g16, g17, g18, g19, g20, g21, g22, g23, g24, g25, g26, g27, g28, g29, g30, g31, -⟩ := h
    have hn : ¬ (y 1).val % 256 < 160 := by
      intro hlt
      have hq : (y 1).val / 256 = 0 ∨ (y 1).val / 256 = 1 ∨ (y 1).val / 256 = 2 ∨ (y 1).val / 256 = 3 ∨ (y 1).val / 256 = 4 ∨ (y 1).val / 256 = 5 ∨ (y 1).val / 256 = 6 ∨ (y 1).val / 256 = 7 ∨ (y 1).val / 256 = 8 ∨ (y 1).val / 256 = 9 ∨ (y 1).val / 256 = 10 ∨ (y 1).val / 256 = 11 ∨ (y 1).val / 256 = 12 ∨ (y 1).val / 256 = 13 ∨ (y 1).val / 256 = 14 ∨ (y 1).val / 256 = 15 := by omega
      rcases hq with hq | hq | hq | hq | hq | hq | hq | hq | hq | hq | hq | hq | hq | hq | hq | hq
      · rcases Nat.lt_or_ge ((y 1).val % 256) 128 with h1 | h1
        · exact not_mem_cols _ y g31 ⟨by omega, by omega⟩
        · exact not_mem_cols _ y g30 ⟨by omega, by omega⟩
      · rcases Nat.lt_or_ge ((y 1).val % 256) 128 with h1 | h1
        · exact not_mem_cols _ y g29 ⟨by omega, by omega⟩
        · exact not_mem_cols _ y g28 ⟨by omega, by omega⟩
      · rcases Nat.lt_or_ge ((y 1).val % 256) 128 with h1 | h1
        · exact not_mem_cols _ y g27 ⟨by omega, by omega⟩
        · exact not_mem_cols _ y g26 ⟨by omega, by omega⟩
      · rcases Nat.lt_or_ge ((y 1).val % 256) 128 with h1 | h1
        · exact not_mem_cols _ y g25 ⟨by omega, by omega⟩
        · exact not_mem_cols _ y g24 ⟨by omega, by omega⟩
      · rcases Nat.lt_or_ge ((y 1).val % 256) 128 with h1 | h1
        · exact not_mem_cols _ y g23 ⟨by omega, by omega⟩
        · exact not_mem_cols _ y g22 ⟨by omega, by omega⟩
      · rcases Nat.lt_or_ge ((y 1).val % 256) 128 with h1 | h1
        · exact not_mem_cols _ y g21 ⟨by omega, by omega⟩
        · exact not_mem_cols _ y g20 ⟨by omega, by omega⟩
      · rcases Nat.lt_or_ge ((y 1).val % 256) 128 with h1 | h1
        · exact not_mem_cols _ y g19 ⟨by omega, by omega⟩
        · exact not_mem_cols _ y g18 ⟨by omega, by omega⟩
      · rcases Nat.lt_or_ge ((y 1).val % 256) 128 with h1 | h1
        · exact not_mem_cols _ y g17 ⟨by omega, by omega⟩
        · exact not_mem_cols _ y g16 ⟨by omega, by omega⟩
      · rcases Nat.lt_or_ge ((y 1).val % 256) 128 with h1 | h1
        · exact not_mem_cols _ y g15 ⟨by omega, by omega⟩
        · exact not_mem_cols _ y g14 ⟨by omega, by omega⟩
      · rcases Nat.lt_or_ge ((y 1).val % 256) 128 with h1 | h1
        · exact not_mem_cols _ y g13 ⟨by omega, by omega⟩
        · exact not_mem_cols _ y g12 ⟨by omega, by omega⟩
      · rcases Nat.lt_or_ge ((y 1).val % 256) 128 with h1 | h1
        · exact not_mem_cols _ y g11 ⟨by omega, by omega⟩
        · exact not_mem_cols _ y g10 ⟨by omega, by omega⟩
      · rcases Nat.lt_or_ge ((y 1).val % 256) 128 with h1 | h1
        · exact not_mem_cols _ y g9 ⟨by omega, by omega⟩
        · exact not_mem_cols _ y g8 ⟨by omega, by omega⟩
      · rcases Nat.lt_or_ge ((y 1).val % 256) 128 with h1 | h1
        · exact not_mem_cols _ y g7 ⟨by omega, by omega⟩
        · exact not_mem_cols _ y g6 ⟨by omega, by omega⟩
      · rcases Nat.lt_or_ge ((y 1).val % 256) 128 with h1 | h1
        · exact not_mem_cols _ y g5 ⟨by omega, by omega⟩
        · exact not_mem_cols _ y g4 ⟨by omega, by omega⟩
      · rcases Nat.lt_or_ge ((y 1).val % 256) 128 with h1 | h1
        · exact not_mem_cols _ y g3 ⟨by omega, by omega⟩
        · exact not_mem_cols _ y g2 ⟨by omega, by omega⟩
      · rcases Nat.lt_or_ge ((y 1).val % 256) 128 with h1 | h1
        · exact not_mem_cols _ y g1 ⟨by omega, by omega⟩
        · exact not_mem_cols _ y g0 ⟨by omega, by omega⟩
    unfold kbAll
    rw [dif_neg (by omega), dif_neg hn]

/-- A head's stored output is its share of the outputs. -/
theorem oPiece (Q K : Fin 16 → Vec F S512x256 .bf16) (V : Fin 16 → Vec F S512x128 .bf16) (h : Fin 16) (o : ℕ) (h1 : o = 128 * h.val) (inb)
    (x : S512x128.Idx) (f : Vec F S512x128 .f32) (hf : f = k1_pay40 (Q h) (K h) (V h)) :
    f x = (fun y : S512x2048.Idx => k1_pay40 (Q ⟨(y 1).val / 128, by have := idx2_lt1 y; omega⟩) (K ⟨(y 1).val / 128, by have := idx2_lt1 y; omega⟩)
      (V ⟨(y 1).val / 128, by have := idx2_lt1 y; omega⟩) (ix2 (y 0) ⟨(y 1).val % 128, by omega⟩))
        ((Rect.unit (s := S512x2048) ![0, o] S512x128.size inb).emb x) := by
  subst h1 hf
  have hx : (x 1).val < 128 := idx2_lt1 x
  rw [emb_unit2 inb x (x 0) ⟨128 * h.val + (x 1).val, by omega⟩ (by simp) rfl]
  have e1 : (⟨(128 * h.val + (x 1).val) / 128, by omega⟩ : Fin 16) = h := Fin.ext (by show (128 * h.val + (x 1).val) / 128 = h.val; omega)
  have e2 : (⟨(128 * h.val + (x 1).val) % 128, by omega⟩ : Fin 128) = x 1 := Fin.ext (by show (128 * h.val + (x 1).val) % 128 = (x 1).val; omega)
  show _ = k1_pay40 (Q ⟨(128 * h.val + (x 1).val) / 128, _⟩) (K ⟨(128 * h.val + (x 1).val) / 128, _⟩) (V ⟨(128 * h.val + (x 1).val) / 128, _⟩)
    (ix2 (x 0) ⟨(128 * h.val + (x 1).val) % 128, _⟩)
  rw [e1, e2]
  exact congrArg _ (eq_ix2 x)

/-- What the stores of head outputs leave. -/
theorem canon_oPieces (Q K : Fin 16 → Vec F S512x256 .bf16) (V : Fin 16 → Vec F S512x128 .bf16) (y : S512x2048.Idx) :
    View.canon (oPieces Q K V) y = k1_pay40 (Q ⟨(y 1).val / 128, by have := idx2_lt1 y; omega⟩) (K ⟨(y 1).val / 128, by have := idx2_lt1 y; omega⟩)
      (V ⟨(y 1).val / 128, by have := idx2_lt1 y; omega⟩) (ix2 (y 0) ⟨(y 1).val % 128, by omega⟩) := by
  refine View.canon_apply_of_pieces (fun y : S512x2048.Idx => k1_pay40 (Q ⟨(y 1).val / 128, by have := idx2_lt1 y; omega⟩) (K ⟨(y 1).val / 128, by have := idx2_lt1 y; omega⟩)
      (V ⟨(y 1).val / 128, by have := idx2_lt1 y; omega⟩) (ix2 (y 0) ⟨(y 1).val % 128, by omega⟩)) _ ?_ y (View.cover_of_tiled (oPieces Q K V) ![512, 128] rfl y)
  · intro p hp x
    simp only [oPieces, List.mem_cons, List.not_mem_nil, or_false] at hp
    rcases hp with rfl | rfl | rfl | rfl | rfl | rfl | rfl | rfl | rfl | rfl | rfl | rfl | rfl | rfl | rfl | rfl
    · refine oPiece Q K V ⟨15, by omega⟩ 1920 rfl inb_S512x2048_S512x128_0_1920 x _ ?_
      simp only [k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, shapeCast_self]; rfl
    · refine oPiece Q K V ⟨14, by omega⟩ 1792 rfl inb_S512x2048_S512x128_0_1792 x _ ?_
      simp only [k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, shapeCast_self]; rfl
    · refine oPiece Q K V ⟨13, by omega⟩ 1664 rfl inb_S512x2048_S512x128_0_1664 x _ ?_
      simp only [k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, shapeCast_self]; rfl
    · refine oPiece Q K V ⟨12, by omega⟩ 1536 rfl inb_S512x2048_S512x128_0_1536 x _ ?_
      simp only [k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, shapeCast_self]; rfl
    · refine oPiece Q K V ⟨11, by omega⟩ 1408 rfl inb_S512x2048_S512x128_0_1408 x _ ?_
      simp only [k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, shapeCast_self]; rfl
    · refine oPiece Q K V ⟨10, by omega⟩ 1280 rfl inb_S512x2048_S512x128_0_1280 x _ ?_
      simp only [k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, shapeCast_self]; rfl
    · refine oPiece Q K V ⟨9, by omega⟩ 1152 rfl inb_S512x2048_S512x128_0_1152 x _ ?_
      simp only [k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, shapeCast_self]; rfl
    · refine oPiece Q K V ⟨8, by omega⟩ 1024 rfl inb_S512x2048_S512x128_0_1024 x _ ?_
      simp only [k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, shapeCast_self]; rfl
    · refine oPiece Q K V ⟨7, by omega⟩ 896 rfl inb_S512x2048_S512x128_0_896 x _ ?_
      simp only [k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, shapeCast_self]; rfl
    · refine oPiece Q K V ⟨6, by omega⟩ 768 rfl inb_S512x2048_S512x128_0_768 x _ ?_
      simp only [k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, shapeCast_self]; rfl
    · refine oPiece Q K V ⟨5, by omega⟩ 640 rfl inb_S512x2048_S512x128_0_640 x _ ?_
      simp only [k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, shapeCast_self]; rfl
    · refine oPiece Q K V ⟨4, by omega⟩ 512 rfl inb_S512x2048_S512x128_0_512 x _ ?_
      simp only [k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, shapeCast_self]; rfl
    · refine oPiece Q K V ⟨3, by omega⟩ 384 rfl inb_S512x2048_S512x128_0_384 x _ ?_
      simp only [k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, shapeCast_self]; rfl
    · refine oPiece Q K V ⟨2, by omega⟩ 256 rfl inb_S512x2048_S512x128_0_256 x _ ?_
      simp only [k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, shapeCast_self]; rfl
    · refine oPiece Q K V ⟨1, by omega⟩ 128 rfl inb_S512x2048_S512x128_0_128 x _ ?_
      simp only [k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, shapeCast_self]; rfl
    · refine oPiece Q K V ⟨0, by omega⟩ 0 rfl inb_S512x2048_S512x128_0_0 x _ ?_
      simp only [k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, shapeCast_self]; rfl

/-- The attention body, run: the blocks it reads stay, its output block holds `attnOut` of them. -/
theorem attnRun (c : Dev nD) (i : grid1.Coords) (hc : Scalar.cmpi .ne (Scalar.extui (Scalar.cmpi .eq (BitVec.ofNat 32 (i 1).val) 0#32) : BitVec 32) 0#32 = 1#1)
    (M2 : Memref sig .tc .vmem S512x4096 .bf16) (h2 : M2.IsWhole) (M3 : Memref sig .tc .vmem S512x32 .bf16) (h3 : M3.IsWhole)
    (M4 : Memref sig .tc .vmem S512x256 .bf16) (h4 : M4.IsWhole) (M5 : Memref sig .tc .vmem S256x2048 .bf16) (h5 : M5.IsWhole)
    (M6 : Memref sig .tc .vmem S256x2048 .bf16) (h6 : M6.IsWhole) (M7 : Memref sig .tc .vmem S2048x2048 .f32) (h7 : M7.IsWhole)
    (M8 : Memref sig .tc .vmem S512x2048 .f32) (h8 : M8.IsWhole)
    (f2 : Bf F c M2) (f3 : Bf F c M3) (f4 : Bf F c M4) (f5 : Bf F c M5) (f6 : Bf F c M6) (f7 : Bf F c M7) (f8 : Bf F c M8)
    (f9 : Bf F c (Memref.whole cc1_scratch0)) (f10 : Bf F c (Memref.whole cc1_scratch1)) (f11 : Bf F c (Memref.whole cc1_scratch2))
    (Q : PUnit → sProp (MM F)) :
    iprop(pt c M2 f2 ∗ pt c M3 f3 ∗ pt c M4 f4 ∗ pt c M5 f5 ∗ pt c M6 f6 ∗ pt c M7 f7 ∗ pt c M8 f8
      ∗ pt c (Memref.whole cc1_scratch0) f9 ∗ pt c (Memref.whole cc1_scratch1) f10 ∗ pt c (Memref.whole cc1_scratch2) f11
      ∗ (iprop(pt c M2 f2 ∗ pt c M3 f3 ∗ pt c M4 f4 ∗ pt c M5 f5 ∗ pt c M6 f6 ∗ pt c M7 f7
        ∗ (∃ f, ⌜M8.view.read (Elt F) f = attnOut (M2.view.read (Elt F) f2) (M3.view.read (Elt F) f3) (M4.view.read (Elt F) f4)
            (M5.view.read (Elt F) f5) (M6.view.read (Elt F) f6) (M7.view.read (Elt F) f7)⌝ ∗ pt c M8 f)
        ∗ (∃ f, pt c (Memref.whole cc1_scratch0) f) ∗ (∃ f, pt c (Memref.whole cc1_scratch1) f) ∗ (∃ f, pt c (Memref.whole cc1_scratch2) f)) -∗ Q ⟨⟩))
    ⊢ wp frame (wpE (defs₀ (F := F)) 𝒱₀ c none) Set.univ
        (cc1__attn_body i M2 h2 M3 h3 M4 h4 M5 h5 M6 h6 M7 h7 M8 h8 (Memref.whole cc1_scratch0) (Memref.isWhole_whole _)
          (Memref.whole cc1_scratch1) (Memref.isWhole_whole _) (Memref.whole cc1_scratch2) (Memref.isWhole_whole _)) Q := by
  iintro ⟨H2, H3, H4, H5, H6, H7, H8, H9, H10, H11, Hk⟩
  sl_exec!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]
  · iexists _
    isplitr
    rotate_left
    · iexact H8
    · ipureintro
      rw [View.read_writes_junk_eq_canon]
      unfold attnRun.sl.H8_1
      rw [canon_whole2]
      have e : ∀ {n m : ℕ} {sp : Space} {e : EltTy} (M : Memref sig .tc sp ⟨2, ![n, m]⟩ e) (f : Bf F c M) (inb),
          View.readAt (Elt F) M.view (Rect.unit (s := ⟨2, ![n, m]⟩) ![0, 0] ![n, m] inb).toLoadRect f = M.view.read (Elt F) f :=
        fun M f inb => ld_whole2 inb _
      have hw := e M7 f7 inb_S2048x2048_S2048x2048_0_0
      have hK : ∀ (h : Fin 16) (inb), (Memref.whole cc1_scratch0).view.readCov (attnRun.sl.H9_33 c M3 M4 M5 f3 f4 f5)
          (Rect.unit (s := S512x4096) ![0, 256 * h.val] S512x256.size inb).toLoadRect
          = cols (n := 512) (m := 4096) 256 (256 * h.val) (by omega) (kbAll (M3.view.read (Elt F) f3) (M4.view.read (Elt F) f4) (M5.view.read (Elt F) f5)) := by
        intro h inb
        rw [View.readCov_eq_canon']
        funext j
        have hL : attnRun.sl.H9_33 c M3 M4 M5 f3 f4 f5
            = kPieces (M3.view.readAt (Elt F) (Rect.unit ![0, 0] S512x32.size inb_S512x32_S512x32_0_0).toLoadRect f3)
                (M4.view.readAt (Elt F) (Rect.unit ![0, 0] S512x256.size inb_S512x256_S512x256_0_0).toLoadRect f4)
                (M5.view.readAt (Elt F) (Rect.unit ![0, 0] S256x2048.size inb_S256x2048_S256x2048_0_0).toLoadRect f5)
              ++ [⟨Rect.unit ![0, 0] S512x4096.size inb_S512x4096_S512x4096_0_0, k1_pay4⟩] := rfl
        rw [hL, e, e, e]
        refine (canon_kPieces _ _ _ _ _).trans ?_
        unfold cols
        exact congrArg _ (emb_unit2 inb j _ _ (by simp) rfl)
      have hV : ∀ (h : Fin 16) (inb), (Memref.whole cc1_scratch1).view.readCov (attnRun.sl.H10_1 c M4 M6 f4 f6)
          (Rect.unit (s := S512x2048) ![0, 128 * h.val] S512x128.size inb).toLoadRect
          = cols (n := 512) (m := 2048) 128 (128 * h.val) (by omega) (k1_pay3 (M4.view.read (Elt F) f4) (M6.view.read (Elt F) f6)) := by
        intro h inb
        rw [View.readCov_eq_canon']
        funext j
        unfold attnRun.sl.H10_1
        rw [canon_whole2, e, e]
        unfold cols
        exact congrArg _ (emb_unit2 inb j _ _ (by simp) rfl)
      have inbQ : ∀ (h : Fin 16) (a : Fin S512x4096.rank), (![0, 256 * h.val] : Fin 2 → ℕ) a + S512x256.size a ≤ S512x4096.size a := by decide
      have inbV : ∀ (h : Fin 16) (a : Fin S512x2048.rank), (![0, 128 * h.val] : Fin 2 → ℕ) a + S512x128.size a ≤ S512x2048.size a := by decide
      have hO : attnRun.sl.H11_16 c M2 M3 M4 M5 M6 f2 f3 f4 f5 f6
          = oPieces (fun h => View.readAt (Elt F) M2.view (Rect.unit (s := S512x4096) ![0, 256 * h.val] S512x256.size (inbQ h)).toLoadRect f2)
              (fun h => (Memref.whole cc1_scratch0).view.readCov (attnRun.sl.H9_33 c M3 M4 M5 f3 f4 f5)
                (Rect.unit (s := S512x4096) ![0, 256 * h.val] S512x256.size (inbQ h)).toLoadRect)
              (fun h => (Memref.whole cc1_scratch1).view.readCov (attnRun.sl.H10_1 c M4 M6 f4 f6)
                (Rect.unit (s := S512x2048) ![0, 128 * h.val] S512x128.size (inbV h)).toLoadRect) := rfl
      have hv : attnRun.sl.v259 c M2 M3 M4 M5 M6 f2 f3 f4 f5 f6 = oAll (M2.view.read (Elt F) f2) (M3.view.read (Elt F) f3) (M4.view.read (Elt F) f4)
            (M5.view.read (Elt F) f5) (M6.view.read (Elt F) f6) := by
        unfold attnRun.sl.v259
        rw [View.readCov_eq_canon', hO]
        funext j
        refine (canon_oPieces _ _ _ _).trans ?_
        rw [show (Rect.unit (s := S512x2048) ![0, 0] S512x2048.size inb_S512x2048_S512x2048_0_0).toLoadRect.idx j = j from
          (emb_unit2 _ j (j 0) (j 1) (by simp) (by simp)).trans (eq_ix2 j).symm]
        have hQ : ∀ (h : Fin 16) (inb), View.readAt (Elt F) M2.view (Rect.unit (s := S512x4096) ![0, 256 * h.val] S512x256.size inb).toLoadRect f2
            = cols (n := 512) (m := 4096) 256 (256 * h.val) (by omega) (M2.view.read (Elt F) f2) := by
          intro h inb
          funext j
          exact congrArg (M2.view.read (Elt F) f2) (emb_unit2 inb j _ _ (by simp) rfl)
        rw [hK, hV, hQ]
        unfold oAll headOut
        rfl
      rw [hv]
      unfold attnRun.sl.r_10 attnOut
      rw [hw]
      unfold k1_pay61
      rw [shapeCast_self]
      rfl
  isplitl [H9]; · iexists _; iexact H9
  isplitl [H10]; · iexists _; iexact H10
  iexists _; iexact H11

end Cert.Mla
end
-- ==== Proof.Steps.lean ====
/- The steps of the exchange: meeting, sending, waiting for a copy to have left and to have landed. -/
module

public import proofs.«01_k».proof.Proof.Protocol
public import proofs.«01_k».proof.Proof.Attn
public import Idealize.ShloMosaic.Lib.Pipeline.FrameBody
public import Idealize.ShloMosaic.Lib.Pipeline.Value
public import Idealize.ShloMosaic.Lib.ValueIdxCore

@[expose] public section

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
variable (S : Sent F)

/-- The partner as the kernel computes it, at its first use. -/
theorem dev1_eq (i : grid0.Coords) (c : Dev nD) (h) : (⟨k0_dev1 c, k0_dev1_lt i c h⟩ : Dev nD) = pr c := Fin.ext (k0_dev1_eq c)
/-- The partner as the kernel computes it, at its second use. -/
theorem dev2_eq (i : grid0.Coords) (c : Dev nD) (h) : (⟨k0_dev2 c, k0_dev2_lt i c h⟩ : Dev nD) = pr c := Fin.ext (k0_dev2_eq c)
/-- The partner as the kernel computes it, at its third use. -/
theorem dev3_eq (i : grid0.Coords) (c : Dev nD) (h) : (⟨k0_dev3 c, k0_dev3_lt i c h⟩ : Dev nD) = pr c := Fin.ext (k0_dev3_eq c)
/-- The partner as the kernel computes it, at its fourth use. -/
theorem dev4_eq (i : grid0.Coords) (c : Dev nD) (h) : (⟨k0_dev4 c, k0_dev4_lt i c h⟩ : Dev nD) = pr c := Fin.ext (k0_dev4_eq c)

/-- What a whole matrix reads after one store over all of it. -/
theorem stored2 {Val : EltTy → Type} {sp : Space} {n m : ℕ} {e : EltTy} (v : View sig .tc sp ⟨2, ![n, m]⟩ e) (f : v.ty.Contents Val) (inb)
    (w : (⟨2, ![n, m]⟩ : Shape).Idx → Val e) (L : List (View.Piece Val ⟨2, ![n, m]⟩ e)) :
    v.read Val (v.writes Val f (⟨Rect.unit (s := ⟨2, ![n, m]⟩) ![0, 0] ![n, m] inb, w⟩ :: L)) = w := by
  funext y
  have hr := View.read_writes_cons_emb (v := v) (f := f) (Rect.unit (s := ⟨2, ![n, m]⟩) ![0, 0] ![n, m] inb) w L y
  rw [emb_unit2 inb y (y 0) (y 1) (by simp) (by simp)] at hr
  exact (congrArg _ (eq_ix2 y)).trans hr

/-- A load of a whole matrix reads the view. -/
theorem readAt2 {Val : EltTy → Type} {sp : Space} {n m : ℕ} {e : EltTy} (v : View sig .tc sp ⟨2, ![n, m]⟩ e) (f : v.ty.Contents Val) (inb) :
    v.readAt Val (Rect.unit (s := ⟨2, ![n, m]⟩) ![0, 0] ![n, m] inb).toLoadRect f = v.read Val f := ld_whole2 inb _

/-- Sending the share of the first up-projection: the source and the other device's landing buffer are paid to the two cells. -/
theorem send0 (K : GSem nD τ sig → ℕ) (c dv : Dev nD) (hdv : dv = pr c) (fd : Bf F (pr c) kR) (O O' : CellTallies nD τ sig Unit)
    (hO : O' = O + tallyAt (rcvCell 0 (pr c)) () Nw) (W : Waits sig Unit)
    {hsc : ((kR : Memref sig (Dev.tc dv : Thread nD τ).2.kind _ _ _)).view.ref.isScScratch = false}
    {hsrc : kS.view.WordExact} {hdst : kR.view.WordExact}
    {hsem} {α : Type} {k : PUnit → Prog (TpuEff nD τ sig (Elt F) Λ₀ .tc) α} {Q : α → sProp (MM F)} :
    iprop(cellInv ER (xRd S) (K (sndCell 0 c)) (sndCell 0 c) ∗ cellInv ER (xRd S) (K (rcvCell 0 (pr c))) (rcvCell 0 (pr c))
        ∗ pt c kS (S.k c) ∗ pt (pr c) kR fd ∗ owes (c : Thread nD τ) O' W
        ∗ dutyTok ER (sndCell 0 c) 0 () ∗ reached ER (sndCell 0 c) 0 ∗ dutyTok ER (rcvCell 0 (pr c)) 0 () ∗ reached ER (rcvCell 0 (pr c)) 0)
      ⊢ iprop(((cred (tallyAt (sndCell 0 c) () Nw) ∗ owes (c : Thread nD τ) O W) -∗ wp frame (wpE (defs₀ (F := F)) 𝒱₀ c none) Set.univ (k ⟨⟩) Q)
          -∗ wp frame (wpE (defs₀ (F := F)) 𝒱₀ c none) Set.univ
            (.op (.enqueueDma kS (.remote (Dev.tc dv) kR (.dma ((cc0_scratch7.slice (Rect.unit (s := S3) ![0] S1.size inb_S3_S1_0)).squeeze S_ squeezes_S1_S_).sem) hsc)
              (.dma ((cc0_scratch8.slice (Rect.unit (s := S3) ![0] S1.size inb_S3_S1_0)).squeeze S_ squeezes_S1_S_).sem) hsrc hdst hsem) k) Q) := by
  subst hdv
  have h := Rounds.wp_send_pointsTo (defs := defs₀ (F := F)) (Γ := .empty) 𝒱₀ ER (xRd S) (c : Thread nD τ) none (c' := (pr c : Thread nD τ)) (src := kS) (dst := kR)
      (sS := .dma (sndS 0)) (sem := .dma (rcvS 0)) (hsc := hsc) (hsrc := hsrc) (hdst := hdst) (hsem := hsem) (k := k) (Q := Q)
      (q := fullShare) (fs := S.k c) (κ₁ := K (sndCell 0 c)) (κ₂ := K (rcvCell 0 (pr c)))
      (r₁ := 0) (r₂ := 0) (d₁ := ()) (d₂ := ()) (fd := fd)
      (by rw [duties_of S (isX_snd c 0)]; exact Finset.mem_singleton_self _) (by rw [duties_of S (isX_rcv (pr c) 0)]; exact Finset.mem_singleton_self _)
      () () Nw rfl (amount_snd0 S c ()) (amount_rcv0 S (pr c) ()) O hO (W := W)
      (by rw [pt_set, payload_eq, pay_snd0])
      (by rw [pt_set, payload_eq, pay_rcv0, pr_pr]; exact Entails.of_eq (congrArg (pt (pr c) kR) (View.write_whole_univ _ _ _)))
      (Es := Set.univ)
  rw [pt_set, pt_set] at h
  exact h

/-- Sending the share of the second up-projection: the source and the other device's landing buffer are paid to the two cells. -/
theorem send1 (K : GSem nD τ sig → ℕ) (c dv : Dev nD) (hdv : dv = pr c) (fd : Bf F (pr c) vR) (O O' : CellTallies nD τ sig Unit)
    (hO : O' = O + tallyAt (rcvCell 1 (pr c)) () Nw) (W : Waits sig Unit)
    {hsc : ((vR : Memref sig (Dev.tc dv : Thread nD τ).2.kind _ _ _)).view.ref.isScScratch = false}
    {hsrc : vS.view.WordExact} {hdst : vR.view.WordExact}
    {hsem} {α : Type} {k : PUnit → Prog (TpuEff nD τ sig (Elt F) Λ₀ .tc) α} {Q : α → sProp (MM F)} :
    iprop(cellInv ER (xRd S) (K (sndCell 1 c)) (sndCell 1 c) ∗ cellInv ER (xRd S) (K (rcvCell 1 (pr c))) (rcvCell 1 (pr c))
        ∗ pt c vS (S.v c) ∗ pt (pr c) vR fd ∗ owes (c : Thread nD τ) O' W
        ∗ dutyTok ER (sndCell 1 c) 0 () ∗ reached ER (sndCell 1 c) 0 ∗ dutyTok ER (rcvCell 1 (pr c)) 0 () ∗ reached ER (rcvCell 1 (pr c)) 0)
      ⊢ iprop(((cred (tallyAt (sndCell 1 c) () Nw) ∗ owes (c : Thread nD τ) O W) -∗ wp frame (wpE (defs₀ (F := F)) 𝒱₀ c none) Set.univ (k ⟨⟩) Q)
          -∗ wp frame (wpE (defs₀ (F := F)) 𝒱₀ c none) Set.univ
            (.op (.enqueueDma vS (.remote (Dev.tc dv) vR (.dma ((cc0_scratch7.slice (Rect.unit (s := S3) ![1] S1.size inb_S3_S1_1)).squeeze S_ squeezes_S1_S_).sem) hsc)
              (.dma ((cc0_scratch8.slice (Rect.unit (s := S3) ![1] S1.size inb_S3_S1_1)).squeeze S_ squeezes_S1_S_).sem) hsrc hdst hsem) k) Q) := by
  subst hdv
  have h := Rounds.wp_send_pointsTo (defs := defs₀ (F := F)) (Γ := .empty) 𝒱₀ ER (xRd S) (c : Thread nD τ) none (c' := (pr c : Thread nD τ)) (src := vS) (dst := vR)
      (sS := .dma (sndS 1)) (sem := .dma (rcvS 1)) (hsc := hsc) (hsrc := hsrc) (hdst := hdst) (hsem := hsem) (k := k) (Q := Q)
      (q := fullShare) (fs := S.v c) (κ₁ := K (sndCell 1 c)) (κ₂ := K (rcvCell 1 (pr c)))
      (r₁ := 0) (r₂ := 0) (d₁ := ()) (d₂ := ()) (fd := fd)
      (by rw [duties_of S (isX_snd c 1)]; exact Finset.mem_singleton_self _) (by rw [duties_of S (isX_rcv (pr c) 1)]; exact Finset.mem_singleton_self _)
      () () Nw rfl (amount_snd1 S c ()) (amount_rcv1 S (pr c) ()) O hO (W := W)
      (by rw [pt_set, payload_eq, pay_snd1])
      (by rw [pt_set, payload_eq, pay_rcv1, pr_pr]; exact Entails.of_eq (congrArg (pt (pr c) vR) (View.write_whole_univ _ _ _)))
      (Es := Set.univ)
  rw [pt_set, pt_set] at h
  exact h

/-- Sending the share of the latents: the source and the other device's landing buffer are paid to the two cells. -/
theorem send2 (K : GSem nD τ sig → ℕ) (c dv : Dev nD) (hdv : dv = pr c) (fd : Bf F (pr c) cR) (O O' : CellTallies nD τ sig Unit)
    (hO : O' = O + tallyAt (rcvCell 2 (pr c)) () Nc) (W : Waits sig Unit)
    {hsc : ((cR : Memref sig (Dev.tc dv : Thread nD τ).2.kind _ _ _)).view.ref.isScScratch = false}
    {hsrc : cS.view.WordExact} {hdst : cR.view.WordExact}
    {hsem} {α : Type} {k : PUnit → Prog (TpuEff nD τ sig (Elt F) Λ₀ .tc) α} {Q : α → sProp (MM F)} :
    iprop(cellInv ER (xRd S) (K (sndCell 2 c)) (sndCell 2 c) ∗ cellInv ER (xRd S) (K (rcvCell 2 (pr c))) (rcvCell 2 (pr c))
        ∗ pt c cS (S.c c) ∗ pt (pr c) cR fd ∗ owes (c : Thread nD τ) O' W
        ∗ dutyTok ER (sndCell 2 c) 0 () ∗ reached ER (sndCell 2 c) 0 ∗ dutyTok ER (rcvCell 2 (pr c)) 0 () ∗ reached ER (rcvCell 2 (pr c)) 0)
      ⊢ iprop(((cred (tallyAt (sndCell 2 c) () Nc) ∗ owes (c : Thread nD τ) O W) -∗ wp frame (wpE (defs₀ (F := F)) 𝒱₀ c none) Set.univ (k ⟨⟩) Q)
          -∗ wp frame (wpE (defs₀ (F := F)) 𝒱₀ c none) Set.univ
            (.op (.enqueueDma cS (.remote (Dev.tc dv) cR (.dma ((cc0_scratch7.slice (Rect.unit (s := S3) ![2] S1.size inb_S3_S1_2)).squeeze S_ squeezes_S1_S_).sem) hsc)
              (.dma ((cc0_scratch8.slice (Rect.unit (s := S3) ![2] S1.size inb_S3_S1_2)).squeeze S_ squeezes_S1_S_).sem) hsrc hdst hsem) k) Q) := by
  subst hdv
  have h := Rounds.wp_send_pointsTo (defs := defs₀ (F := F)) (Γ := .empty) 𝒱₀ ER (xRd S) (c : Thread nD τ) none (c' := (pr c : Thread nD τ)) (src := cS) (dst := cR)
      (sS := .dma (sndS 2)) (sem := .dma (rcvS 2)) (hsc := hsc) (hsrc := hsrc) (hdst := hdst) (hsem := hsem) (k := k) (Q := Q)
      (q := fullShare) (fs := S.c c) (κ₁ := K (sndCell 2 c)) (κ₂ := K (rcvCell 2 (pr c)))
      (r₁ := 0) (r₂ := 0) (d₁ := ()) (d₂ := ()) (fd := fd)
      (by rw [duties_of S (isX_snd c 2)]; exact Finset.mem_singleton_self _) (by rw [duties_of S (isX_rcv (pr c) 2)]; exact Finset.mem_singleton_self _)
      () () Nc rfl (amount_snd2 S c ()) (amount_rcv2 S (pr c) ()) O hO (W := W)
      (by rw [pt_set, payload_eq, pay_snd2])
      (by rw [pt_set, payload_eq, pay_rcv2, pr_pr]; exact Entails.of_eq (congrArg (pt (pr c) cR) (View.write_whole_univ _ _ _)))
      (Es := Set.univ)
  rw [pt_set, pt_set] at h
  exact h

/-- A sending buffer after the one store over it holds what is sent. -/
theorem kS_sent (c : Dev nD) (g : Bf F c kS) (w v : Vec F S128x2048 .bf16) (h : w = v) :
    (kS.view.loc (c : Thread nD τ) ↦{fullShare} kS.view.writes (Elt F) g
      [⟨Rect.unit (s := S128x2048) ![0, 0] S128x2048.size inb_S128x2048_S128x2048_0_0, w⟩] : sProp (MM F)) ⊢ pt c kS v :=
  Entails.of_eq (congrArg (pt c kS) (((View.read_whole _ _).symm.trans (stored2 kS.view g _ w [])).trans h))

/-- A sending buffer after the one store over it holds what is sent. -/
theorem vS_sent (c : Dev nD) (g : Bf F c vS) (w v : Vec F S128x2048 .bf16) (h : w = v) :
    (vS.view.loc (c : Thread nD τ) ↦{fullShare} vS.view.writes (Elt F) g
      [⟨Rect.unit (s := S128x2048) ![0, 0] S128x2048.size inb_S128x2048_S128x2048_0_0, w⟩] : sProp (MM F)) ⊢ pt c vS v :=
  Entails.of_eq (congrArg (pt c vS) (((View.read_whole _ _).symm.trans (stored2 vS.view g _ w [])).trans h))

/-- A sending buffer after the one store over it holds what is sent. -/
theorem cS_sent (c : Dev nD) (g : Bf F c cS) (w v : Vec F S1024x128 .bf16) (h : w = v) :
    (cS.view.loc (c : Thread nD τ) ↦{fullShare} cS.view.writes (Elt F) g
      [⟨Rect.unit (s := S1024x128) ![0, 0] S1024x128.size inb_S1024x128_S1024x128_0_0, w⟩] : sProp (MM F)) ⊢ pt c cS v :=
  Entails.of_eq (congrArg (pt c cS) (((View.read_whole _ _).symm.trans (stored2 cS.view g _ w [])).trans h))

/-- Telling the other device that the landing buffers are free. -/
theorem signal (K : GSem nD τ sig → ℕ) (c dv : Dev nD) (hdv : dv = pr c) (W : Waits sig Unit)
    {α : Type} {k : PUnit → Prog (TpuEff nD τ sig (Elt F) Λ₀ .tc) α} {Q : α → sProp (MM F)} :
    iprop(cellInv ER (xRd S) (K (barCell (pr c))) (barCell (pr c)) ∗ owes (c : Thread nD τ) (O₀ c) W
        ∗ dutyTok ER (barCell (pr c)) 0 () ∗ reached ER (barCell (pr c)) 0
        ∗ (∃ f, pt c kR f) ∗ (∃ f, pt c vR f) ∗ (∃ f, pt c cR f)
        ∗ reached ER (rcvCell 0 c) 0 ∗ reached ER (rcvCell 1 c) 0 ∗ reached ER (rcvCell 2 c) 0)
      ⊢ iprop((owes (c : Thread nD τ) (Orcv c) W -∗ wp frame (wpE (defs₀ (F := F)) 𝒱₀ c none) Set.univ (k ⟨⟩) Q)
          -∗ wp frame (wpE (defs₀ (F := F)) 𝒱₀ c none) Set.univ (.op (.semSignal (Dev.tc dv) barS 1) k) Q) := by
  subst hdv
  iintro ⟨#HIbarP, HO, HtB, #HrP, HkR, HvR, HcR, #HrV0, #HrV1, #HrV2⟩ Hk
  iapply (Rounds.wp_signal 𝒱₀ ER (xRd S) (c : Thread nD τ) none (dst := (pr c : Thread nD τ)) (sem := barS) (r := 0) (d := ()) (κ := K (barCell (pr c)))
      (by rw [duties_of S (isX_bar _)]; exact Finset.mem_singleton_self _) (amount_bar S (pr c) ()) () (Orcv c) rfl)
    $$ [HO HtB HcR HkR HvR]
  · isplitr; · iexact HIbarP
    isplitl [HO]; · iexact HO
    isplitl [HtB]; · iexact HtB
    isplitl [HcR HkR HvR]
    · rw [payload_eq, pay_bar]; unfold barPay; rw [pr_pr]
      isplitl [HkR]; · iexact HkR
      isplitl [HvR]; · iexact HvR
      isplitl [HcR]; · iexact HcR
      isplitr; · iexact HrV0
      isplitr; · iexact HrV1
      iexact HrV2
    · iexact HrP
  iexact Hk

/-- Waiting for the other device to be there: its landing buffers come, and the meeting counter is back in hand. -/
theorem meet (K : GSem nD τ sig → ℕ) (c : Dev nD) (W : Waits sig Unit)
    {α : Type} {k : PUnit → Prog (TpuEff nD τ sig (Elt F) Λ₀ .tc) α} {Q : α → sProp (MM F)} :
    iprop(cellInv ER (xRd S) (K (barCell c)) (barCell c) ∗ cred (tallyAt (barCell c) () 1) ∗ owes (c : Thread nD τ) (Orcv c) W
        ∗ levAts L lv ∗ atPos ER (barCell c) 0 ∅ 0)
      ⊢ iprop(((owes (c : Thread nD τ) (Orcv c) (insert (SemLoc.reg barS, ()) W) ∗ semVal (barCell c) 0 ∗ barPay c)
            -∗ wp frame (wpE (defs₀ (F := F)) 𝒱₀ c none) Set.univ (k ⟨⟩) Q)
          -∗ wp frame (wpE (defs₀ (F := F)) 𝒱₀ c none) Set.univ (.op (.semWait barS 1) k) Q) := by
  iintro ⟨#HIbar, HcB, HO, #Hlev, HatB⟩ Hk
  iapply (Rounds.wp_wait_rest_token 𝒱₀ ER (xRd S) (c : Thread nD τ) none (κ := K (barCell c))
      (wpE_semWait_eq 𝒱₀ (c : Thread nD τ) none Set.univ) (Set.mem_univ _) () (O := Orcv c) (W := W) (R := 0) (m := 0) (T := ∅)
      ((Nat.zero_add 1).trans (expect_of S (isX_bar c) (amount_bar S c ())).symm)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq ((rest_of S (isX_bar c)).trans (pay_bar S c))) $$ Hpay
  imod (close S (K (barCell c)) (barCell c)) $$ [HatB] with Hb0
  · isplitr; · iexact HIbar
    iexact HatB
  iapply Hk
  isplitl [HO]; · iexact HO
  isplitl [Hb0]; · iexact Hb0
  iexact Hp

end Cert.Mla
end
-- ==== Proof.QVals.lean ====
/- What the exchange's call computes: the rotary queries, a block of queries, and the joined shares. -/
module

public import proofs.«01_k».proof.Proof.Attn

@[expose] public section

noncomputable section

namespace Cert.Mla

open Cert.KernelIdeal Cert.KernelIdeal.Gen
open Idealize.ShloMosaic Idealize.ShloMosaic.TcCoe Idealize.ShloMosaic.Tactic
open Idealize.ShloMosaic.ValueIdx

variable {F : FTy → Type} [FloatOps F]

/-- The first coordinate of a rank-3 index is in range. -/
theorem idx3_lt0 {a b d : ℕ} (y : (⟨3, ![a, b, d]⟩ : Shape).Idx) : (y 0).val < a := (y 0).isLt
/-- The second coordinate of a rank-3 index is in range. -/
theorem idx3_lt1 {a b d : ℕ} (y : (⟨3, ![a, b, d]⟩ : Shape).Idx) : (y 1).val < b := (y 1).isLt
/-- The third coordinate of a rank-3 index is in range. -/
theorem idx3_lt2 {a b d : ℕ} (y : (⟨3, ![a, b, d]⟩ : Shape).Idx) : (y 2).val < d := (y 2).isLt

/-- Where a box of a three-axis array puts an index. -/
theorem emb_unit3 {n m l a b e w v u : ℕ} (inb) (x : (Rect.unit (s := ⟨3, ![n, m, l]⟩) ![a, b, e] ![w, v, u] inb).shape.Idx) (p : Fin n) (q : Fin m) (r : Fin l)
    (hp : p.val = a + (x 0).val) (hq : q.val = b + (x 1).val) (hr : r.val = e + (x 2).val) :
    (Rect.unit (s := ⟨3, ![n, m, l]⟩) ![a, b, e] ![w, v, u] inb).emb x = ix3 p q r := by
  funext d
  apply Fin.ext
  match d with
  | ⟨0, _⟩ => show a + 1 * (x 0).val = p.val; omega
  | ⟨1, _⟩ => show b + 1 * (x 1).val = q.val; omega
  | ⟨2, _⟩ => show e + 1 * (x 2).val = r.val; omega

/-- All rotary queries: per group of four heads, 128 columns. -/
def qrAll (x : Vec F S1024x2048 .f32) (wqr : Vec F S2048x512 .f32) : Vec F S4x1024x128 .bf16 :=
  fun y => truncf .bf16 (k0_pay10 x wqr) bitsLt_bf16_f32
    (ix2 (n0 := 1024) (n1 := 512) (y 1) ⟨128 * (y 0).val + (y 2).val, by have := idx3_lt0 y; have := idx3_lt2 y; omega⟩)

/-- One group's rotary queries. -/
def qrAt (j : Fin 4) (Q : Vec F S4x1024x128 .bf16) : Vec F S1x1024x128 .bf16 :=
  fun y => Q (ix3 (n0 := 4) (n1 := 1024) (n2 := 128) j (y 1) (y 2))

/-- The stores of the rotary queries, the last first. -/
def qrPieces (x : Vec F S1024x2048 .f32) (wqr : Vec F S2048x512 .f32) : List (View.Piece (Elt F) S4x1024x128 .bf16) :=
  [⟨Rect.unit ![3, 0, 0] S1x1024x128.size inb_S4x1024x128_S1x1024x128_3_0_0, k0_pay14 x wqr⟩,
   ⟨Rect.unit ![2, 0, 0] S1x1024x128.size inb_S4x1024x128_S1x1024x128_2_0_0, k0_pay13 x wqr⟩,
   ⟨Rect.unit ![1, 0, 0] S1x1024x128.size inb_S4x1024x128_S1x1024x128_1_0_0, k0_pay12 x wqr⟩,
   ⟨Rect.unit ![0, 0, 0] S1x1024x128.size inb_S4x1024x128_S1x1024x128_0_0_0, k0_pay11 x wqr⟩]

/-- A store of a group's rotary queries is its share of them all. -/
theorem qrPiece (x : Vec F S1024x2048 .f32) (wqr : Vec F S2048x512 .f32) (j : Fin 4) (a o : ℕ) (ha : a = j.val) (ho : o = 128 * j.val) (inb) (sl)
    (z : S1x1024x128.Idx) :
    shapeCast S1x1024x128 (truncf .bf16 (extractStridedSlice S1024x128 ![0, o] (k0_pay10 x wqr) sl) bitsLt_bf16_f32 : FVec F S1024x128 .bf16)
        shapeCasts_S1024x128_S1x1024x128 z
      = qrAll x wqr ((Rect.unit (s := S4x1024x128) ![a, 0, 0] S1x1024x128.size inb).emb z) := by
  subst ha ho
  have h0 : (z 0).val < 1 := idx3_lt0 z
  have h2 : (z 2).val < 128 := idx3_lt2 z
  rw [emb_unit3 inb z j (z 1) (z 2) (by omega) (by simp) (by simp)]
  refine (shapeCast_addUnit_apply (n := 2) ![1024, 128] _ shapeCasts_S1024x128_S1x1024x128 z).trans ?_
  refine (slice_apply (n := 1024) (m := 512) (w := 128) (128 * j.val) (truncf .bf16 (k0_pay10 x wqr) bitsLt_bf16_f32) sl (fun a => z a.succ) ?_).trans ?_
  · show 128 * j.val + (z 2).val < 512
    omega
  · rfl

/-- What the stores of the rotary queries leave. -/
theorem canon_qrPieces (x : Vec F S1024x2048 .f32) (wqr : Vec F S2048x512 .f32) (y : S4x1024x128.Idx) : View.canon (qrPieces x wqr) y = qrAll x wqr y := by
  refine View.canon_apply_of_pieces (qrAll x wqr) (qrPieces x wqr) ?_ y ?_
  · intro p hp z
    simp only [qrPieces, List.mem_cons, List.not_mem_nil, or_false] at hp
    rcases hp with rfl | rfl | rfl | rfl
    · exact qrPiece x wqr 3 3 384 rfl rfl inb_S4x1024x128_S1x1024x128_3_0_0 slices_S1024x512_o0_384_S1024x128 z
    · exact qrPiece x wqr 2 2 256 rfl rfl inb_S4x1024x128_S1x1024x128_2_0_0 slices_S1024x512_o0_256_S1024x128 z
    · exact qrPiece x wqr 1 1 128 rfl rfl inb_S4x1024x128_S1x1024x128_1_0_0 slices_S1024x512_o0_128_S1024x128 z
    · exact qrPiece x wqr 0 0 0 rfl rfl inb_S4x1024x128_S1x1024x128_0_0_0 slices_S1024x512_o0_0_S1024x128 z
  · have h0 : (y 0).val < 4 := idx3_lt0 y
    have hm : ∀ (a : ℕ) (inb), a = (y 0).val → y ∈ (Rect.unit (s := S4x1024x128) ![a, 0, 0] S1x1024x128.size inb).set := by
      intro a inb ha
      refine Rect.mem_set_unit.mpr fun d => ?_
      match d with
      | ⟨0, _⟩ => exact ⟨by show a ≤ (y 0).val; omega, by show (y 0).val < a + 1; omega⟩
      | ⟨1, _⟩ => exact ⟨Nat.zero_le _, by show (y 1).val < 0 + 1024; have := idx3_lt1 y; omega⟩
      | ⟨2, _⟩ => exact ⟨Nat.zero_le _, by show (y 2).val < 0 + 128; have := idx3_lt2 y; omega⟩
    have hq : (y 0).val = 0 ∨ (y 0).val = 1 ∨ (y 0).val = 2 ∨ (y 0).val = 3 := by omega
    simp only [qrPieces, List.mem_cons, List.not_mem_nil, or_false]
    rcases hq with hq | hq | hq | hq
    · exact ⟨_, .inr (.inr (.inr rfl)), hm 0 inb_S4x1024x128_S1x1024x128_0_0_0 hq.symm⟩
    · exact ⟨_, .inr (.inr (.inl rfl)), hm 1 inb_S4x1024x128_S1x1024x128_1_0_0 hq.symm⟩
    · exact ⟨_, .inr (.inl rfl), hm 2 inb_S4x1024x128_S1x1024x128_2_0_0 hq.symm⟩
    · exact ⟨_, .inl rfl, hm 3 inb_S4x1024x128_S1x1024x128_3_0_0 hq.symm⟩

/-- A load of one group's box. -/
theorem ld_qrAt (j : Fin 4) (off : Fin 3 → ℕ) (ho : off = ![j.val, 0, 0]) (inb) (Q : Vec F S4x1024x128 .bf16) :
    (fun z => Q ((Rect.unit (s := S4x1024x128) off S1x1024x128.size inb).emb z)) = qrAt j Q := by
  subst ho
  funext z
  have h0 : (z 0).val < 1 := idx3_lt0 z
  exact congrArg Q (emb_unit3 inb z j (z 1) (z 2) (by omega) (by simp) (by simp))

/-- A block of queries: per head 128 columns, 32 rotary columns, 96 columns of zeros. -/
def qOut (x : Vec F S1024x2048 .f32) (wq : Vec F S2048x512 .f32) (qr : Vec F S1x1024x128 .bf16) : Vec F S1024x1024 .bf16 :=
  fun y => if h : (y 1).val % 256 < 128 then
      truncf .bf16 (k0_pay15 x wq) bitsLt_bf16_f32 (ix2 (n0 := 1024) (n1 := 512) (y 0) ⟨128 * ((y 1).val / 256) + (y 1).val % 256, by have := idx2_lt1 y; omega⟩)
    else if h' : (y 1).val % 256 < 160 then
      k0_pay16 qr (ix2 (n0 := 1024) (n1 := 128) (y 0) ⟨32 * ((y 1).val / 256) + ((y 1).val % 256 - 128), by have := idx2_lt1 y; omega⟩)
    else k0_pay17 y

/-- The stores of a block of queries over the zeros, the last first. -/
def qPieces (x : Vec F S1024x2048 .f32) (wq : Vec F S2048x512 .f32) (qr : Vec F S1x1024x128 .bf16) : List (View.Piece (Elt F) S1024x1024 .bf16) :=
  [⟨Rect.unit ![0, 896] S1024x32.size inb_S1024x1024_S1024x32_0_896, k0_pay5 (k0_pay16 qr)⟩,
   ⟨Rect.unit ![0, 768] S1024x128.size inb_S1024x1024_S1024x128_0_768, k0_pay4 (k0_pay15 x wq)⟩,
   ⟨Rect.unit ![0, 640] S1024x32.size inb_S1024x1024_S1024x32_0_640, k0_pay3 (k0_pay16 qr)⟩,
   ⟨Rect.unit ![0, 512] S1024x128.size inb_S1024x1024_S1024x128_0_512, k0_pay2 (k0_pay15 x wq)⟩,
   ⟨Rect.unit ![0, 384] S1024x32.size inb_S1024x1024_S1024x32_0_384, k0_pay1 (k0_pay16 qr)⟩,
   ⟨Rect.unit ![0, 256] S1024x128.size inb_S1024x1024_S1024x128_0_256, k0_pay20 x wq⟩,
   ⟨Rect.unit ![0, 128] S1024x32.size inb_S1024x1024_S1024x32_0_128, k0_pay19 qr⟩,
   ⟨Rect.unit ![0, 0] S1024x128.size inb_S1024x1024_S1024x128_0_0, k0_pay18 x wq⟩]

/-- A head's stored queries are its share of the block. -/
theorem qPiece (x : Vec F S1024x2048 .f32) (wq : Vec F S2048x512 .f32) (qr : Vec F S1x1024x128 .bf16) (h : Fin 4) (o1 o2 : ℕ)
    (h1 : o1 = 256 * h.val) (h2 : o2 = 128 * h.val) (inb) (sl) (z : S1024x128.Idx) :
    truncf .bf16 (extractStridedSlice S1024x128 ![0, o2] (k0_pay15 x wq) sl) bitsLt_bf16_f32 z
      = qOut x wq qr ((Rect.unit (s := S1024x1024) ![0, o1] S1024x128.size inb).emb z) := by
  subst h1 h2
  have hx : (z 1).val < 128 := idx2_lt1 z
  rw [emb_unit2 inb z (z 0) ⟨256 * h.val + (z 1).val, by omega⟩ (by simp) rfl]
  unfold qOut
  rw [dif_pos (show (256 * h.val + (z 1).val) % 256 < 128 by omega)]
  refine (slice_apply (n := 1024) (m := 512) (w := 128) (128 * h.val) (truncf .bf16 (k0_pay15 x wq) bitsLt_bf16_f32) sl z (by omega)).trans ?_
  refine congrArg (fun w => truncf .bf16 (k0_pay15 x wq) bitsLt_bf16_f32 (ix2 (n0 := 1024) (n1 := 512) (z 0) w)) (Fin.ext ?_)
  show 128 * h.val + (z 1).val = 128 * ((256 * h.val + (z 1).val) / 256) + (256 * h.val + (z 1).val) % 256
  omega

/-- A head's stored rotary queries are its share of the block. -/
theorem qrotPiece (x : Vec F S1024x2048 .f32) (wq : Vec F S2048x512 .f32) (qr : Vec F S1x1024x128 .bf16) (h : Fin 4) (o1 o2 : ℕ)
    (h1 : o1 = 256 * h.val + 128) (h2 : o2 = 32 * h.val) (inb) (sl) (z : S1024x32.Idx) :
    extractStridedSlice S1024x32 ![0, o2] (k0_pay16 qr) sl z
      = qOut x wq qr ((Rect.unit (s := S1024x1024) ![0, o1] S1024x32.size inb).emb z) := by
  subst h1 h2
  have hx : (z 1).val < 32 := idx2_lt1 z
  rw [emb_unit2 inb z (z 0) ⟨256 * h.val + 128 + (z 1).val, by omega⟩ (by simp) rfl]
  unfold qOut
  rw [dif_neg (show ¬ (256 * h.val + 128 + (z 1).val) % 256 < 128 by omega), dif_pos (show (256 * h.val + 128 + (z 1).val) % 256 < 160 by omega)]
  refine (slice_apply (n := 1024) (m := 128) (w := 32) (32 * h.val) (k0_pay16 qr) sl z (by omega)).trans ?_
  refine congrArg (fun w => k0_pay16 qr (ix2 (n0 := 1024) (n1 := 128) (z 0) w)) (Fin.ext ?_)
  show 32 * h.val + (z 1).val = 32 * ((256 * h.val + 128 + (z 1).val) / 256) + ((256 * h.val + 128 + (z 1).val) % 256 - 128)
  omega

/-- What the stores of a block of queries leave. -/
theorem canon_qPieces (x : Vec F S1024x2048 .f32) (wq : Vec F S2048x512 .f32) (qr : Vec F S1x1024x128 .bf16) (inb) (y : S1024x1024.Idx) :
    View.canon (qPieces x wq qr ++ [⟨Rect.unit ![0, 0] S1024x1024.size inb, k0_pay17⟩]) y = qOut x wq qr y := by
  refine canon_pieces_base (qOut x wq qr) _ _ ?_ y ?_
  · intro p hp z
    simp only [qPieces, List.mem_cons, List.not_mem_nil, or_false] at hp
    rcases hp with rfl | rfl | rfl | rfl | rfl | rfl | rfl | rfl
    · exact qrotPiece x wq qr 3 896 96 rfl rfl inb_S1024x1024_S1024x32_0_896 slices_S1024x128_o0_96_S1024x32 z
    · exact qPiece x wq qr 3 768 384 rfl rfl inb_S1024x1024_S1024x128_0_768 slices_S1024x512_o0_384_S1024x128 z
    · exact qrotPiece x wq qr 2 640 64 rfl rfl inb_S1024x1024_S1024x32_0_640 slices_S1024x128_o0_64_S1024x32 z
    · exact qPiece x wq qr 2 512 256 rfl rfl inb_S1024x1024_S1024x128_0_512 slices_S1024x512_o0_256_S1024x128 z
    · exact qrotPiece x wq qr 1 384 32 rfl rfl inb_S1024x1024_S1024x32_0_384 slices_S1024x128_o0_32_S1024x32 z
    · exact qPiece x wq qr 1 256 128 rfl rfl inb_S1024x1024_S1024x128_0_256 slices_S1024x512_o0_128_S1024x128 z
    · exact qrotPiece x wq qr 0 128 0 rfl rfl inb_S1024x1024_S1024x32_0_128 slices_S1024x128_o0_0_S1024x32 z
    · exact qPiece x wq qr 0 0 0 rfl rfl inb_S1024x1024_S1024x128_0_0 slices_S1024x512_o0_0_S1024x128 z
  · intro h
    rw [canon_whole2]
    have hy : (y 1).val < 1024 := idx2_lt1 y
    simp only [qPieces, List.forall_mem_cons] at h
    obtain ⟨g0, g1, g2, g3, g4, g5, g6, g7, -⟩ := h
    have hn : ¬ (y 1).val % 256 < 160 := by
      intro hlt
      have hq : (y 1).val / 256 = 0 ∨ (y 1).val / 256 = 1 ∨ (y 1).val / 256 = 2 ∨ (y 1).val / 256 = 3 := by omega
      rcases hq with hq | hq | hq | hq
      · rcases Nat.lt_or_ge ((y 1).val % 256) 128 with h1 | h1
        · exact not_mem_cols _ y g7 ⟨by omega, by omega⟩
        · exact not_mem_cols _ y g6 ⟨by omega, by omega⟩
      · rcases Nat.lt_or_ge ((y 1).val % 256) 128 with h1 | h1
        · exact not_mem_cols _ y g5 ⟨by omega, by omega⟩
        · exact not_mem_cols _ y g4 ⟨by omega, by omega⟩
      · rcases Nat.lt_or_ge ((y 1).val % 256) 128 with h1 | h1
        · exact not_mem_cols _ y g3 ⟨by omega, by omega⟩
        · exact not_mem_cols _ y g2 ⟨by omega, by omega⟩
      · rcases Nat.lt_or_ge ((y 1).val % 256) 128 with h1 | h1
        · exact not_mem_cols _ y g1 ⟨by omega, by omega⟩
        · exact not_mem_cols _ y g0 ⟨by omega, by omega⟩
    unfold qOut
    rw [dif_neg (by omega), dif_neg hn]

/-- The latents of a pair side by side: the own share at the own place. -/
def joinC (z : ℕ) (own other : Vec F S1024x128 .bf16) : Vec F S1024x256 .bf16 :=
  fun y => (if (y 1).val / 128 = z then own else other) (ix2 (n0 := 1024) (n1 := 128) (y 0) ⟨(y 1).val % 128, by omega⟩)

/-- The up-projections of a pair one above the other. -/
def joinW (z : ℕ) (own other : Vec F S128x2048 .bf16) : Vec F S256x2048 .bf16 :=
  fun y => (if (y 0).val / 128 = z then own else other) (ix2 (n0 := 128) (n1 := 2048) ⟨(y 0).val % 128, by omega⟩ (y 1))

/-- What the two stores of the latents leave. -/
theorem read_joinC (c : Dev nD) (M : Memref sig .tc .vmem S1024x256 .bf16) (f : Bf F c M) (z : ℕ) (hz : z < 2) (off3 off2 : Fin 2 → ℕ) (h3 : off3 = ![0, 128 - 128 * z]) (h2 : off2 = ![0, 128 * z]) (i3 i2)
    (own other : Vec F S1024x128 .bf16) :
    M.view.read (Elt F) (M.view.writes (Elt F) f [⟨Rect.unit (s := S1024x256) off3 S1024x128.size i3, other⟩, ⟨Rect.unit (s := S1024x256) off2 S1024x128.size i2, own⟩]) = joinC z own other := by
  subst h3 h2
  funext y
  refine View.read_writes_apply_of_pieces M.view f (joinC z own other) _ ?_ y ?_
  · intro p hp x
    simp only [List.mem_cons, List.not_mem_nil, or_false] at hp
    rcases hp with rfl | rfl
    · have hx : (x 1).val < 128 := idx2_lt1 x
      show other x = _
      rw [emb_unit2 i3 x (x 0) ⟨128 - 128 * z + (x 1).val, by omega⟩ (by simp) rfl]
      unfold joinC
      rw [if_neg (show ¬ (128 - 128 * z + (x 1).val) / 128 = z by omega)]
      refine congrArg other ((eq_ix2 (n0 := 1024) (n1 := 128) x).trans (congrArg (ix2 (n0 := 1024) (n1 := 128) (x 0)) (Fin.ext ?_)))
      show (x 1).val = (128 - 128 * z + (x 1).val) % 128
      omega
    · have hx : (x 1).val < 128 := idx2_lt1 x
      show own x = _
      rw [emb_unit2 i2 x (x 0) ⟨128 * z + (x 1).val, by omega⟩ (by simp) rfl]
      unfold joinC
      rw [if_pos (show (128 * z + (x 1).val) / 128 = z by omega)]
      refine congrArg own ((eq_ix2 (n0 := 1024) (n1 := 128) x).trans (congrArg (ix2 (n0 := 1024) (n1 := 128) (x 0)) (Fin.ext ?_)))
      show (x 1).val = (128 * z + (x 1).val) % 128
      omega
  · have hy : (y 1).val < 256 := idx2_lt1 y
    have hm : ∀ (a : ℕ) (inb), a ≤ (y 1).val → (y 1).val < a + 128 → y ∈ (Rect.unit (s := S1024x256) ![0, a] S1024x128.size inb).set := by
      intro a inb h1 h2
      refine Rect.mem_set_unit.mpr fun d => ?_
      match d with
      | ⟨0, _⟩ => exact ⟨Nat.zero_le _, by show (y 0).val < 0 + 1024; have := idx2_lt0 y; omega⟩
      | ⟨1, _⟩ => exact ⟨h1, h2⟩
    by_cases hc : (y 1).val / 128 = z
    · exact ⟨_, List.mem_cons_of_mem _ List.mem_cons_self, hm _ i2 (by omega) (by omega)⟩
    · exact ⟨_, List.mem_cons_self, hm _ i3 (by omega) (by omega)⟩

/-- What the two stores of an up-projection leave. -/
theorem read_joinW (c : Dev nD) (M : Memref sig .tc .vmem S256x2048 .bf16) (f : Bf F c M) (z : ℕ) (hz : z < 2) (off3 off2 : Fin 2 → ℕ) (h3 : off3 = ![128 - 128 * z, 0]) (h2 : off2 = ![128 * z, 0]) (i3 i2)
    (own other : Vec F S128x2048 .bf16) :
    M.view.read (Elt F) (M.view.writes (Elt F) f [⟨Rect.unit (s := S256x2048) off3 S128x2048.size i3, other⟩, ⟨Rect.unit (s := S256x2048) off2 S128x2048.size i2, own⟩]) = joinW z own other := by
  subst h3 h2
  funext y
  refine View.read_writes_apply_of_pieces M.view f (joinW z own other) _ ?_ y ?_
  · intro p hp x
    simp only [List.mem_cons, List.not_mem_nil, or_false] at hp
    rcases hp with rfl | rfl
    · have hx : (x 0).val < 128 := idx2_lt0 x
      show other x = _
      rw [emb_unit2 i3 x ⟨128 - 128 * z + (x 0).val, by omega⟩ (x 1) rfl (by simp)]
      unfold joinW
      rw [if_neg (show ¬ (128 - 128 * z + (x 0).val) / 128 = z by omega)]
      refine congrArg other ((eq_ix2 (n0 := 128) (n1 := 2048) x).trans (congrArg (fun w => ix2 (n0 := 128) (n1 := 2048) w (x 1)) (Fin.ext ?_)))
      show (x 0).val = (128 - 128 * z + (x 0).val) % 128
      omega
    · have hx : (x 0).val < 128 := idx2_lt0 x
      show own x = _
      rw [emb_unit2 i2 x ⟨128 * z + (x 0).val, by omega⟩ (x 1) rfl (by simp)]
      unfold joinW
      rw [if_pos (show (128 * z + (x 0).val) / 128 = z by omega)]
      refine congrArg own ((eq_ix2 (n0 := 128) (n1 := 2048) x).trans (congrArg (fun w => ix2 (n0 := 128) (n1 := 2048) w (x 1)) (Fin.ext ?_)))
      show (x 0).val = (128 * z + (x 0).val) % 128
      omega
  · have hy : (y 0).val < 256 := idx2_lt0 y
    have hm : ∀ (a : ℕ) (inb), a ≤ (y 0).val → (y 0).val < a + 128 → y ∈ (Rect.unit (s := S256x2048) ![a, 0] S128x2048.size inb).set := by
      intro a inb h1 h2
      refine Rect.mem_set_unit.mpr fun d => ?_
      match d with
      | ⟨0, _⟩ => exact ⟨h1, h2⟩
      | ⟨1, _⟩ => exact ⟨Nat.zero_le _, by show (y 1).val < 0 + 2048; have := idx2_lt1 y; omega⟩
    by_cases hc : (y 0).val / 128 = z
    · exact ⟨_, List.mem_cons_of_mem _ List.mem_cons_self, hm _ i2 (by omega) (by omega)⟩
    · exact ⟨_, List.mem_cons_self, hm _ i3 (by omega) (by omega)⟩

end Cert.Mla
end
-- ==== Proof.Exchange.lean ====
/- The exchange's body at the first, a middle and the last point of its grid. -/
module

public import proofs.«01_k».proof.Proof.Steps
public import proofs.«01_k».proof.Proof.QVals
public import Idealize.ShloMosaic.Lib.Pipeline.FrameBody
public import Idealize.ShloMosaic.Lib.Pipeline.Value
public import Idealize.ShloMosaic.Lib.ValueIdxCore

@[expose] public section

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
variable (S : Sent F)

/-- A buffer holds what it is seen to hold. -/
theorem pt_same (c : Dev nD) {s : Shape} {e : EltTy} (M : Memref sig .tc .vmem s e) (f g : Bf F c M) (h : f = g) : pt c M f ⊢ pt c M g :=
  Entails.of_eq (congrArg (pt c M) h)

/-- What the one duty of a counter's round has paid. -/
theorem paid {g : GSem nD τ sig} (h : IsX g) {P : sProp (MM F)} (hp : pay S g.1.1 g.2 = P) :
    bigSep ((xRd S).duties g 0) (fun u => (xRd S).payload g 0 u) ⊢ P :=
  Entails.of_eq ((congrArg (fun T => bigSep T (fun u => (xRd S).payload g 0 u)) Finset.sdiff_empty.symm).trans ((rest_of S h).trans hp))

/-- The group of heads a point works on. -/
def grp (i : grid0.Coords) : Fin 4 := ⟨(i 0).val, (i 0).isLt⟩

/-- What a matrix reads after the block's stores. -/
theorem qOut_stored (c : Dev nD) (M : Memref sig .tc .vmem S1024x1024 .bf16) (L : List (View.Piece (Elt F) S1024x1024 .bf16))
    (x : Vec F S1024x2048 .f32) (wq : Vec F S2048x512 .f32) (qr : Vec F S1x1024x128 .bf16) (inb)
    (h : L = qPieces x wq qr ++ [⟨Rect.unit ![0, 0] S1024x1024.size inb, k0_pay17⟩]) :
    M.view.read (Elt F) (M.view.writes (Elt F) M.view.junk L) = qOut x wq qr := by
  rw [View.read_writes_junk_eq_canon, h]
  funext y
  exact canon_qPieces x wq qr inb y

/-- A group's rotary queries as a point reads them. -/
theorem qrAt_read (i : grid0.Coords) (c : Dev nD) (g : Bf F c qS) (inb) :
    View.readAt (Elt F) qS.view (Rect.unit (s := S4x1024x128) (k0_off1 i) S1x1024x128.size inb).toLoadRect g = qrAt (grp i) g :=
  ld_qrAt (grp i) (k0_off1 i) (k0_off1_eq i) inb g

set_option maxHeartbeats 1000000 in
/-- The first point: the handshake, the three transfers, all rotary queries, the rotary keys, a block of queries. -/
theorem firstRun (K : GSem nD τ sig → ℕ) (c : Dev nD) (i : grid0.Coords) (h1 : k0_cond1 i = 1#1) (h2 : ¬ k0_cond2 i = 1#1)
    (M1 : Memref sig .tc .vmem S1024x2048 .f32) (w1 : M1.IsWhole) (M2 : Memref sig .tc .vmem S2048x128 .f32) (w2 : M2.IsWhole)
    (M3 : Memref sig .tc .vmem S128x2048 .f32) (w3 : M3.IsWhole) (M4 : Memref sig .tc .vmem S128x2048 .f32) (w4 : M4.IsWhole)
    (M5 : Memref sig .tc .vmem S2048x32 .f32) (w5 : M5.IsWhole) (M6 : Memref sig .tc .vmem S2048x512 .f32) (w6 : M6.IsWhole)
    (M7 : Memref sig .tc .vmem S2048x512 .f32) (w7 : M7.IsWhole) (M8 : Memref sig .tc .vmem S1024x1024 .bf16) (w8 : M8.IsWhole)
    (M9 : Memref sig .tc .vmem S1024x32 .bf16) (w9 : M9.IsWhole) (M10 : Memref sig .tc .vmem S1024x256 .bf16) (w10 : M10.IsWhole)
    (M11 : Memref sig .tc .vmem S256x2048 .bf16) (w11 : M11.IsWhole) (M12 : Memref sig .tc .vmem S256x2048 .bf16) (w12 : M12.IsWhole)
    (f1 : Bf F c M1) (f2 : Bf F c M2) (f3 : Bf F c M3) (f4 : Bf F c M4) (f5 : Bf F c M5) (f6 : Bf F c M6) (f7 : Bf F c M7)
    (f8 : Bf F c M8) (f9 : Bf F c M9)
    (hk : S.k c = k0_pay6 (M3.view.read (Elt F) f3)) (hv : S.v c = k0_pay7 (M4.view.read (Elt F) f4))
    (hc : S.c c = k0_pay8 (M1.view.read (Elt F) f1) (M2.view.read (Elt F) f2))
    (W : Waits sig Unit) (Q : PUnit → sProp (MM F)) :
    iprop(opened S K c ∗ creds c ∗ levAts L lv
      ∗ ((∃ f, pt c cS f) ∗ (∃ f, pt c cR f) ∗ (∃ f, pt c kS f) ∗ (∃ f, pt c kR f) ∗ (∃ f, pt c vS f) ∗ (∃ f, pt c vR f) ∗ (∃ f, pt c qS f))
      ∗ pt c M1 f1 ∗ pt c M2 f2 ∗ pt c M3 f3 ∗ pt c M4 f4 ∗ pt c M5 f5 ∗ pt c M6 f6 ∗ pt c M7 f7 ∗ pt c M8 f8 ∗ pt c M9 f9
      ∗ owes (c : Thread nD τ) (O₀ c) W
      ∗ ((sent S K c ∗ pt c qS (qrAll (M1.view.read (Elt F) f1) (M7.view.read (Elt F) f7))
          ∗ pt c M1 f1 ∗ pt c M2 f2 ∗ pt c M3 f3 ∗ pt c M4 f4 ∗ pt c M5 f5 ∗ pt c M6 f6 ∗ pt c M7 f7
          ∗ (∃ f, ⌜M8.view.read (Elt F) f = qOut (M1.view.read (Elt F) f1) (M6.view.read (Elt F) f6)
                (qrAt (grp i) (qrAll (M1.view.read (Elt F) f1) (M7.view.read (Elt F) f7)))⌝ ∗ pt c M8 f)
          ∗ (∃ f, ⌜M9.view.read (Elt F) f = k0_pay9 (M1.view.read (Elt F) f1) (M5.view.read (Elt F) f5)⌝ ∗ pt c M9 f)
          ∗ (∃ W', owes (c : Thread nD τ) 0 W')) -∗ Q ⟨⟩))
    ⊢ wp frame (wpE (defs₀ (F := F)) 𝒱₀ c none) Set.univ
        (cc0__exchange_body i M1 w1 M2 w2 M3 w3 M4 w4 M5 w5 M6 w6 M7 w7 M8 w8 M9 w9 M10 w10 M11 w11 M12 w12
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) cc0_scratch7 cc0_scratch8) Q := by
  unfold opened invs toks creds
  iintro ⟨⟨⟨#HIbar, #HIs0, #HIs1, #HIs2, #HIr0, #HIr1, #HIr2, #HIbarP, #HIp0, #HIp1, #HIp2⟩, HatB, HatS0, HatS1, HatS2, HatV0, HatV1, HatV2,
      #HrP, #HrS0, #HrS1, #HrS2, #HrV0, #HrV1, #HrV2, HtB, HtR0, HtR1, HtR2, HtS0, HtS1, HtS2⟩, ⟨HcB, HcV0, HcV1, HcV2⟩, #Hlev,
      ⟨⟨%g0, HcS⟩, HcR, ⟨%g2, HkS⟩, HkR, ⟨%g4, HvS⟩, HvR, ⟨%g6, HqS⟩⟩, H1, H2, H3, H4, H5, H6, H7, H8, H9, HO, Hk⟩
  sl_exec
  iapply (signal S K c _ (dev1_eq i c h1) W) $$ [HO HtB HcR HkR HvR]
  · isplitr; · iexact HIbarP
    isplitl [HO]; · iexact HO
    isplitl [HtB]; · iexact HtB
    isplitr; · iexact HrP
    isplitl [HkR]; · iexact HkR
    isplitl [HvR]; · iexact HvR
    isplitl [HcR]; · iexact HcR
    isplitr; · iexact HrV0
    isplitr; · iexact HrV1
    iexact HrV2
  iintro HO
  sl_exec
  iapply (meet S K c W) $$ [HcB HO HatB]
  · isplitr; · iexact HIbar
    isplitl [HcB]; · iexact HcB
    isplitl [HO]; · iexact HO
    isplitr; · iexact Hlev
    iexact HatB
  unfold barPay
  iintro ⟨HO, Hb0, ⟨%fk, HkR⟩, ⟨%fv, HvR⟩, ⟨%fc, HcR⟩, #HrVN0, #HrVN1, #HrVN2⟩
  sl_exec
  ihave HkS := (kS_sent c g2 _ (S.k c) (by rw [readAt2, hk])) $$ HkS
  ihave HvS := (vS_sent c g4 _ (S.v c) (by rw [readAt2, hv])) $$ HvS
  iapply (send0 S K c _ (dev2_eq i c h1) fk (tallyAt (rcvCell 2 (pr c)) () Nc + tallyAt (rcvCell 1 (pr c)) () Nw) (Orcv c) rfl _) $$ [HkS HkR HO HtS0 HtR0]
  · isplitr; · iexact HIs0
    isplitr; · iexact HIp0
    isplitl [HkS]; · iexact HkS
    isplitl [HkR]; · iexact HkR
    isplitl [HO]; · iexact HO
    isplitl [HtS0]; · iexact HtS0
    isplitr; · iexact HrS0
    isplitl [HtR0]; · iexact HtR0
    iexact HrVN0
  iintro ⟨HcS0, HO⟩
  sl_exec
  iapply (send1 S K c _ (dev3_eq i c h1) fv (tallyAt (rcvCell 2 (pr c)) () Nc) _ rfl _) $$ [HvS HvR HO HtS1 HtR1]
  · isplitr; · iexact HIs1
    isplitr; · iexact HIp1
    isplitl [HvS]; · iexact HvS
    isplitl [HvR]; · iexact HvR
    isplitl [HO]; · iexact HO
    isplitl [HtS1]; · iexact HtS1
    isplitr; · iexact HrS1
    isplitl [HtR1]; · iexact HtR1
    iexact HrVN1
  iintro ⟨HcS1, HO⟩
  sl_exec
  ihave HcS := (cS_sent c g0 _ (S.c c) (by rw [readAt2, readAt2, hc])) $$ HcS
  iapply (send2 S K c _ (dev4_eq i c h1) fc 0 (tallyAt (rcvCell 2 (pr c)) () Nc) (by rw [zero_add]) _) $$ [HcS HcR HO HtS2 HtR2]
  · isplitr; · iexact HIs2
    isplitr; · iexact HIp2
    isplitl [HcS]; · iexact HcS
    isplitl [HcR]; · iexact HcR
    isplitl [HO]; · iexact HO
    isplitl [HtS2]; · iexact HtS2
    isplitr; · iexact HrS2
    isplitl [HtR2]; · iexact HtR2
    iexact HrVN2
  iintro ⟨HcS2, HO⟩
  sl_exec!
  sl_step
  have hq : qS.view.writes (Elt F) qS.view.junk (firstRun.sl.HqS_4 c M1 M7 f1 f7) = qrAll (M1.view.read (Elt F) f1) (M7.view.read (Elt F) f7) := by
    refine (View.read_whole (Val := Elt F) (b := cc0_scratch6) _).symm.trans ?_
    refine (View.read_writes_junk_eq_canon _ _).trans ?_
    funext y
    refine Eq.trans ?_ (canon_qrPieces _ _ y)
    unfold firstRun.sl.HqS_4
    rw [readAt2, readAt2]
    rfl
  iapply Hk
  isplitl [Hb0 HatS0 HatS1 HatS2 HatV0 HatV1 HatV2 HcS0 HcS1 HcS2 HcV0 HcV1 HcV2]
  · unfold sent invs
    isplitr; · iframe #
    isplitl [Hb0]; · iexact Hb0
    isplitl [HatS0]; · iexact HatS0
    isplitl [HatS1]; · iexact HatS1
    isplitl [HatS2]; · iexact HatS2
    isplitl [HatV0]; · iexact HatV0
    isplitl [HatV1]; · iexact HatV1
    isplitl [HatV2]; · iexact HatV2
    isplitl [HcS0]; · iexact HcS0
    isplitl [HcS1]; · iexact HcS1
    isplitl [HcS2]; · iexact HcS2
    isplitl [HcV0]; · iexact HcV0
    isplitl [HcV1]; · iexact HcV1
    iexact HcV2
  isplitl [HqS]
  · iapply (pt_same c qS _ _ hq)
    iexact HqS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _
    isplitr
    rotate_left
    · iexact H8
    · ipureintro
      unfold firstRun.sl.H8_9
      refine (qOut_stored c M8 _ (M1.view.readAt (Elt F) (Rect.unit ![0, 0] S1024x2048.size inb_S1024x2048_S1024x2048_0_0).toLoadRect f1)
        (M6.view.readAt (Elt F) (Rect.unit ![0, 0] S2048x512.size inb_S2048x512_S2048x512_0_0).toLoadRect f6)
        (qS.view.readAt (Elt F) (Rect.unit (s := S4x1024x128) (k0_off1 i) S1x1024x128.size (k0_off1_inb i)).toLoadRect
          (qS.view.writes (Elt F) qS.view.junk (firstRun.sl.HqS_4 c M1 M7 f1 f7)))
        inb_S1024x1024_S1024x1024_0_0 (by rfl)).trans ?_
      rw [qrAt_read i c _, hq, readAt2, readAt2]
  isplitl [H9]
  · iexists _
    isplitr
    rotate_left
    · iexact H9
    · ipureintro
      rw [View.read_writes_junk_eq_canon]
      unfold firstRun.sl.H9_1 firstRun.sl.r
      rw [canon_whole2, readAt2, readAt2]
  iexists _; iexact HO

set_option maxHeartbeats 1000000 in
/-- A middle point: a block of queries, and nothing of the exchange. -/
theorem midRun (c : Dev nD) (i : grid0.Coords) (h1 : ¬ k0_cond1 i = 1#1) (h2 : ¬ k0_cond2 i = 1#1)
    (M1 : Memref sig .tc .vmem S1024x2048 .f32) (w1 : M1.IsWhole) (M2 : Memref sig .tc .vmem S2048x128 .f32) (w2 : M2.IsWhole)
    (M3 : Memref sig .tc .vmem S128x2048 .f32) (w3 : M3.IsWhole) (M4 : Memref sig .tc .vmem S128x2048 .f32) (w4 : M4.IsWhole)
    (M5 : Memref sig .tc .vmem S2048x32 .f32) (w5 : M5.IsWhole) (M6 : Memref sig .tc .vmem S2048x512 .f32) (w6 : M6.IsWhole)
    (M7 : Memref sig .tc .vmem S2048x512 .f32) (w7 : M7.IsWhole) (M8 : Memref sig .tc .vmem S1024x1024 .bf16) (w8 : M8.IsWhole)
    (M9 : Memref sig .tc .vmem S1024x32 .bf16) (w9 : M9.IsWhole) (M10 : Memref sig .tc .vmem S1024x256 .bf16) (w10 : M10.IsWhole)
    (M11 : Memref sig .tc .vmem S256x2048 .bf16) (w11 : M11.IsWhole) (M12 : Memref sig .tc .vmem S256x2048 .bf16) (w12 : M12.IsWhole)
    (f1 : Bf F c M1) (f6 : Bf F c M6) (f8 : Bf F c M8) (g : Bf F c qS) (Q : PUnit → sProp (MM F)) :
    iprop(pt c qS g ∗ pt c M1 f1 ∗ pt c M6 f6 ∗ pt c M8 f8
      ∗ ((pt c qS g ∗ pt c M1 f1 ∗ pt c M6 f6
          ∗ (∃ f, ⌜M8.view.read (Elt F) f = qOut (M1.view.read (Elt F) f1) (M6.view.read (Elt F) f6) (qrAt (grp i) g)⌝ ∗ pt c M8 f)) -∗ Q ⟨⟩))
    ⊢ wp frame (wpE (defs₀ (F := F)) 𝒱₀ c none) Set.univ
        (cc0__exchange_body i M1 w1 M2 w2 M3 w3 M4 w4 M5 w5 M6 w6 M7 w7 M8 w8 M9 w9 M10 w10 M11 w11 M12 w12
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) cc0_scratch7 cc0_scratch8) Q := by
  iintro ⟨HqS, H1, H6, H8, Hk⟩
  sl_exec!
  sl_step
  iapply Hk
  isplitl [HqS]; · iexact HqS
  isplitl [H1]; · iexact H1
  isplitl [H6]; · iexact H6
  · iexists _
    isplitr
    rotate_left
    · iexact H8
    · ipureintro
      have hL : midRun.sl.H8_9 c i M1 M6 f1 f6 g = qPieces
          (M1.view.readAt (Elt F) (Rect.unit ![0, 0] S1024x2048.size inb_S1024x2048_S1024x2048_0_0).toLoadRect f1)
          (M6.view.readAt (Elt F) (Rect.unit ![0, 0] S2048x512.size inb_S2048x512_S2048x512_0_0).toLoadRect f6)
          (qS.view.readAt (Elt F) (Rect.unit (s := S4x1024x128) (k0_off1 i) S1x1024x128.size (k0_off1_inb i)).toLoadRect g)
          ++ [⟨Rect.unit ![0, 0] S1024x1024.size inb_S1024x1024_S1024x1024_0_0, k0_pay17⟩] := rfl
      refine (qOut_stored c M8 _ _ _ _ _ hL).trans ?_
      rw [qrAt_read i c g, readAt2, readAt2]

set_option maxHeartbeats 1000000 in
/-- The last point: a block of queries, the six waits, and the joined shares. -/
theorem lastRun (K : GSem nD τ sig → ℕ) (c : Dev nD) (i : grid0.Coords) (h1 : ¬ k0_cond1 i = 1#1) (h2 : k0_cond2 i = 1#1)
    (M1 : Memref sig .tc .vmem S1024x2048 .f32) (w1 : M1.IsWhole) (M2 : Memref sig .tc .vmem S2048x128 .f32) (w2 : M2.IsWhole)
    (M3 : Memref sig .tc .vmem S128x2048 .f32) (w3 : M3.IsWhole) (M4 : Memref sig .tc .vmem S128x2048 .f32) (w4 : M4.IsWhole)
    (M5 : Memref sig .tc .vmem S2048x32 .f32) (w5 : M5.IsWhole) (M6 : Memref sig .tc .vmem S2048x512 .f32) (w6 : M6.IsWhole)
    (M7 : Memref sig .tc .vmem S2048x512 .f32) (w7 : M7.IsWhole) (M8 : Memref sig .tc .vmem S1024x1024 .bf16) (w8 : M8.IsWhole)
    (M9 : Memref sig .tc .vmem S1024x32 .bf16) (w9 : M9.IsWhole) (M10 : Memref sig .tc .vmem S1024x256 .bf16) (w10 : M10.IsWhole)
    (M11 : Memref sig .tc .vmem S256x2048 .bf16) (w11 : M11.IsWhole) (M12 : Memref sig .tc .vmem S256x2048 .bf16) (w12 : M12.IsWhole)
    (f1 : Bf F c M1) (f6 : Bf F c M6) (f8 : Bf F c M8) (f10 : Bf F c M10) (f11 : Bf F c M11) (f12 : Bf F c M12) (g : Bf F c qS)
    (W : Waits sig Unit) (Q : PUnit → sProp (MM F)) :
    iprop(sent S K c ∗ pt c qS g ∗ pt c M1 f1 ∗ pt c M6 f6 ∗ pt c M8 f8 ∗ pt c M10 f10 ∗ pt c M11 f11 ∗ pt c M12 f12
      ∗ owes (c : Thread nD τ) 0 W
      ∗ ((semVal (barCell c) 0 ∗ closed c
          ∗ ((∃ f, pt c cS f) ∗ (∃ f, pt c cR f) ∗ (∃ f, pt c kS f) ∗ (∃ f, pt c kR f) ∗ (∃ f, pt c vS f) ∗ (∃ f, pt c vR f) ∗ (∃ f, pt c qS f))
          ∗ pt c M1 f1 ∗ pt c M6 f6
          ∗ (∃ f, ⌜M8.view.read (Elt F) f = qOut (M1.view.read (Elt F) f1) (M6.view.read (Elt F) f6) (qrAt (grp i) g)⌝ ∗ pt c M8 f)
          ∗ (∃ f, ⌜M10.view.read (Elt F) f = joinC (c.val % 2) (S.c c) (S.c (pr c))⌝ ∗ pt c M10 f)
          ∗ (∃ f, ⌜M11.view.read (Elt F) f = joinW (c.val % 2) (S.k c) (S.k (pr c))⌝ ∗ pt c M11 f)
          ∗ (∃ f, ⌜M12.view.read (Elt F) f = joinW (c.val % 2) (S.v c) (S.v (pr c))⌝ ∗ pt c M12 f)
          ∗ (∃ W', owes (c : Thread nD τ) 0 W')) -∗ Q ⟨⟩))
    ⊢ wp frame (wpE (defs₀ (F := F)) 𝒱₀ c none) Set.univ
        (cc0__exchange_body i M1 w1 M2 w2 M3 w3 M4 w4 M5 w5 M6 w6 M7 w7 M8 w8 M9 w9 M10 w10 M11 w11 M12 w12
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) cc0_scratch7 cc0_scratch8) Q := by
  unfold sent invs
  iintro ⟨⟨⟨#HIbar, #HIs0, #HIs1, #HIs2, #HIr0, #HIr1, #HIr2, #HIbarP, #HIp0, #HIp1, #HIp2⟩, Hb0, HatS0, HatS1, HatS2, HatV0, HatV1, HatV2,
      HcS0, HcS1, HcS2, HcV0, HcV1, HcV2⟩, HqS, H1, H6, H8, H10, H11, H12, HO, Hk⟩
  sl_exec
  ihave HkS := (paid S (isX_snd c 0) (pay_snd0 S c)) $$ HatS0_pay1
  ihave HkR := (paid S (isX_rcv c 0) (pay_rcv0 S c)) $$ HatV0_pay1
  ihave HvS := (paid S (isX_snd c 1) (pay_snd1 S c)) $$ HatS1_pay1
  ihave HvR := (paid S (isX_rcv c 1) (pay_rcv1 S c)) $$ HatV1_pay1
  ihave HcS := (paid S (isX_snd c 2) (pay_snd2 S c)) $$ HatS2_pay1
  ihave HcR := (paid S (isX_rcv c 2) (pay_rcv2 S c)) $$ HatV2_pay1
  imod (close S (K (sndCell 0 c)) (sndCell 0 c)) $$ [HatS0] with HzS0
  · isplitr; · iexact HIs0
    iexact HatS0
  imod (close S (K (sndCell 1 c)) (sndCell 1 c)) $$ [HatS1] with HzS1
  · isplitr; · iexact HIs1
    iexact HatS1
  imod (close S (K (sndCell 2 c)) (sndCell 2 c)) $$ [HatS2] with HzS2
  · isplitr; · iexact HIs2
    iexact HatS2
  imod (close S (K (rcvCell 0 c)) (rcvCell 0 c)) $$ [HatV0] with HzV0
  · isplitr; · iexact HIr0
    iexact HatV0
  imod (close S (K (rcvCell 1 c)) (rcvCell 1 c)) $$ [HatV1] with HzV1
  · isplitr; · iexact HIr1
    iexact HatV1
  imod (close S (K (rcvCell 2 c)) (rcvCell 2 c)) $$ [HatV2] with HzV2
  · isplitr; · iexact HIr2
    iexact HatV2
  sl_exec!
  sl_step
  iapply Hk
  isplitl [Hb0]; · iexact Hb0
  isplitl [HzS0 HzS1 HzS2 HzV0 HzV1 HzV2]
  · unfold closed
    isplitl [HzS0]; · iexact HzS0
    isplitl [HzS1]; · iexact HzS1
    isplitl [HzS2]; · iexact HzS2
    isplitl [HzV0]; · iexact HzV0
    isplitl [HzV1]; · iexact HzV1
    iexact HzV2
  isplitl [HcS HcR HkS HkR HvS HvR HqS]
  · isplitl [HcS]; · iexists _; iexact HcS
    isplitl [HcR]; · iexists _; iexact HcR
    isplitl [HkS]; · iexists _; iexact HkS
    isplitl [HkR]; · iexists _; iexact HkR
    isplitl [HvS]; · iexists _; iexact HvS
    isplitl [HvR]; · iexists _; iexact HvR
    iexists _; iexact HqS
  isplitl [H1]; · iexact H1
  isplitl [H6]; · iexact H6
  isplitl [H8]
  · iexists _
    isplitr
    rotate_left
    · iexact H8
    · ipureintro
      refine (qOut_stored c M8 _ (M1.view.readAt (Elt F) (Rect.unit ![0, 0] S1024x2048.size inb_S1024x2048_S1024x2048_0_0).toLoadRect f1)
        (M6.view.readAt (Elt F) (Rect.unit ![0, 0] S2048x512.size inb_S2048x512_S2048x512_0_0).toLoadRect f6)
        (qS.view.readAt (Elt F) (Rect.unit (s := S4x1024x128) (k0_off1 i) S1x1024x128.size (k0_off1_inb i)).toLoadRect g)
        inb_S1024x1024_S1024x1024_0_0 (by rfl)).trans ?_
      rw [qrAt_read i c g, readAt2, readAt2]
  isplitl [H10]
  · iexists _
    isplitr
    rotate_left
    · iexact H10
    · ipureintro
      refine (read_joinC c M10 f10 (c.val % 2) (Nat.mod_lt _ (by omega)) _ _ (k0_off3_eq c) (k0_off2_eq c) _ _ _ _).trans ?_
      exact congrArg₂ (joinC (c.val % 2)) (readAt2 cS.view (S.c c) _) (readAt2 cR.view (S.c (pr c)) _)
  isplitl [H11]
  · iexists _
    isplitr
    rotate_left
    · iexact H11
    · ipureintro
      refine (read_joinW c M11 f11 (c.val % 2) (Nat.mod_lt _ (by omega)) _ _ (k0_off5_eq c) (k0_off4_eq c) _ _ _ _).trans ?_
      exact congrArg₂ (joinW (c.val % 2)) (readAt2 kS.view (S.k c) _) (readAt2 kR.view (S.k (pr c)) _)
  isplitl [H12]
  · iexists _
    isplitr
    rotate_left
    · iexact H12
    · ipureintro
      refine (read_joinW c M12 f12 (c.val % 2) (Nat.mod_lt _ (by omega)) _ _ (k0_off5_eq c) (k0_off4_eq c) _ _ _ _).trans ?_
      exact congrArg₂ (joinW (c.val % 2)) (readAt2 vS.view (S.v c) _) (readAt2 vR.view (S.v (pr c)) _)
  iexists _; iexact HO

end Cert.Mla
end
-- ==== Proof.Data.lean ====
module

public import proofs.«01_k».proof.Proof.Exchange
public import proofs.«01_k».proof.Proof.Gen.KernelIdeal.Launch
public import proofs.«01_k».proof.Proof.Gen.KernelIdeal.Points
public import proofs.«01_k».proof.Proof.Gen.KernelIdeal.Regions

/-! What each grid point of the exchange finds and leaves, as the pipeline's proof data, and the body's obligation at each of the four points. -/

@[expose] public section

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)

variable {F : FTy → Type} [FloatOps F]

/-- A whole buffer owned at what its memref reads is its points-to. -/
theorem owns_elim (c : Dev nD) {sp : Space} {s : Shape} {e : EltTy} {M : Memref sig .tc sp s e} (hM : M.IsWhole) (X : s.Idx → Elt F e) :
    (owns (c : Thread nD τ) M fullShare X : sProp (MM F)) ⊢ iprop(∃ f, ⌜M.view.read (Elt F) f = X⌝ ∗ pt c M f) := by
  unfold owns
  rw [hM.set_eq_univ]

/-- A points-to to a whole buffer is that buffer owned at what its memref reads. -/
theorem owns_intro (c : Dev nD) {sp : Space} {s : Shape} {e : EltTy} {M : Memref sig .tc sp s e} (hM : M.IsWhole) (X : s.Idx → Elt F e) :
    iprop(∃ f, ⌜M.view.read (Elt F) f = X⌝ ∗ pt c M f) ⊢ (owns (c : Thread nD τ) M fullShare X : sProp (MM F)) := by
  unfold owns
  rw [hM.set_eq_univ]

/-- The same of contents named beforehand. -/
theorem owns_at (c : Dev nD) {sp : Space} {s : Shape} {e : EltTy} {M : Memref sig .tc sp s e} (hM : M.IsWhole) {X : s.Idx → Elt F e}
    {f : Bf F c M} (h : M.view.read (Elt F) f = X) :
    (pt c M f : sProp (MM F)) ⊢ owns (c : Thread nD τ) M fullShare X := by
  refine BIBase.Entails.trans ?_ (owns_intro c hM X)
  iintro H
  iexists f
  isplitr; · ipureintro; exact h
  iexact H

variable (m : (ℓ : Loc nD τ sig) → Buf (Elt F) ℓ)

/-- The activations a point reads. -/
def xb (c : Dev nD) (t : Fin cfg0.N) : Vec F S1024x2048 .f32 := ((cfg0.win 0).blk t).view.read (Elt F) (V1 m c main_v1)
/-- The block of the down-projection a point reads. -/
def wdkvb (c : Dev nD) (t : Fin cfg0.N) : Vec F S2048x128 .f32 := ((cfg0.win 1).blk t).view.read (Elt F) (V1 m c main_arg1)
/-- The block of the keys' up-projection a point reads. -/
def wukb (c : Dev nD) (t : Fin cfg0.N) : Vec F S128x2048 .f32 := ((cfg0.win 2).blk t).view.read (Elt F) (V1 m c main_arg2)
/-- The block of the values' up-projection a point reads. -/
def wuvb (c : Dev nD) (t : Fin cfg0.N) : Vec F S128x2048 .f32 := ((cfg0.win 3).blk t).view.read (Elt F) (V1 m c main_arg3)
/-- The rotary keys' projection a point reads. -/
def wkrb (c : Dev nD) (t : Fin cfg0.N) : Vec F S2048x32 .f32 := ((cfg0.win 4).blk t).view.read (Elt F) (V1 m c main_arg6)
/-- The block of the queries' projection a point reads. -/
def wqb (c : Dev nD) (t : Fin cfg0.N) : Vec F S2048x512 .f32 := ((cfg0.win 5).blk t).view.read (Elt F) (V1 m c main_arg4)
/-- The rotary queries' projection a point reads. -/
def wqrb (c : Dev nD) (t : Fin cfg0.N) : Vec F S2048x512 .f32 := ((cfg0.win 6).blk t).view.read (Elt F) (V1 m c main_arg5)

/-- What every device sends. -/
def snt : Sent F where
  c c := k0_pay8 (xb m c t0_0) (wdkvb m c t0_0)
  k c := k0_pay6 (wukb m c t0_0)
  v c := k0_pay7 (wuvb m c t0_0)

/-- The rotary queries the first point stores. -/
def qrs (c : Dev nD) : Vec F S4x1024x128 .bf16 := qrAll (xb m c t0_0) (wqrb m c t0_0)

/-- The seven working buffers of the exchange, at any contents. -/
def works (c : Dev nD) : sProp (MM F) :=
  iprop((∃ f, pt c cS f) ∗ (∃ f, pt c cR f) ∗ (∃ f, pt c kS f) ∗ (∃ f, pt c kR f) ∗ (∃ f, pt c vS f) ∗ (∃ f, pt c vR f) ∗ (∃ f, pt c qS f))

/-- A buffer of the device at any contents. -/
def anyBuf (c : Dev nD) (b : Ref sig .tc) : sProp (MM F) :=
  iprop(∃ f : Buf (Elt F) ((c : Thread nD τ).loc b), ((c : Thread nD τ).loc b) ↦{fullShare} f)

/-- The buffers of the other call, which the exchange never touches. -/
def others (c : Dev nD) : sProp (MM F) :=
  iprop(anyBuf c cc1_stg0_0 ∗ anyBuf c cc1_stg0_1 ∗ anyBuf c cc1_stg1_0 ∗ anyBuf c cc1_stg1_1 ∗ anyBuf c cc1_stg2_0 ∗ anyBuf c cc1_stg2_1
    ∗ anyBuf c cc1_stg3_0 ∗ anyBuf c cc1_stg4_0 ∗ anyBuf c cc1_stg5_0 ∗ anyBuf c cc1_stg6_0 ∗ anyBuf c cc1_stg6_1
    ∗ anyBuf c cc1_scratch0 ∗ anyBuf c cc1_scratch1 ∗ anyBuf c cc1_scratch2)

/-- Before the first point: the protocol open, nothing sent. -/
def phiA (c : Dev nD) : sProp (MM F) := iprop((∃ K, opened (snt m) K c) ∗ creds c ∗ levAts L lv ∗ works c ∗ others c ∗ ∃ r, prngReg c r)
/-- Between the points: everything sent, the rotary queries stored. -/
def phiB (c : Dev nD) : sProp (MM F) := iprop((∃ K, sent (snt m) K c) ∗ pt c qS (qrs m c) ∗ others c ∗ ∃ r, prngReg c r)
/-- After the last point: every cell closed and every buffer back. -/
def phiC (c : Dev nD) : sProp (MM F) := iprop(semVal (barCell c) 0 ∗ closed c ∗ works c ∗ others c ∗ ∃ r, prngReg c r)

/-- The exchange's proof data on one device. -/
def dat0 (c : Dev nD) : Dat τ (Elt F) Unit ℕ UU ℕ cfg0 c where
  A w := V1 m c (Proc.devRef .tc (Pipeline.arrRef spec0 w))
  after := fun
    | 0 => fun t => xb m c t
    | 1 => fun t => wdkvb m c t
    | 2 => fun t => wukb m c t
    | 3 => fun t => wuvb m c t
    | 4 => fun t => wkrb m c t
    | 5 => fun t => wqb m c t
    | 6 => fun t => wqrb m c t
    | 7 => fun t => qOut (xb m c t) (wqb m c t) (qrAt (grp (grid0.coords t)) (qrs m c))
    | 8 => fun _ => k0_pay9 (xb m c t0_0) (wkrb m c t0_0)
    | 9 => fun _ => joinC (c.val % 2) ((snt m).c c) ((snt m).c (pr c))
    | 10 => fun _ => joinW (c.val % 2) ((snt m).k c) ((snt m).k (pr c))
    | 11 => fun _ => joinW (c.val % 2) ((snt m).v c) ((snt m).v (pr c))
    | ⟨_ + 12, h⟩ => absurd h (Nat.not_lt.2 (Nat.le_add_left _ _))
  Φ t := if t.val = 0 then phiA m c else if t.val = 4 then phiC c else phiB m c
  q _ := fullShare
  owed t := if t.val = 0 then O₀ c else 0

/-- What a point is handed of a window's buffer. -/
abbrev handed0 (c : Dev nD) (w : Fin 12) (t : Fin cfg0.N) : sProp (MM F) :=
  iprop(∃ d, owns (c : Thread nD τ) ((cfg0.win w).stage (cfg0.slots t w)) fullShare ((dat0 m c).before w t d))

/-- A window the body writes at the point is left at what the data says. -/
theorem leaves0 (c : Dev nD) (w : Fin 12) (t : Fin cfg0.N) (h : cfg0.idle w (cfg0.grid.coords t) = false) :
    (dat0 m c).leavesExact w t = owns (c : Thread nD τ) ((cfg0.win w).stage (cfg0.slots t w)) fullShare ((dat0 m c).after w t) := by
  unfold Dat.leavesExact; rw [h]

/-- A window written back at the point is left at what the data says. -/
theorem leavesF0 (c : Dev nD) (w : Fin 12) (t : Fin cfg0.N) (hi : cfg0.idle w (cfg0.grid.coords t) = true) (h : (cfg0.win w).flush t = true) :
    (dat0 m c).leavesExact w t = owns (c : Thread nD τ) ((cfg0.win w).stage (cfg0.slots t w)) fullShare ((dat0 m c).after w t) := by
  unfold Dat.leavesExact; rw [hi, h]

/-- Input window 0 holds its block at every point. -/
theorem before0_0 (c : Dev nD) (t : Fin cfg0.N) (d) : (dat0 m c).before 0 t d = xb m c t :=
  ((dat0 m c).before_in_eq_fetched 0 rfl (fun _ => rfl) (fun _ _ _ => rfl) (fun _ => rfl) t d).trans rfl
/-- Input window 1 holds its block at every point. -/
theorem before0_1 (c : Dev nD) (t : Fin cfg0.N) (d) : (dat0 m c).before 1 t d = wdkvb m c t :=
  ((dat0 m c).before_in_eq_fetched 1 rfl (fun _ => rfl) (fun _ _ _ => rfl) (fun _ => rfl) t d).trans rfl
/-- Input window 2 holds its block at every point. -/
theorem before0_2 (c : Dev nD) (t : Fin cfg0.N) (d) : (dat0 m c).before 2 t d = wukb m c t :=
  ((dat0 m c).before_in_eq_fetched 2 rfl (fun _ => rfl) (fun _ _ _ => rfl) (fun _ => rfl) t d).trans rfl
/-- Input window 3 holds its block at every point. -/
theorem before0_3 (c : Dev nD) (t : Fin cfg0.N) (d) : (dat0 m c).before 3 t d = wuvb m c t :=
  ((dat0 m c).before_in_eq_fetched 3 rfl (fun _ => rfl) (fun _ _ _ => rfl) (fun _ => rfl) t d).trans rfl
/-- Input window 4 holds its block at every point. -/
theorem before0_4 (c : Dev nD) (t : Fin cfg0.N) (d) : (dat0 m c).before 4 t d = wkrb m c t :=
  ((dat0 m c).before_in_eq_fetched 4 rfl (fun _ => rfl) (fun _ _ _ => rfl) (fun _ => rfl) t d).trans rfl
/-- Input window 5 holds its block at every point. -/
theorem before0_5 (c : Dev nD) (t : Fin cfg0.N) (d) : (dat0 m c).before 5 t d = wqb m c t :=
  ((dat0 m c).before_in_eq_fetched 5 rfl (fun _ => rfl) (fun _ _ _ => rfl) (fun _ => rfl) t d).trans rfl
/-- Input window 6 holds its block at every point. -/
theorem before0_6 (c : Dev nD) (t : Fin cfg0.N) (d) : (dat0 m c).before 6 t d = wqrb m c t :=
  ((dat0 m c).before_in_eq_fetched 6 rfl (fun _ => rfl) (fun _ _ _ => rfl) (fun _ => rfl) t d).trans rfl
/-- What a point finds in window 0, as a points-to. -/
theorem got0_0 (c : Dev nD) (t : Fin cfg0.N) : (handed0 m c 0 t : sProp (MM F))
    ⊢ iprop(∃ f, ⌜((cfg0.win 0).stage (cfg0.slots t 0)).view.read (Elt F) f = xb m c t⌝ ∗ pt c ((cfg0.win 0).stage (cfg0.slots t 0)) f) := by
  refine BIBase.Entails.trans ?_ (owns_elim c (hstage0_0 ((cfg0.slots t 0).cast nbuf0_0)) _)
  iintro ⟨%d, H⟩
  rw [before0_0]
  iexact H
/-- What a point finds in window 1, as a points-to. -/
theorem got0_1 (c : Dev nD) (t : Fin cfg0.N) : (handed0 m c 1 t : sProp (MM F))
    ⊢ iprop(∃ f, ⌜((cfg0.win 1).stage (cfg0.slots t 1)).view.read (Elt F) f = wdkvb m c t⌝ ∗ pt c ((cfg0.win 1).stage (cfg0.slots t 1)) f) := by
  refine BIBase.Entails.trans ?_ (owns_elim c (hstage0_1 ((cfg0.slots t 1).cast nbuf0_1)) _)
  iintro ⟨%d, H⟩
  rw [before0_1]
  iexact H
/-- What a point finds in window 2, as a points-to. -/
theorem got0_2 (c : Dev nD) (t : Fin cfg0.N) : (handed0 m c 2 t : sProp (MM F))
    ⊢ iprop(∃ f, ⌜((cfg0.win 2).stage (cfg0.slots t 2)).view.read (Elt F) f = wukb m c t⌝ ∗ pt c ((cfg0.win 2).stage (cfg0.slots t 2)) f) := by
  refine BIBase.Entails.trans ?_ (owns_elim c (hstage0_2 ((cfg0.slots t 2).cast nbuf0_2)) _)
  iintro ⟨%d, H⟩
  rw [before0_2]
  iexact H
/-- What a point finds in window 3, as a points-to. -/
theorem got0_3 (c : Dev nD) (t : Fin cfg0.N) : (handed0 m c 3 t : sProp (MM F))
    ⊢ iprop(∃ f, ⌜((cfg0.win 3).stage (cfg0.slots t 3)).view.read (Elt F) f = wuvb m c t⌝ ∗ pt c ((cfg0.win 3).stage (cfg0.slots t 3)) f) := by
  refine BIBase.Entails.trans ?_ (owns_elim c (hstage0_3 ((cfg0.slots t 3).cast nbuf0_3)) _)
  iintro ⟨%d, H⟩
  rw [before0_3]
  iexact H
/-- What a point finds in window 4, as a points-to. -/
theorem got0_4 (c : Dev nD) (t : Fin cfg0.N) : (handed0 m c 4 t : sProp (MM F))
    ⊢ iprop(∃ f, ⌜((cfg0.win 4).stage (cfg0.slots t 4)).view.read (Elt F) f = wkrb m c t⌝ ∗ pt c ((cfg0.win 4).stage (cfg0.slots t 4)) f) := by
  refine BIBase.Entails.trans ?_ (owns_elim c (hstage0_4 ((cfg0.slots t 4).cast nbuf0_4)) _)
  iintro ⟨%d, H⟩
  rw [before0_4]
  iexact H
/-- What a point finds in window 5, as a points-to. -/
theorem got0_5 (c : Dev nD) (t : Fin cfg0.N) : (handed0 m c 5 t : sProp (MM F))
    ⊢ iprop(∃ f, ⌜((cfg0.win 5).stage (cfg0.slots t 5)).view.read (Elt F) f = wqb m c t⌝ ∗ pt c ((cfg0.win 5).stage (cfg0.slots t 5)) f) := by
  refine BIBase.Entails.trans ?_ (owns_elim c (hstage0_5 ((cfg0.slots t 5).cast nbuf0_5)) _)
  iintro ⟨%d, H⟩
  rw [before0_5]
  iexact H
/-- What a point finds in window 6, as a points-to. -/
theorem got0_6 (c : Dev nD) (t : Fin cfg0.N) : (handed0 m c 6 t : sProp (MM F))
    ⊢ iprop(∃ f, ⌜((cfg0.win 6).stage (cfg0.slots t 6)).view.read (Elt F) f = wqrb m c t⌝ ∗ pt c ((cfg0.win 6).stage (cfg0.slots t 6)) f) := by
  refine BIBase.Entails.trans ?_ (owns_elim c (hstage0_6 ((cfg0.slots t 6).cast nbuf0_6)) _)
  iintro ⟨%d, H⟩
  rw [before0_6]
  iexact H
/-- What a point finds in window 7, as a points-to. -/
theorem got0_7 (c : Dev nD) (t : Fin cfg0.N) : (handed0 m c 7 t : sProp (MM F))
    ⊢ iprop(∃ f, pt c ((cfg0.win 7).stage (cfg0.slots t 7)) f) := by
  iintro ⟨%d, H⟩
  ihave H' := (owns_elim c (M := (cfg0.win 7).stage (cfg0.slots t 7)) (hstage0_7 ((cfg0.slots t 7).cast nbuf0_7)) _) $$ H
  icases H' with ⟨%f, -, H⟩
  iexists f
  iexact H
/-- What a point finds in window 8, as a points-to. -/
theorem got0_8 (c : Dev nD) (t : Fin cfg0.N) : (handed0 m c 8 t : sProp (MM F))
    ⊢ iprop(∃ f, pt c ((cfg0.win 8).stage (cfg0.slots t 8)) f) := by
  iintro ⟨%d, H⟩
  ihave H' := (owns_elim c (M := (cfg0.win 8).stage (cfg0.slots t 8)) (hstage0_8 ((cfg0.slots t 8).cast nbuf0_8)) _) $$ H
  icases H' with ⟨%f, -, H⟩
  iexists f
  iexact H
/-- What a point finds in window 9, as a points-to. -/
theorem got0_9 (c : Dev nD) (t : Fin cfg0.N) : (handed0 m c 9 t : sProp (MM F))
    ⊢ iprop(∃ f, pt c ((cfg0.win 9).stage (cfg0.slots t 9)) f) := by
  iintro ⟨%d, H⟩
  ihave H' := (owns_elim c (M := (cfg0.win 9).stage (cfg0.slots t 9)) (hstage0_9 ((cfg0.slots t 9).cast nbuf0_9)) _) $$ H
  icases H' with ⟨%f, -, H⟩
  iexists f
  iexact H
/-- What a point finds in window 10, as a points-to. -/
theorem got0_10 (c : Dev nD) (t : Fin cfg0.N) : (handed0 m c 10 t : sProp (MM F))
    ⊢ iprop(∃ f, pt c ((cfg0.win 10).stage (cfg0.slots t 10)) f) := by
  iintro ⟨%d, H⟩
  ihave H' := (owns_elim c (M := (cfg0.win 10).stage (cfg0.slots t 10)) (hstage0_10 ((cfg0.slots t 10).cast nbuf0_10)) _) $$ H
  icases H' with ⟨%f, -, H⟩
  iexists f
  iexact H
/-- What a point finds in window 11, as a points-to. -/
theorem got0_11 (c : Dev nD) (t : Fin cfg0.N) : (handed0 m c 11 t : sProp (MM F))
    ⊢ iprop(∃ f, pt c ((cfg0.win 11).stage (cfg0.slots t 11)) f) := by
  iintro ⟨%d, H⟩
  ihave H' := (owns_elim c (M := (cfg0.win 11).stage (cfg0.slots t 11)) (hstage0_11 ((cfg0.slots t 11).cast nbuf0_11)) _) $$ H
  icases H' with ⟨%f, -, H⟩
  iexists f
  iexact H

/-- The first stage of the exchange runs at the first point only, the last at the last only. -/
theorem conds0 : (k0_cond1 (grid0.coords t0_0) = 1#1 ∧ ¬ k0_cond2 (grid0.coords t0_0) = 1#1)
    ∧ (¬ k0_cond1 (grid0.coords t0_1) = 1#1 ∧ ¬ k0_cond2 (grid0.coords t0_1) = 1#1)
    ∧ (¬ k0_cond1 (grid0.coords t0_2) = 1#1 ∧ ¬ k0_cond2 (grid0.coords t0_2) = 1#1)
    ∧ (¬ k0_cond1 (grid0.coords t0_3) = 1#1 ∧ k0_cond2 (grid0.coords t0_3) = 1#1) := by decide +kernel

/-- Where the rotary keys are not stored the window is idle. -/
theorem idle0_8 (t : Fin cfg0.N) (h : ¬ k0_cond1 (grid0.coords t) = 1#1) : cfg0.idle 8 (cfg0.grid.coords t) = true := by
  show (!(k0_cond1 (grid0.coords t) == 1#1)) = true
  rw [beq_eq_false_iff_ne.mpr h]; rfl

/-- Where they are stored it is not. -/
theorem live0_8 (t : Fin cfg0.N) (h : k0_cond1 (grid0.coords t) = 1#1) : cfg0.idle 8 (cfg0.grid.coords t) = false := by
  show (!(k0_cond1 (grid0.coords t) == 1#1)) = false
  rw [h]; rfl

/-- The joined matrices are written at the last point only. -/
theorem idle0_9 (t : Fin cfg0.N) (h : ¬ k0_cond2 (grid0.coords t) = 1#1) : (!(k0_cond2 (grid0.coords t) == 1#1)) = true := by
  rw [beq_eq_false_iff_ne.mpr h]; rfl

/-- And there they are. -/
theorem live0_9 (t : Fin cfg0.N) (h : k0_cond2 (grid0.coords t) = 1#1) : (!(k0_cond2 (grid0.coords t) == 1#1)) = false := by
  rw [h]; rfl

/-- The last point finds the rotary keys as the first left them. -/
theorem before0_8 (c : Dev nD) (d) : (dat0 m c).before 8 t0_3 d = k0_pay9 (xb m c t0_0) (wkrb m c t0_0) := by
  have nf : ∀ t : Fin cfg0.N, t.val % 4 ≠ 3 → (cfg0.win 8).flush t = false := fun t h => by
    rw [Bool.eq_false_iff]; exact mt (flush0_8 t).mp h
  have st : ∀ (t t' : Fin cfg0.N) (hv : t.val = t'.val + 1) (hm : t'.val % 4 ≠ 3) (hc : ¬ k0_cond1 (grid0.coords t') = 1#1),
      (dat0 m c).before 8 t d = (dat0 m c).before 8 t' d := fun t t' hv hm hc => by
    have e : (⟨t.val - 1, Nat.lt_of_le_of_lt (Nat.sub_le _ _) t.isLt⟩ : Fin cfg0.N) = t' := Fin.ext (by simp only [hv]; omega)
    rw [(dat0 m c).before_of_pos 8 t (by omega) ((cfg0.win 8).fetch_out rfl t) d, e, nf t' hm, if_neg Bool.false_ne_true]
    unfold Dat.left; rw [idle0_8 t' hc]
  rw [st t0_3 t0_2 rfl (by decide) conds0.2.2.1.1, st t0_2 t0_1 rfl (by decide) conds0.2.1.1,
    (dat0 m c).before_of_pos 8 t0_1 (by decide) ((cfg0.win 8).fetch_out rfl _) d,
    show (⟨t0_1.val - 1, Nat.lt_of_le_of_lt (Nat.sub_le _ _) t0_1.isLt⟩ : Fin cfg0.N) = t0_0 from rfl, nf t0_0 (by decide), if_neg Bool.false_ne_true]
  unfold Dat.left; rw [live0_8 t0_0 conds0.1.1]; rfl

/-- Owing with any record of waits, as the data states it. -/
theorem owesAt_of {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    iprop(∃ W, owes (c : Thread nD τ) O W) ⊢ (dat.owesAt () t : sProp (MM F)) := by
  unfold Dat.owesAt Pipeline.owesWithin Dat.bound
  rw [h0, hr]
  iintro ⟨%W, H⟩
  iexists W
  isplitr; · ipureintro; exact fun _ _ => Or.inl trivial
  iexact H

/-- What is owed at a point, the record of waits left open. -/
theorem owesAt_to {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp (MM F)) ⊢ iprop(∃ W, owes (c : Thread nD τ) O W) := by
  unfold Dat.owesAt Pipeline.owesWithin
  rw [h0]
  iintro ⟨%W, -, H⟩
  iexists W
  iexact H

/-- The first point starts owing its signal and its landings. -/
theorem owed_first (c : Dev nD) : (dat0 m c).owed t0_0.castSucc = O₀ c := by
  show (if (t0_0.castSucc : Fin (cfg0.N + 1)).val = 0 then O₀ c else 0) = O₀ c
  exact if_pos rfl

/-- The first point of the exchange. -/
theorem bodyFirst (c : Dev nD) :
    iprop(phiA m c ∗ (dat0 m c).owesAt () t0_0.castSucc ∗ handed0 m c 0 t0_0 ∗ handed0 m c 1 t0_0 ∗ handed0 m c 2 t0_0 ∗ handed0 m c 3 t0_0 ∗ handed0 m c 4 t0_0 ∗ handed0 m c 5 t0_0 ∗ handed0 m c 6 t0_0 ∗ handed0 m c 7 t0_0 ∗ handed0 m c 8 t0_0 ∗ handed0 m c 9 t0_0 ∗ handed0 m c 10 t0_0 ∗ handed0 m c 11 t0_0)
      ⊢ wp frame (wpE (defs₀ (F := F)) 𝒱₀ c none) Set.univ (bodyAt0 t0_0)
          fun _ => iprop(phiB m c ∗ (dat0 m c).owesAt () t0_0.succ
            ∗ owns (c : Thread nD τ) ((cfg0.win 0).stage (cfg0.slots t0_0 0)) fullShare ((dat0 m c).after 0 t0_0) ∗ owns (c : Thread nD τ) ((cfg0.win 1).stage (cfg0.slots t0_0 1)) fullShare ((dat0 m c).after 1 t0_0) ∗ owns (c : Thread nD τ) ((cfg0.win 2).stage (cfg0.slots t0_0 2)) fullShare ((dat0 m c).after 2 t0_0) ∗ owns (c : Thread nD τ) ((cfg0.win 3).stage (cfg0.slots t0_0 3)) fullShare ((dat0 m c).after 3 t0_0) ∗ owns (c : Thread nD τ) ((cfg0.win 4).stage (cfg0.slots t0_0 4)) fullShare ((dat0 m c).after 4 t0_0) ∗ owns (c : Thread nD τ) ((cfg0.win 5).stage (cfg0.slots t0_0 5)) fullShare ((dat0 m c).after 5 t0_0) ∗ owns (c : Thread nD τ) ((cfg0.win 6).stage (cfg0.slots t0_0 6)) fullShare ((dat0 m c).after 6 t0_0) ∗ owns (c : Thread nD τ) ((cfg0.win 7).stage (cfg0.slots t0_0 7)) fullShare ((dat0 m c).after 7 t0_0) ∗ owns (c : Thread nD τ) ((cfg0.win 8).stage (cfg0.slots t0_0 8)) fullShare ((dat0 m c).after 8 t0_0) ∗ handed0 m c 9 t0_0 ∗ handed0 m c 10 t0_0 ∗ handed0 m c 11 t0_0) := by
  unfold phiA phiB works
  iintro ⟨⟨⟨%K, Hop⟩, Hcr, Hlv, Hwk, Hoth, Hp⟩, HO, H0, H1, H2, H3, H4, H5, H6, H7, H8, H9, H10, H11⟩
  ihave G0 := (got0_0 m c t0_0) $$ H0
  icases G0 with ⟨%f0, %e0, G0⟩
  ihave G1 := (got0_1 m c t0_0) $$ H1
  icases G1 with ⟨%f1, %e1, G1⟩
  ihave G2 := (got0_2 m c t0_0) $$ H2
  icases G2 with ⟨%f2, %e2, G2⟩
  ihave G3 := (got0_3 m c t0_0) $$ H3
  icases G3 with ⟨%f3, %e3, G3⟩
  ihave G4 := (got0_4 m c t0_0) $$ H4
  icases G4 with ⟨%f4, %e4, G4⟩
  ihave G5 := (got0_5 m c t0_0) $$ H5
  icases G5 with ⟨%f5, %e5, G5⟩
  ihave G6 := (got0_6 m c t0_0) $$ H6
  icases G6 with ⟨%f6, %e6, G6⟩
  ihave G7 := (got0_7 m c t0_0) $$ H7
  icases G7 with ⟨%f7, G7⟩
  ihave G8 := (got0_8 m c t0_0) $$ H8
  icases G8 with ⟨%f8, G8⟩
  ihave HO' := (owesAt_to (dat0 m c) _ (O₀ c) (owed_first m c)) $$ HO
  icases HO' with ⟨%W, HO⟩
  iapply (firstRun (snt m) K c (grid0.coords t0_0) conds0.1.1 conds0.1.2
      ((cfg0.win 0).stage (cfg0.slots t0_0 0)) (hstage0_0 ((cfg0.slots t0_0 0).cast nbuf0_0))
      ((cfg0.win 1).stage (cfg0.slots t0_0 1)) (hstage0_1 ((cfg0.slots t0_0 1).cast nbuf0_1))
      ((cfg0.win 2).stage (cfg0.slots t0_0 2)) (hstage0_2 ((cfg0.slots t0_0 2).cast nbuf0_2))
      ((cfg0.win 3).stage (cfg0.slots t0_0 3)) (hstage0_3 ((cfg0.slots t0_0 3).cast nbuf0_3))
      ((cfg0.win 4).stage (cfg0.slots t0_0 4)) (hstage0_4 ((cfg0.slots t0_0 4).cast nbuf0_4))
      ((cfg0.win 5).stage (cfg0.slots t0_0 5)) (hstage0_5 ((cfg0.slots t0_0 5).cast nbuf0_5))
      ((cfg0.win 6).stage (cfg0.slots t0_0 6)) (hstage0_6 ((cfg0.slots t0_0 6).cast nbuf0_6))
      ((cfg0.win 7).stage (cfg0.slots t0_0 7)) (hstage0_7 ((cfg0.slots t0_0 7).cast nbuf0_7))
      ((cfg0.win 8).stage (cfg0.slots t0_0 8)) (hstage0_8 ((cfg0.slots t0_0 8).cast nbuf0_8))
      ((cfg0.win 9).stage (cfg0.slots t0_0 9)) (hstage0_9 ((cfg0.slots t0_0 9).cast nbuf0_9))
      ((cfg0.win 10).stage (cfg0.slots t0_0 10)) (hstage0_10 ((cfg0.slots t0_0 10).cast nbuf0_10))
      ((cfg0.win 11).stage (cfg0.slots t0_0 11)) (hstage0_11 ((cfg0.slots t0_0 11).cast nbuf0_11))
      f0 f1 f2 f3 f4 f5 f6 f7 f8 (by rw [e2]; rfl) (by rw [e3]; rfl) (by rw [e0, e1]; rfl) W _)
  rw [e0, e4, e5, e6]
  isplitl [Hop]; · iexact Hop
  isplitl [Hcr]; · iexact Hcr
  isplitl [Hlv]; · iexact Hlv
  isplitl [Hwk]; · iexact Hwk
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [HO]; · iexact HO
  iintro ⟨Hsent, HqS, G0, G1, G2, G3, G4, G5, G6, G7, G8, HO⟩
  isplitl [Hsent HqS Hoth Hp]
  · isplitl [Hsent]; · iexists K; iexact Hsent
    isplitl [HqS]; · iexact HqS
    isplitl [Hoth] <;> iassumption
  isplitl [HO]
  · iapply (owesAt_of (dat0 m c) _ 0 (if_neg (by decide)) rfl)
    iexact HO
  isplitl [G0]
  · iapply (owns_at c (hstage0_0 ((cfg0.slots t0_0 0).cast nbuf0_0)) e0)
    iexact G0
  isplitl [G1]
  · iapply (owns_at c (hstage0_1 ((cfg0.slots t0_0 1).cast nbuf0_1)) e1)
    iexact G1
  isplitl [G2]
  · iapply (owns_at c (hstage0_2 ((cfg0.slots t0_0 2).cast nbuf0_2)) e2)
    iexact G2
  isplitl [G3]
  · iapply (owns_at c (hstage0_3 ((cfg0.slots t0_0 3).cast nbuf0_3)) e3)
    iexact G3
  isplitl [G4]
  · iapply (owns_at c (hstage0_4 ((cfg0.slots t0_0 4).cast nbuf0_4)) e4)
    iexact G4
  isplitl [G5]
  · iapply (owns_at c (hstage0_5 ((cfg0.slots t0_0 5).cast nbuf0_5)) e5)
    iexact G5
  isplitl [G6]
  · iapply (owns_at c (hstage0_6 ((cfg0.slots t0_0 6).cast nbuf0_6)) e6)
    iexact G6
  isplitl [G7]
  · iapply (owns_intro c (hstage0_7 ((cfg0.slots t0_0 7).cast nbuf0_7)) _)
    iexact G7
  isplitl [G8]
  · iapply (owns_intro c (hstage0_8 ((cfg0.slots t0_0 8).cast nbuf0_8)) _)
    iexact G8
  isplitl [H9]
  · iexact H9
  isplitl [H10]
  · iexact H10
  iexact H11

/-- The second point of the exchange. -/
theorem bodySecond (c : Dev nD) :
    iprop(phiB m c ∗ (dat0 m c).owesAt () t0_1.castSucc ∗ handed0 m c 0 t0_1 ∗ handed0 m c 1 t0_1 ∗ handed0 m c 2 t0_1 ∗ handed0 m c 3 t0_1 ∗ handed0 m c 4 t0_1 ∗ handed0 m c 5 t0_1 ∗ handed0 m c 6 t0_1 ∗ handed0 m c 7 t0_1 ∗ handed0 m c 8 t0_1 ∗ handed0 m c 9 t0_1 ∗ handed0 m c 10 t0_1 ∗ handed0 m c 11 t0_1)
      ⊢ wp frame (wpE (defs₀ (F := F)) 𝒱₀ c none) Set.univ (bodyAt0 t0_1)
          fun _ => iprop(phiB m c ∗ (dat0 m c).owesAt () t0_1.succ
            ∗ owns (c : Thread nD τ) ((cfg0.win 0).stage (cfg0.slots t0_1 0)) fullShare ((dat0 m c).after 0 t0_1) ∗ owns (c : Thread nD τ) ((cfg0.win 1).stage (cfg0.slots t0_1 1)) fullShare ((dat0 m c).after 1 t0_1) ∗ owns (c : Thread nD τ) ((cfg0.win 2).stage (cfg0.slots t0_1 2)) fullShare ((dat0 m c).after 2 t0_1) ∗ owns (c : Thread nD τ) ((cfg0.win 3).stage (cfg0.slots t0_1 3)) fullShare ((dat0 m c).after 3 t0_1) ∗ owns (c : Thread nD τ) ((cfg0.win 4).stage (cfg0.slots t0_1 4)) fullShare ((dat0 m c).after 4 t0_1) ∗ owns (c : Thread nD τ) ((cfg0.win 5).stage (cfg0.slots t0_1 5)) fullShare ((dat0 m c).after 5 t0_1) ∗ owns (c : Thread nD τ) ((cfg0.win 6).stage (cfg0.slots t0_1 6)) fullShare ((dat0 m c).after 6 t0_1) ∗ owns (c : Thread nD τ) ((cfg0.win 7).stage (cfg0.slots t0_1 7)) fullShare ((dat0 m c).after 7 t0_1) ∗ handed0 m c 8 t0_1 ∗ handed0 m c 9 t0_1 ∗ handed0 m c 10 t0_1 ∗ handed0 m c 11 t0_1) := by
  unfold phiB
  iintro ⟨⟨Hse, HqS, Hoth, Hp⟩, HO, H0, H1, H2, H3, H4, H5, H6, H7, H8, H9, H10, H11⟩
  ihave G0 := (got0_0 m c t0_1) $$ H0
  icases G0 with ⟨%f0, %e0, G0⟩
  ihave G1 := (got0_1 m c t0_1) $$ H1
  icases G1 with ⟨%f1, %e1, G1⟩
  ihave G2 := (got0_2 m c t0_1) $$ H2
  icases G2 with ⟨%f2, %e2, G2⟩
  ihave G3 := (got0_3 m c t0_1) $$ H3
  icases G3 with ⟨%f3, %e3, G3⟩
  ihave G4 := (got0_4 m c t0_1) $$ H4
  icases G4 with ⟨%f4, %e4, G4⟩
  ihave G5 := (got0_5 m c t0_1) $$ H5
  icases G5 with ⟨%f5, %e5, G5⟩
  ihave G6 := (got0_6 m c t0_1) $$ H6
  icases G6 with ⟨%f6, %e6, G6⟩
  ihave G7 := (got0_7 m c t0_1) $$ H7
  icases G7 with ⟨%f7, G7⟩
  ihave HO := (owesAt_to (dat0 m c) _ 0 (if_neg (by decide))) $$ HO
  iapply (midRun c (grid0.coords t0_1) conds0.2.1.1 conds0.2.1.2
      ((cfg0.win 0).stage (cfg0.slots t0_1 0)) (hstage0_0 ((cfg0.slots t0_1 0).cast nbuf0_0))
      ((cfg0.win 1).stage (cfg0.slots t0_1 1)) (hstage0_1 ((cfg0.slots t0_1 1).cast nbuf0_1))
      ((cfg0.win 2).stage (cfg0.slots t0_1 2)) (hstage0_2 ((cfg0.slots t0_1 2).cast nbuf0_2))
      ((cfg0.win 3).stage (cfg0.slots t0_1 3)) (hstage0_3 ((cfg0.slots t0_1 3).cast nbuf0_3))
      ((cfg0.win 4).stage (cfg0.slots t0_1 4)) (hstage0_4 ((cfg0.slots t0_1 4).cast nbuf0_4))
      ((cfg0.win 5).stage (cfg0.slots t0_1 5)) (hstage0_5 ((cfg0.slots t0_1 5).cast nbuf0_5))
      ((cfg0.win 6).stage (cfg0.slots t0_1 6)) (hstage0_6 ((cfg0.slots t0_1 6).cast nbuf0_6))
      ((cfg0.win 7).stage (cfg0.slots t0_1 7)) (hstage0_7 ((cfg0.slots t0_1 7).cast nbuf0_7))
      ((cfg0.win 8).stage (cfg0.slots t0_1 8)) (hstage0_8 ((cfg0.slots t0_1 8).cast nbuf0_8))
      ((cfg0.win 9).stage (cfg0.slots t0_1 9)) (hstage0_9 ((cfg0.slots t0_1 9).cast nbuf0_9))
      ((cfg0.win 10).stage (cfg0.slots t0_1 10)) (hstage0_10 ((cfg0.slots t0_1 10).cast nbuf0_10))
      ((cfg0.win 11).stage (cfg0.slots t0_1 11)) (hstage0_11 ((cfg0.slots t0_1 11).cast nbuf0_11))
      f0 f5 f7 (qrs m c) _)
  rw [e0, e5]
  isplitl [HqS]; · iexact HqS
  isplitl [G0]; · iexact G0
  isplitl [G5]; · iexact G5
  isplitl [G7]; · iexact G7
  iintro ⟨HqS, G0, G5, G7⟩
  isplitl [Hse HqS Hoth Hp]
  · isplitl [Hse]; · iexact Hse
    isplitl [HqS]; · iexact HqS
    isplitl [Hoth] <;> iassumption
  isplitl [HO]
  · iapply (owesAt_of (dat0 m c) _ 0 (if_neg (by decide)) rfl)
    iexact HO
  isplitl [G0]
  · iapply (owns_at c (hstage0_0 ((cfg0.slots t0_1 0).cast nbuf0_0)) e0)
    iexact G0
  isplitl [G1]
  · iapply (owns_at c (hstage0_1 ((cfg0.slots t0_1 1).cast nbuf0_1)) e1)
    iexact G1
  isplitl [G2]
  · iapply (owns_at c (hstage0_2 ((cfg0.slots t0_1 2).cast nbuf0_2)) e2)
    iexact G2
  isplitl [G3]
  · iapply (owns_at c (hstage0_3 ((cfg0.slots t0_1 3).cast nbuf0_3)) e3)
    iexact G3
  isplitl [G4]
  · iapply (owns_at c (hstage0_4 ((cfg0.slots t0_1 4).cast nbuf0_4)) e4)
    iexact G4
  isplitl [G5]
  · iapply (owns_at c (hstage0_5 ((cfg0.slots t0_1 5).cast nbuf0_5)) e5)
    iexact G5
  isplitl [G6]
  · iapply (owns_at c (hstage0_6 ((cfg0.slots t0_1 6).cast nbuf0_6)) e6)
    iexact G6
  isplitl [G7]
  · iapply (owns_intro c (hstage0_7 ((cfg0.slots t0_1 7).cast nbuf0_7)) _)
    iexact G7
  isplitl [H8]
  · iexact H8
  isplitl [H9]
  · iexact H9
  isplitl [H10]
  · iexact H10
  iexact H11

/-- The third point of the exchange. -/
theorem bodyThird (c : Dev nD) :
    iprop(phiB m c ∗ (dat0 m c).owesAt () t0_2.castSucc ∗ handed0 m c 0 t0_2 ∗ handed0 m c 1 t0_2 ∗ handed0 m c 2 t0_2 ∗ handed0 m c 3 t0_2 ∗ handed0 m c 4 t0_2 ∗ handed0 m c 5 t0_2 ∗ handed0 m c 6 t0_2 ∗ handed0 m c 7 t0_2 ∗ handed0 m c 8 t0_2 ∗ handed0 m c 9 t0_2 ∗ handed0 m c 10 t0_2 ∗ handed0 m c 11 t0_2)
      ⊢ wp frame (wpE (defs₀ (F := F)) 𝒱₀ c none) Set.univ (bodyAt0 t0_2)
          fun _ => iprop(phiB m c ∗ (dat0 m c).owesAt () t0_2.succ
            ∗ owns (c : Thread nD τ) ((cfg0.win 0).stage (cfg0.slots t0_2 0)) fullShare ((dat0 m c).after 0 t0_2) ∗ owns (c : Thread nD τ) ((cfg0.win 1).stage (cfg0.slots t0_2 1)) fullShare ((dat0 m c).after 1 t0_2) ∗ owns (c : Thread nD τ) ((cfg0.win 2).stage (cfg0.slots t0_2 2)) fullShare ((dat0 m c).after 2 t0_2) ∗ owns (c : Thread nD τ) ((cfg0.win 3).stage (cfg0.slots t0_2 3)) fullShare ((dat0 m c).after 3 t0_2) ∗ owns (c : Thread nD τ) ((cfg0.win 4).stage (cfg0.slots t0_2 4)) fullShare ((dat0 m c).after 4 t0_2) ∗ owns (c : Thread nD τ) ((cfg0.win 5).stage (cfg0.slots t0_2 5)) fullShare ((dat0 m c).after 5 t0_2) ∗ owns (c : Thread nD τ) ((cfg0.win 6).stage (cfg0.slots t0_2 6)) fullShare ((dat0 m c).after 6 t0_2) ∗ owns (c : Thread nD τ) ((cfg0.win 7).stage (cfg0.slots t0_2 7)) fullShare ((dat0 m c).after 7 t0_2) ∗ handed0 m c 8 t0_2 ∗ handed0 m c 9 t0_2 ∗ handed0 m c 10 t0_2 ∗ handed0 m c 11 t0_2) := by
  unfold phiB
  iintro ⟨⟨Hse, HqS, Hoth, Hp⟩, HO, H0, H1, H2, H3, H4, H5, H6, H7, H8, H9, H10, H11⟩
  ihave G0 := (got0_0 m c t0_2) $$ H0
  icases G0 with ⟨%f0, %e0, G0⟩
  ihave G1 := (got0_1 m c t0_2) $$ H1
  icases G1 with ⟨%f1, %e1, G1⟩
  ihave G2 := (got0_2 m c t0_2) $$ H2
  icases G2 with ⟨%f2, %e2, G2⟩
  ihave G3 := (got0_3 m c t0_2) $$ H3
  icases G3 with ⟨%f3, %e3, G3⟩
  ihave G4 := (got0_4 m c t0_2) $$ H4
  icases G4 with ⟨%f4, %e4, G4⟩
  ihave G5 := (got0_5 m c t0_2) $$ H5
  icases G5 with ⟨%f5, %e5, G5⟩
  ihave G6 := (got0_6 m c t0_2) $$ H6
  icases G6 with ⟨%f6, %e6, G6⟩
  ihave G7 := (got0_7 m c t0_2) $$ H7
  icases G7 with ⟨%f7, G7⟩
  ihave HO := (owesAt_to (dat0 m c) _ 0 (if_neg (by decide))) $$ HO
  iapply (midRun c (grid0.coords t0_2) conds0.2.2.1.1 conds0.2.2.1.2
      ((cfg0.win 0).stage (cfg0.slots t0_2 0)) (hstage0_0 ((cfg0.slots t0_2 0).cast nbuf0_0))
      ((cfg0.win 1).stage (cfg0.slots t0_2 1)) (hstage0_1 ((cfg0.slots t0_2 1).cast nbuf0_1))
      ((cfg0.win 2).stage (cfg0.slots t0_2 2)) (hstage0_2 ((cfg0.slots t0_2 2).cast nbuf0_2))
      ((cfg0.win 3).stage (cfg0.slots t0_2 3)) (hstage0_3 ((cfg0.slots t0_2 3).cast nbuf0_3))
      ((cfg0.win 4).stage (cfg0.slots t0_2 4)) (hstage0_4 ((cfg0.slots t0_2 4).cast nbuf0_4))
      ((cfg0.win 5).stage (cfg0.slots t0_2 5)) (hstage0_5 ((cfg0.slots t0_2 5).cast nbuf0_5))
      ((cfg0.win 6).stage (cfg0.slots t0_2 6)) (hstage0_6 ((cfg0.slots t0_2 6).cast nbuf0_6))
      ((cfg0.win 7).stage (cfg0.slots t0_2 7)) (hstage0_7 ((cfg0.slots t0_2 7).cast nbuf0_7))
      ((cfg0.win 8).stage (cfg0.slots t0_2 8)) (hstage0_8 ((cfg0.slots t0_2 8).cast nbuf0_8))
      ((cfg0.win 9).stage (cfg0.slots t0_2 9)) (hstage0_9 ((cfg0.slots t0_2 9).cast nbuf0_9))
      ((cfg0.win 10).stage (cfg0.slots t0_2 10)) (hstage0_10 ((cfg0.slots t0_2 10).cast nbuf0_10))
      ((cfg0.win 11).stage (cfg0.slots t0_2 11)) (hstage0_11 ((cfg0.slots t0_2 11).cast nbuf0_11))
      f0 f5 f7 (qrs m c) _)
  rw [e0, e5]
  isplitl [HqS]; · iexact HqS
  isplitl [G0]; · iexact G0
  isplitl [G5]; · iexact G5
  isplitl [G7]; · iexact G7
  iintro ⟨HqS, G0, G5, G7⟩
  isplitl [Hse HqS Hoth Hp]
  · isplitl [Hse]; · iexact Hse
    isplitl [HqS]; · iexact HqS
    isplitl [Hoth] <;> iassumption
  isplitl [HO]
  · iapply (owesAt_of (dat0 m c) _ 0 (if_neg (by decide)) rfl)
    iexact HO
  isplitl [G0]
  · iapply (owns_at c (hstage0_0 ((cfg0.slots t0_2 0).cast nbuf0_0)) e0)
    iexact G0
  isplitl [G1]
  · iapply (owns_at c (hstage0_1 ((cfg0.slots t0_2 1).cast nbuf0_1)) e1)
    iexact G1
  isplitl [G2]
  · iapply (owns_at c (hstage0_2 ((cfg0.slots t0_2 2).cast nbuf0_2)) e2)
    iexact G2
  isplitl [G3]
  · iapply (owns_at c (hstage0_3 ((cfg0.slots t0_2 3).cast nbuf0_3)) e3)
    iexact G3
  isplitl [G4]
  · iapply (owns_at c (hstage0_4 ((cfg0.slots t0_2 4).cast nbuf0_4)) e4)
    iexact G4
  isplitl [G5]
  · iapply (owns_at c (hstage0_5 ((cfg0.slots t0_2 5).cast nbuf0_5)) e5)
    iexact G5
  isplitl [G6]
  · iapply (owns_at c (hstage0_6 ((cfg0.slots t0_2 6).cast nbuf0_6)) e6)
    iexact G6
  isplitl [G7]
  · iapply (owns_intro c (hstage0_7 ((cfg0.slots t0_2 7).cast nbuf0_7)) _)
    iexact G7
  isplitl [H8]
  · iexact H8
  isplitl [H9]
  · iexact H9
  isplitl [H10]
  · iexact H10
  iexact H11

/-- The last point of the exchange. -/
theorem bodyLast (c : Dev nD) :
    iprop(phiB m c ∗ (dat0 m c).owesAt () t0_3.castSucc ∗ handed0 m c 0 t0_3 ∗ handed0 m c 1 t0_3 ∗ handed0 m c 2 t0_3 ∗ handed0 m c 3 t0_3 ∗ handed0 m c 4 t0_3 ∗ handed0 m c 5 t0_3 ∗ handed0 m c 6 t0_3 ∗ handed0 m c 7 t0_3 ∗ handed0 m c 8 t0_3 ∗ handed0 m c 9 t0_3 ∗ handed0 m c 10 t0_3 ∗ handed0 m c 11 t0_3)
      ⊢ wp frame (wpE (defs₀ (F := F)) 𝒱₀ c none) Set.univ (bodyAt0 t0_3)
          fun _ => iprop(phiC c ∗ (dat0 m c).owesAt () t0_3.succ
            ∗ owns (c : Thread nD τ) ((cfg0.win 0).stage (cfg0.slots t0_3 0)) fullShare ((dat0 m c).after 0 t0_3) ∗ owns (c : Thread nD τ) ((cfg0.win 1).stage (cfg0.slots t0_3 1)) fullShare ((dat0 m c).after 1 t0_3) ∗ owns (c : Thread nD τ) ((cfg0.win 2).stage (cfg0.slots t0_3 2)) fullShare ((dat0 m c).after 2 t0_3) ∗ owns (c : Thread nD τ) ((cfg0.win 3).stage (cfg0.slots t0_3 3)) fullShare ((dat0 m c).after 3 t0_3) ∗ owns (c : Thread nD τ) ((cfg0.win 4).stage (cfg0.slots t0_3 4)) fullShare ((dat0 m c).after 4 t0_3) ∗ owns (c : Thread nD τ) ((cfg0.win 5).stage (cfg0.slots t0_3 5)) fullShare ((dat0 m c).after 5 t0_3) ∗ owns (c : Thread nD τ) ((cfg0.win 6).stage (cfg0.slots t0_3 6)) fullShare ((dat0 m c).after 6 t0_3) ∗ owns (c : Thread nD τ) ((cfg0.win 7).stage (cfg0.slots t0_3 7)) fullShare ((dat0 m c).after 7 t0_3) ∗ owns (c : Thread nD τ) ((cfg0.win 8).stage (cfg0.slots t0_3 8)) fullShare ((dat0 m c).after 8 t0_3) ∗ owns (c : Thread nD τ) ((cfg0.win 9).stage (cfg0.slots t0_3 9)) fullShare ((dat0 m c).after 9 t0_3) ∗ owns (c : Thread nD τ) ((cfg0.win 10).stage (cfg0.slots t0_3 10)) fullShare ((dat0 m c).after 10 t0_3) ∗ owns (c : Thread nD τ) ((cfg0.win 11).stage (cfg0.slots t0_3 11)) fullShare ((dat0 m c).after 11 t0_3)) := by
  unfold phiB phiC works
  iintro ⟨⟨⟨%K, Hse⟩, HqS, Hoth, Hp⟩, HO, H0, H1, H2, H3, H4, H5, H6, H7, H8, H9, H10, H11⟩
  ihave G0 := (got0_0 m c t0_3) $$ H0
  icases G0 with ⟨%f0, %e0, G0⟩
  ihave G1 := (got0_1 m c t0_3) $$ H1
  icases G1 with ⟨%f1, %e1, G1⟩
  ihave G2 := (got0_2 m c t0_3) $$ H2
  icases G2 with ⟨%f2, %e2, G2⟩
  ihave G3 := (got0_3 m c t0_3) $$ H3
  icases G3 with ⟨%f3, %e3, G3⟩
  ihave G4 := (got0_4 m c t0_3) $$ H4
  icases G4 with ⟨%f4, %e4, G4⟩
  ihave G5 := (got0_5 m c t0_3) $$ H5
  icases G5 with ⟨%f5, %e5, G5⟩
  ihave G6 := (got0_6 m c t0_3) $$ H6
  icases G6 with ⟨%f6, %e6, G6⟩
  ihave G7 := (got0_7 m c t0_3) $$ H7
  icases G7 with ⟨%f7, G7⟩
  ihave G9 := (got0_9 m c t0_3) $$ H9
  icases G9 with ⟨%f9, G9⟩
  ihave G10 := (got0_10 m c t0_3) $$ H10
  icases G10 with ⟨%f10, G10⟩
  ihave G11 := (got0_11 m c t0_3) $$ H11
  icases G11 with ⟨%f11, G11⟩
  ihave HO' := (owesAt_to (dat0 m c) _ 0 (if_neg (by decide))) $$ HO
  icases HO' with ⟨%W, HO⟩
  iapply (lastRun (snt m) K c (grid0.coords t0_3) conds0.2.2.2.1 conds0.2.2.2.2
      ((cfg0.win 0).stage (cfg0.slots t0_3 0)) (hstage0_0 ((cfg0.slots t0_3 0).cast nbuf0_0))
      ((cfg0.win 1).stage (cfg0.slots t0_3 1)) (hstage0_1 ((cfg0.slots t0_3 1).cast nbuf0_1))
      ((cfg0.win 2).stage (cfg0.slots t0_3 2)) (hstage0_2 ((cfg0.slots t0_3 2).cast nbuf0_2))
      ((cfg0.win 3).stage (cfg0.slots t0_3 3)) (hstage0_3 ((cfg0.slots t0_3 3).cast nbuf0_3))
      ((cfg0.win 4).stage (cfg0.slots t0_3 4)) (hstage0_4 ((cfg0.slots t0_3 4).cast nbuf0_4))
      ((cfg0.win 5).stage (cfg0.slots t0_3 5)) (hstage0_5 ((cfg0.slots t0_3 5).cast nbuf0_5))
      ((cfg0.win 6).stage (cfg0.slots t0_3 6)) (hstage0_6 ((cfg0.slots t0_3 6).cast nbuf0_6))
      ((cfg0.win 7).stage (cfg0.slots t0_3 7)) (hstage0_7 ((cfg0.slots t0_3 7).cast nbuf0_7))
      ((cfg0.win 8).stage (cfg0.slots t0_3 8)) (hstage0_8 ((cfg0.slots t0_3 8).cast nbuf0_8))
      ((cfg0.win 9).stage (cfg0.slots t0_3 9)) (hstage0_9 ((cfg0.slots t0_3 9).cast nbuf0_9))
      ((cfg0.win 10).stage (cfg0.slots t0_3 10)) (hstage0_10 ((cfg0.slots t0_3 10).cast nbuf0_10))
      ((cfg0.win 11).stage (cfg0.slots t0_3 11)) (hstage0_11 ((cfg0.slots t0_3 11).cast nbuf0_11))
      f0 f5 f7 f9 f10 f11 (qrs m c) W _)
  rw [e0, e5]
  isplitl [Hse]; · iexact Hse
  isplitl [HqS]; · iexact HqS
  isplitl [G0]; · iexact G0
  isplitl [G5]; · iexact G5
  isplitl [G7]; · iexact G7
  isplitl [G9]; · iexact G9
  isplitl [G10]; · iexact G10
  isplitl [G11]; · iexact G11
  isplitl [HO]; · iexact HO
  iintro ⟨Hb, Hcl, Hwk, G0, G5, G7, G9, G10, G11, HO⟩
  isplitl [Hb Hcl Hwk Hoth Hp]
  · isplitl [Hb]; · iexact Hb
    isplitl [Hcl]; · iexact Hcl
    isplitl [Hwk]; · iexact Hwk
    isplitl [Hoth] <;> iassumption
  isplitl [HO]
  · iapply (owesAt_of (dat0 m c) _ 0 (if_neg (by decide)) rfl)
    iexact HO
  isplitl [G0]
  · iapply (owns_at c (hstage0_0 ((cfg0.slots t0_3 0).cast nbuf0_0)) e0)
    iexact G0
  isplitl [G1]
  · iapply (owns_at c (hstage0_1 ((cfg0.slots t0_3 1).cast nbuf0_1)) e1)
    iexact G1
  isplitl [G2]
  · iapply (owns_at c (hstage0_2 ((cfg0.slots t0_3 2).cast nbuf0_2)) e2)
    iexact G2
  isplitl [G3]
  · iapply (owns_at c (hstage0_3 ((cfg0.slots t0_3 3).cast nbuf0_3)) e3)
    iexact G3
  isplitl [G4]
  · iapply (owns_at c (hstage0_4 ((cfg0.slots t0_3 4).cast nbuf0_4)) e4)
    iexact G4
  isplitl [G5]
  · iapply (owns_at c (hstage0_5 ((cfg0.slots t0_3 5).cast nbuf0_5)) e5)
    iexact G5
  isplitl [G6]
  · iapply (owns_at c (hstage0_6 ((cfg0.slots t0_3 6).cast nbuf0_6)) e6)
    iexact G6
  isplitl [G7]
  · iapply (owns_intro c (hstage0_7 ((cfg0.slots t0_3 7).cast nbuf0_7)) _)
    iexact G7
  isplitl [H8]
  · icases H8 with ⟨%d, H8⟩
    rw [before0_8]
    iexact H8
  isplitl [G9]
  · iapply (owns_intro c (hstage0_9 ((cfg0.slots t0_3 9).cast nbuf0_9)) _)
    iexact G9
  isplitl [G10]
  · iapply (owns_intro c (hstage0_10 ((cfg0.slots t0_3 10).cast nbuf0_10)) _)
    iexact G10
  iapply (owns_intro c (hstage0_11 ((cfg0.slots t0_3 11).cast nbuf0_11)) _)
  iexact G11

set_option maxHeartbeats 2000000 in
/-- The exchange's body meets its obligation at every point. -/
theorem body0 (c : Dev nD) : BodyObligation (dat0 m c) (defs₀ (F := F)) 𝒱₀ () Set.univ := fun t => by
  have nf8 : ∀ t : Fin cfg0.N, t.val % 4 ≠ 3 → (cfg0.win 8).flush t = false := fun t h => by
    rw [Bool.eq_false_iff]; exact mt (flush0_8 t).mp h
  rw [bigSep_W0, bigSep_W0]
  rcases fin_N0 t with rfl | rfl | rfl | rfl
  · change _ ⊢ wp _ _ _ _ fun _ => iprop(_ ∗ _ ∗ (dat0 m c).leavesExact 0 t0_0 ∗ (dat0 m c).leavesExact 1 t0_0 ∗ (dat0 m c).leavesExact 2 t0_0 ∗ (dat0 m c).leavesExact 3 t0_0 ∗ (dat0 m c).leavesExact 4 t0_0 ∗ (dat0 m c).leavesExact 5 t0_0 ∗ (dat0 m c).leavesExact 6 t0_0 ∗ (dat0 m c).leavesExact 7 t0_0 ∗ (dat0 m c).leavesExact 8 t0_0 ∗ (dat0 m c).leavesExact 9 t0_0 ∗ (dat0 m c).leavesExact 10 t0_0 ∗ (dat0 m c).leavesExact 11 t0_0)
    rw [leaves0 m c 0 t0_0 rfl,
      leaves0 m c 1 t0_0 rfl,
      leaves0 m c 2 t0_0 rfl,
      leaves0 m c 3 t0_0 rfl,
      leaves0 m c 4 t0_0 rfl,
      leaves0 m c 5 t0_0 rfl,
      leaves0 m c 6 t0_0 rfl,
      leaves0 m c 7 t0_0 rfl,
      leaves0 m c 8 t0_0 (live0_8 t0_0 conds0.1.1),
      (dat0 m c).leavesExact_idle 9 t0_0 (idle0_9 t0_0 conds0.1.2) (by rw [Bool.eq_false_iff]; exact mt (flush0_9 t0_0).mp (by decide)),
      (dat0 m c).leavesExact_idle 10 t0_0 (idle0_9 t0_0 conds0.1.2) (by rw [Bool.eq_false_iff]; exact mt (flush0_10 t0_0).mp (by decide)),
      (dat0 m c).leavesExact_idle 11 t0_0 (idle0_9 t0_0 conds0.1.2) (by rw [Bool.eq_false_iff]; exact mt (flush0_11 t0_0).mp (by decide))]
    exact bodyFirst m c
  · change _ ⊢ wp _ _ _ _ fun _ => iprop(_ ∗ _ ∗ (dat0 m c).leavesExact 0 t0_1 ∗ (dat0 m c).leavesExact 1 t0_1 ∗ (dat0 m c).leavesExact 2 t0_1 ∗ (dat0 m c).leavesExact 3 t0_1 ∗ (dat0 m c).leavesExact 4 t0_1 ∗ (dat0 m c).leavesExact 5 t0_1 ∗ (dat0 m c).leavesExact 6 t0_1 ∗ (dat0 m c).leavesExact 7 t0_1 ∗ (dat0 m c).leavesExact 8 t0_1 ∗ (dat0 m c).leavesExact 9 t0_1 ∗ (dat0 m c).leavesExact 10 t0_1 ∗ (dat0 m c).leavesExact 11 t0_1)
    rw [leaves0 m c 0 t0_1 rfl,
      leaves0 m c 1 t0_1 rfl,
      leaves0 m c 2 t0_1 rfl,
      leaves0 m c 3 t0_1 rfl,
      leaves0 m c 4 t0_1 rfl,
      leaves0 m c 5 t0_1 rfl,
      leaves0 m c 6 t0_1 rfl,
      leaves0 m c 7 t0_1 rfl,
      (dat0 m c).leavesExact_idle 8 t0_1 (idle0_8 t0_1 conds0.2.1.1) (by rw [Bool.eq_false_iff]; exact mt (flush0_8 t0_1).mp (by decide)),
      (dat0 m c).leavesExact_idle 9 t0_1 (idle0_9 t0_1 conds0.2.1.2) (by rw [Bool.eq_false_iff]; exact mt (flush0_9 t0_1).mp (by decide)),
      (dat0 m c).leavesExact_idle 10 t0_1 (idle0_9 t0_1 conds0.2.1.2) (by rw [Bool.eq_false_iff]; exact mt (flush0_10 t0_1).mp (by decide)),
      (dat0 m c).leavesExact_idle 11 t0_1 (idle0_9 t0_1 conds0.2.1.2) (by rw [Bool.eq_false_iff]; exact mt (flush0_11 t0_1).mp (by decide))]
    exact bodySecond m c
  · change _ ⊢ wp _ _ _ _ fun _ => iprop(_ ∗ _ ∗ (dat0 m c).leavesExact 0 t0_2 ∗ (dat0 m c).leavesExact 1 t0_2 ∗ (dat0 m c).leavesExact 2 t0_2 ∗ (dat0 m c).leavesExact 3 t0_2 ∗ (dat0 m c).leavesExact 4 t0_2 ∗ (dat0 m c).leavesExact 5 t0_2 ∗ (dat0 m c).leavesExact 6 t0_2 ∗ (dat0 m c).leavesExact 7 t0_2 ∗ (dat0 m c).leavesExact 8 t0_2 ∗ (dat0 m c).leavesExact 9 t0_2 ∗ (dat0 m c).leavesExact 10 t0_2 ∗ (dat0 m c).leavesExact 11 t0_2)
    rw [leaves0 m c 0 t0_2 rfl,
      leaves0 m c 1 t0_2 rfl,
      leaves0 m c 2 t0_2 rfl,
      leaves0 m c 3 t0_2 rfl,
      leaves0 m c 4 t0_2 rfl,
      leaves0 m c 5 t0_2 rfl,
      leaves0 m c 6 t0_2 rfl,
      leaves0 m c 7 t0_2 rfl,
      (dat0 m c).leavesExact_idle 8 t0_2 (idle0_8 t0_2 conds0.2.2.1.1) (by rw [Bool.eq_false_iff]; exact mt (flush0_8 t0_2).mp (by decide)),
      (dat0 m c).leavesExact_idle 9 t0_2 (idle0_9 t0_2 conds0.2.2.1.2) (by rw [Bool.eq_false_iff]; exact mt (flush0_9 t0_2).mp (by decide)),
      (dat0 m c).leavesExact_idle 10 t0_2 (idle0_9 t0_2 conds0.2.2.1.2) (by rw [Bool.eq_false_iff]; exact mt (flush0_10 t0_2).mp (by decide)),
      (dat0 m c).leavesExact_idle 11 t0_2 (idle0_9 t0_2 conds0.2.2.1.2) (by rw [Bool.eq_false_iff]; exact mt (flush0_11 t0_2).mp (by decide))]
    exact bodyThird m c
  · change _ ⊢ wp _ _ _ _ fun _ => iprop(_ ∗ _ ∗ (dat0 m c).leavesExact 0 t0_3 ∗ (dat0 m c).leavesExact 1 t0_3 ∗ (dat0 m c).leavesExact 2 t0_3 ∗ (dat0 m c).leavesExact 3 t0_3 ∗ (dat0 m c).leavesExact 4 t0_3 ∗ (dat0 m c).leavesExact 5 t0_3 ∗ (dat0 m c).leavesExact 6 t0_3 ∗ (dat0 m c).leavesExact 7 t0_3 ∗ (dat0 m c).leavesExact 8 t0_3 ∗ (dat0 m c).leavesExact 9 t0_3 ∗ (dat0 m c).leavesExact 10 t0_3 ∗ (dat0 m c).leavesExact 11 t0_3)
    rw [leaves0 m c 0 t0_3 rfl,
      leaves0 m c 1 t0_3 rfl,
      leaves0 m c 2 t0_3 rfl,
      leaves0 m c 3 t0_3 rfl,
      leaves0 m c 4 t0_3 rfl,
      leaves0 m c 5 t0_3 rfl,
      leaves0 m c 6 t0_3 rfl,
      leaves0 m c 7 t0_3 rfl,
      leavesF0 m c 8 t0_3 (idle0_8 t0_3 conds0.2.2.2.1) ((flush0_8 t0_3).mpr rfl),
      leaves0 m c 9 t0_3 (live0_9 t0_3 conds0.2.2.2.2),
      leaves0 m c 10 t0_3 (live0_9 t0_3 conds0.2.2.2.2),
      leaves0 m c 11 t0_3 (live0_9 t0_3 conds0.2.2.2.2)]
    exact bodyLast m c

end Cert.Mla

end
-- ==== Proof.Data1.lean ====
module

public import proofs.«01_k».proof.Proof.Data

/-! What each grid point of the attention finds and leaves, and the body's obligation there. -/

@[expose] public section

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)

variable {F : FTy → Type} [FloatOps F]
variable (m : (ℓ : Loc nD τ sig) → Buf (Elt F) ℓ)

/-- An array of the exchange once every point has written its blocks back. -/
abbrev arr0 (c : Dev nD) (w : Fin 12) : Buf (Elt F) ((cfg0.win w).arr.view.loc (c.tc : Thread nD τ)) := (dat0 m c).arrAt w cfg0.N

/-- Device `c`'s buffers after the exchange. -/
def VB (c : Dev nD) : Valuation τ sig (Elt F) :=
  Function.update (Function.update (Function.update (Function.update (Function.update (V1 m c) main_v2_0 (arr0 m c 7)) main_v2_1 (arr0 m c 8))
    main_v2_2 (arr0 m c 9)) main_v2_3 (arr0 m c 10)) main_v2_4 (arr0 m c 11)

/-- The queries a point reads. -/
def qb (c : Dev nD) (t : Fin cfg1.N) : Vec F S512x4096 .bf16 := ((cfg1.win 0).blk t).view.read (Elt F) (VB m c main_v2_0)
/-- The rotary keys a point reads. -/
def krb (c : Dev nD) (t : Fin cfg1.N) : Vec F S512x32 .bf16 := ((cfg1.win 1).blk t).view.read (Elt F) (VB m c main_v2_1)
/-- The latents a point reads. -/
def cfb (c : Dev nD) (t : Fin cfg1.N) : Vec F S512x256 .bf16 := ((cfg1.win 2).blk t).view.read (Elt F) (VB m c main_v2_2)
/-- The keys' up-projection a point reads. -/
def wukfb (c : Dev nD) (t : Fin cfg1.N) : Vec F S256x2048 .bf16 := ((cfg1.win 3).blk t).view.read (Elt F) (VB m c main_v2_3)
/-- The values' up-projection a point reads. -/
def wuvfb (c : Dev nD) (t : Fin cfg1.N) : Vec F S256x2048 .bf16 := ((cfg1.win 4).blk t).view.read (Elt F) (VB m c main_v2_4)
/-- The output projection a point reads. -/
def wob (c : Dev nD) (t : Fin cfg1.N) : Vec F S2048x2048 .f32 := ((cfg1.win 5).blk t).view.read (Elt F) (VB m c main_arg7)

/-- The attention's proof data on one device. -/
def dat1 (c : Dev nD) : Dat τ (Elt F) Unit ℕ UU ℕ cfg1 c where
  A w := VB m c (Proc.devRef .tc (Pipeline.arrRef spec1 w))
  after := fun
    | 0 => fun t => qb m c t
    | 1 => fun t => krb m c t
    | 2 => fun t => cfb m c t
    | 3 => fun t => wukfb m c t
    | 4 => fun t => wuvfb m c t
    | 5 => fun t => wob m c t
    | 6 => fun t => attnOut (qb m c t) (krb m c t) (cfb m c t) (wukfb m c t) (wuvfb m c t) (wob m c t)
    | ⟨_ + 7, h⟩ => absurd h (Nat.not_lt.2 (Nat.le_add_left _ _))
  Φ _ := iprop(Pipeline.scopedRest spec1 c ∗ ∃ r, prngReg c r)
  q _ := fullShare
  owed _ := 0

/-- What a point is handed of a window's buffer. -/
abbrev handed1 (c : Dev nD) (w : Fin 7) (t : Fin cfg1.N) : sProp (MM F) :=
  iprop(∃ d, owns (c : Thread nD τ) ((cfg1.win w).stage (cfg1.slots t w)) fullShare ((dat1 m c).before w t d))

/-- Input window 0 holds its block at every point. -/
theorem before1_0 (c : Dev nD) (t : Fin cfg1.N) (d) : (dat1 m c).before 0 t d = qb m c t :=
  ((dat1 m c).before_in_eq_fetched 0 rfl (fun _ => rfl) (fun _ _ _ => rfl) (fun _ => rfl) t d).trans rfl
/-- What a point finds in window 0, as a points-to. -/
theorem got1_0 (c : Dev nD) (t : Fin cfg1.N) : (handed1 m c 0 t : sProp (MM F))
    ⊢ iprop(∃ f, ⌜((cfg1.win 0).stage (cfg1.slots t 0)).view.read (Elt F) f = qb m c t⌝ ∗ pt c ((cfg1.win 0).stage (cfg1.slots t 0)) f) := by
  refine BIBase.Entails.trans ?_ (owns_elim c (hstage1_0 ((cfg1.slots t 0).cast nbuf1_0)) _)
  iintro ⟨%d, H⟩
  rw [before1_0]
  iexact H
/-- Input window 1 holds its block at every point. -/
theorem before1_1 (c : Dev nD) (t : Fin cfg1.N) (d) : (dat1 m c).before 1 t d = krb m c t :=
  ((dat1 m c).before_in_eq_fetched 1 rfl (fun _ => rfl) (fun _ _ _ => rfl) (fun _ => rfl) t d).trans rfl
/-- What a point finds in window 1, as a points-to. -/
theorem got1_1 (c : Dev nD) (t : Fin cfg1.N) : (handed1 m c 1 t : sProp (MM F))
    ⊢ iprop(∃ f, ⌜((cfg1.win 1).stage (cfg1.slots t 1)).view.read (Elt F) f = krb m c t⌝ ∗ pt c ((cfg1.win 1).stage (cfg1.slots t 1)) f) := by
  refine BIBase.Entails.trans ?_ (owns_elim c (hstage1_1 ((cfg1.slots t 1).cast nbuf1_1)) _)
  iintro ⟨%d, H⟩
  rw [before1_1]
  iexact H
/-- Input window 2 holds its block at every point. -/
theorem before1_2 (c : Dev nD) (t : Fin cfg1.N) (d) : (dat1 m c).before 2 t d = cfb m c t :=
  ((dat1 m c).before_in_eq_fetched 2 rfl (fun _ => rfl) (fun _ _ _ => rfl) (fun _ => rfl) t d).trans rfl
/-- What a point finds in window 2, as a points-to. -/
theorem got1_2 (c : Dev nD) (t : Fin cfg1.N) : (handed1 m c 2 t : sProp (MM F))
    ⊢ iprop(∃ f, ⌜((cfg1.win 2).stage (cfg1.slots t 2)).view.read (Elt F) f = cfb m c t⌝ ∗ pt c ((cfg1.win 2).stage (cfg1.slots t 2)) f) := by
  refine BIBase.Entails.trans ?_ (owns_elim c (hstage1_2 ((cfg1.slots t 2).cast nbuf1_2)) _)
  iintro ⟨%d, H⟩
  rw [before1_2]
  iexact H
/-- Input window 3 holds its block at every point. -/
theorem before1_3 (c : Dev nD) (t : Fin cfg1.N) (d) : (dat1 m c).before 3 t d = wukfb m c t :=
  ((dat1 m c).before_in_eq_fetched 3 rfl (fun _ => rfl) (fun _ _ _ => rfl) (fun _ => rfl) t d).trans rfl
/-- What a point finds in window 3, as a points-to. -/
theorem got1_3 (c : Dev nD) (t : Fin cfg1.N) : (handed1 m c 3 t : sProp (MM F))
    ⊢ iprop(∃ f, ⌜((cfg1.win 3).stage (cfg1.slots t 3)).view.read (Elt F) f = wukfb m c t⌝ ∗ pt c ((cfg1.win 3).stage (cfg1.slots t 3)) f) := by
  refine BIBase.Entails.trans ?_ (owns_elim c (hstage1_3 ((cfg1.slots t 3).cast nbuf1_3)) _)
  iintro ⟨%d, H⟩
  rw [before1_3]
  iexact H
/-- Input window 4 holds its block at every point. -/
theorem before1_4 (c : Dev nD) (t : Fin cfg1.N) (d) : (dat1 m c).before 4 t d = wuvfb m c t :=
  ((dat1 m c).before_in_eq_fetched 4 rfl (fun _ => rfl) (fun _ _ _ => rfl) (fun _ => rfl) t d).trans rfl
/-- What a point finds in window 4, as a points-to. -/
theorem got1_4 (c : Dev nD) (t : Fin cfg1.N) : (handed1 m c 4 t : sProp (MM F))
    ⊢ iprop(∃ f, ⌜((cfg1.win 4).stage (cfg1.slots t 4)).view.read (Elt F) f = wuvfb m c t⌝ ∗ pt c ((cfg1.win 4).stage (cfg1.slots t 4)) f) := by
  refine BIBase.Entails.trans ?_ (owns_elim c (hstage1_4 ((cfg1.slots t 4).cast nbuf1_4)) _)
  iintro ⟨%d, H⟩
  rw [before1_4]
  iexact H
/-- Input window 5 holds its block at every point. -/
theorem before1_5 (c : Dev nD) (t : Fin cfg1.N) (d) : (dat1 m c).before 5 t d = wob m c t :=
  ((dat1 m c).before_in_eq_fetched 5 rfl (fun _ => rfl) (fun _ _ _ => rfl) (fun _ => rfl) t d).trans rfl
/-- What a point finds in window 5, as a points-to. -/
theorem got1_5 (c : Dev nD) (t : Fin cfg1.N) : (handed1 m c 5 t : sProp (MM F))
    ⊢ iprop(∃ f, ⌜((cfg1.win 5).stage (cfg1.slots t 5)).view.read (Elt F) f = wob m c t⌝ ∗ pt c ((cfg1.win 5).stage (cfg1.slots t 5)) f) := by
  refine BIBase.Entails.trans ?_ (owns_elim c (hstage1_5 ((cfg1.slots t 5).cast nbuf1_5)) _)
  iintro ⟨%d, H⟩
  rw [before1_5]
  iexact H
/-- What a point finds in window 6, as a points-to. -/
theorem got1_6 (c : Dev nD) (t : Fin cfg1.N) : (handed1 m c 6 t : sProp (MM F))
    ⊢ iprop(∃ f, pt c ((cfg1.win 6).stage (cfg1.slots t 6)) f) := by
  iintro ⟨%d, H⟩
  ihave H' := (owns_elim c (M := (cfg1.win 6).stage (cfg1.slots t 6)) (hstage1_6 ((cfg1.slots t 6).cast nbuf1_6)) _) $$ H
  icases H' with ⟨%f, -, H⟩
  iexists f
  iexact H

/-- Every point opens its heads' loop. -/
theorem cond1 : ∀ t : Fin grid1.N, Scalar.cmpi .ne (Scalar.extui (Scalar.cmpi .eq (BitVec.ofNat 32 (grid1.coords t 1).val) 0#32) : BitVec 32) 0#32 = 1#1 := by
  decide +kernel

set_option maxHeartbeats 2000000 in
/-- A point of the attention. -/
theorem bodyAttn (c : Dev nD) (t : Fin cfg1.N) :
    iprop(iprop(Pipeline.scopedRest spec1 c ∗ ∃ r, prngReg c r) ∗ (dat1 m c).owesAt () t.castSucc ∗ handed1 m c 0 t ∗ handed1 m c 1 t ∗ handed1 m c 2 t ∗ handed1 m c 3 t ∗ handed1 m c 4 t ∗ handed1 m c 5 t ∗ handed1 m c 6 t)
      ⊢ wp frame (wpE (defs₀ (F := F)) 𝒱₀ c none) Set.univ (bodyAt1 t)
          fun _ => iprop(iprop(Pipeline.scopedRest spec1 c ∗ ∃ r, prngReg c r) ∗ (dat1 m c).owesAt () t.succ
            ∗ owns (c : Thread nD τ) ((cfg1.win 0).stage (cfg1.slots t 0)) fullShare ((dat1 m c).after 0 t) ∗ owns (c : Thread nD τ) ((cfg1.win 1).stage (cfg1.slots t 1)) fullShare ((dat1 m c).after 1 t) ∗ owns (c : Thread nD τ) ((cfg1.win 2).stage (cfg1.slots t 2)) fullShare ((dat1 m c).after 2 t) ∗ owns (c : Thread nD τ) ((cfg1.win 3).stage (cfg1.slots t 3)) fullShare ((dat1 m c).after 3 t) ∗ owns (c : Thread nD τ) ((cfg1.win 4).stage (cfg1.slots t 4)) fullShare ((dat1 m c).after 4 t) ∗ owns (c : Thread nD τ) ((cfg1.win 5).stage (cfg1.slots t 5)) fullShare ((dat1 m c).after 5 t) ∗ owns (c : Thread nD τ) ((cfg1.win 6).stage (cfg1.slots t 6)) fullShare ((dat1 m c).after 6 t)) := by
  rw [scopedRest1_eq]
  iintro ⟨⟨⟨R0, R1, R2, R3, R4, R5, R6, R7, R8, R9, R10, R11, R12, R13, R14, R15, R16, R17, R18, R19, R20, ⟨%s0, S0⟩, ⟨%s1, S1⟩, ⟨%s2, S2⟩⟩, Hp⟩, HO, H0, H1, H2, H3, H4, H5, H6⟩
  ihave G0 := (got1_0 m c t) $$ H0
  icases G0 with ⟨%f0, %e0, G0⟩
  ihave G1 := (got1_1 m c t) $$ H1
  icases G1 with ⟨%f1, %e1, G1⟩
  ihave G2 := (got1_2 m c t) $$ H2
  icases G2 with ⟨%f2, %e2, G2⟩
  ihave G3 := (got1_3 m c t) $$ H3
  icases G3 with ⟨%f3, %e3, G3⟩
  ihave G4 := (got1_4 m c t) $$ H4
  icases G4 with ⟨%f4, %e4, G4⟩
  ihave G5 := (got1_5 m c t) $$ H5
  icases G5 with ⟨%f5, %e5, G5⟩
  ihave G6 := (got1_6 m c t) $$ H6
  icases G6 with ⟨%f6, G6⟩
  iapply (attnRun c (grid1.coords t) (cond1 t)
      ((cfg1.win 0).stage (cfg1.slots t 0)) (hstage1_0 ((cfg1.slots t 0).cast nbuf1_0))
      ((cfg1.win 1).stage (cfg1.slots t 1)) (hstage1_1 ((cfg1.slots t 1).cast nbuf1_1))
      ((cfg1.win 2).stage (cfg1.slots t 2)) (hstage1_2 ((cfg1.slots t 2).cast nbuf1_2))
      ((cfg1.win 3).stage (cfg1.slots t 3)) (hstage1_3 ((cfg1.slots t 3).cast nbuf1_3))
      ((cfg1.win 4).stage (cfg1.slots t 4)) (hstage1_4 ((cfg1.slots t 4).cast nbuf1_4))
      ((cfg1.win 5).stage (cfg1.slots t 5)) (hstage1_5 ((cfg1.slots t 5).cast nbuf1_5))
      ((cfg1.win 6).stage (cfg1.slots t 6)) (hstage1_6 ((cfg1.slots t 6).cast nbuf1_6))
      f0 f1 f2 f3 f4 f5 f6 s0 s1 s2 _)
  rw [e0, e1, e2, e3, e4, e5]
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [S0]; · iexact S0
  isplitl [S1]; · iexact S1
  isplitl [S2]; · iexact S2
  iintro ⟨G0, G1, G2, G3, G4, G5, G6, S0, S1, S2⟩
  isplitl [R0 R1 R2 R3 R4 R5 R6 R7 R8 R9 R10 R11 R12 R13 R14 R15 R16 R17 R18 R19 R20 S0 S1 S2 Hp]
  · isplitl [R0 R1 R2 R3 R4 R5 R6 R7 R8 R9 R10 R11 R12 R13 R14 R15 R16 R17 R18 R19 R20 S0 S1 S2]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [R16]; · iexact R16
      isplitl [R17]; · iexact R17
      isplitl [R18]; · iexact R18
      isplitl [R19]; · iexact R19
      isplitl [R20]; · iexact R20
      isplitl [S0]; · iexact S0
      isplitl [S1]; · iexact S1
      iexact S2
    · iexact Hp
  isplitl [HO]; · iexact HO
  isplitl [G0]
  · iapply (owns_at c (hstage1_0 ((cfg1.slots t 0).cast nbuf1_0)) e0)
    iexact G0
  isplitl [G1]
  · iapply (owns_at c (hstage1_1 ((cfg1.slots t 1).cast nbuf1_1)) e1)
    iexact G1
  isplitl [G2]
  · iapply (owns_at c (hstage1_2 ((cfg1.slots t 2).cast nbuf1_2)) e2)
    iexact G2
  isplitl [G3]
  · iapply (owns_at c (hstage1_3 ((cfg1.slots t 3).cast nbuf1_3)) e3)
    iexact G3
  isplitl [G4]
  · iapply (owns_at c (hstage1_4 ((cfg1.slots t 4).cast nbuf1_4)) e4)
    iexact G4
  isplitl [G5]
  · iapply (owns_at c (hstage1_5 ((cfg1.slots t 5).cast nbuf1_5)) e5)
    iexact G5
  iapply (owns_intro c (hstage1_6 ((cfg1.slots t 6).cast nbuf1_6)) _)
  iexact G6

/-- The attention's body meets its obligation at every point. -/
theorem body1 (c : Dev nD) : BodyObligation (dat1 m c) (defs₀ (F := F)) 𝒱₀ () Set.univ := fun t => by
  rw [bigSep_W1, bigSep_W1]
  exact bodyAttn m c t

end Cert.Mla

end
-- ==== Proof.Segs.lean ====
module

public import proofs.«01_k».proof.Proof.Data1
public import Idealize.ShloMosaic.Lib.Pipeline.RegionTalk
public import Idealize.ShloMosaic.Lib.Pipeline.RegionArrays

/-! The two calls as segments of the program: what each starts from and what it leaves. -/

@[expose] public section

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)

variable {F : FTy → Type} [FloatOps F]
variable (m : (ℓ : Loc nD τ sig) → Buf (Elt F) ℓ)

/-- Device `c`'s buffers after the attention. -/
def VC (c : Dev nD) : Valuation τ sig (Elt F) := Function.update (VB m c) main_v3 ((dat1 m c).arrAt 6 cfg1.N)

/-- What the two calls leave, by the call. -/
def outs : Outs (F := F) := fun k r c => if k = 3 then VC m c r else VB m c r

/-- A buffer and another are told apart by their references. -/
theorem dne {r s : Ref sig .tc} (h : r ≠ s) : (Proc.devRef .tc r : DevRef τ sig) ≠ Proc.devRef .tc s := StableHlo.devRef_ne_of_ne h

/-- The exchange's result 0. -/
theorem VB_0 (c : Dev nD) : VB m c main_v2_0 = arr0 m c 7 := by
  unfold VB; rw [Function.update_of_ne (dne (by decide : main_v2_0 ≠ main_v2_4)), Function.update_of_ne (dne (by decide : main_v2_0 ≠ main_v2_3)), Function.update_of_ne (dne (by decide : main_v2_0 ≠ main_v2_2)), Function.update_of_ne (dne (by decide : main_v2_0 ≠ main_v2_1)), Function.update_self]
/-- The exchange's result 1. -/
theorem VB_1 (c : Dev nD) : VB m c main_v2_1 = arr0 m c 8 := by
  unfold VB; rw [Function.update_of_ne (dne (by decide : main_v2_1 ≠ main_v2_4)), Function.update_of_ne (dne (by decide : main_v2_1 ≠ main_v2_3)), Function.update_of_ne (dne (by decide : main_v2_1 ≠ main_v2_2)), Function.update_self]
/-- The exchange's result 2. -/
theorem VB_2 (c : Dev nD) : VB m c main_v2_2 = arr0 m c 9 := by
  unfold VB; rw [Function.update_of_ne (dne (by decide : main_v2_2 ≠ main_v2_4)), Function.update_of_ne (dne (by decide : main_v2_2 ≠ main_v2_3)), Function.update_self]
/-- The exchange's result 3. -/
theorem VB_3 (c : Dev nD) : VB m c main_v2_3 = arr0 m c 10 := by
  unfold VB; rw [Function.update_of_ne (dne (by decide : main_v2_3 ≠ main_v2_4)), Function.update_self]
/-- The exchange's result 4. -/
theorem VB_4 (c : Dev nD) : VB m c main_v2_4 = arr0 m c 11 := by
  unfold VB; rw [Function.update_self]
/-- The valuation after the exchange, as the launch spells it. -/
theorem V2_eq (c : Dev nD) : V2 m (outs m) c = VB m c := by
  have e : ∀ r, outs m 2 r c = VB m c r := fun r => if_neg (by decide)
  unfold V2; rw [e, e, e, e, e, VB_0, VB_1, VB_2, VB_3, VB_4]; rfl

/-- The attention's result. -/
theorem VC_3 (c : Dev nD) : VC m c main_v3 = (dat1 m c).arrAt 6 cfg1.N := by
  unfold VC; rw [Function.update_self]

/-- The valuation after the attention, as the launch spells it. -/
theorem V3_eq (c : Dev nD) : V3 m (outs m) c = VC m c := by
  unfold V3; rw [V2_eq, show outs m 3 main_v3 c = VC m c main_v3 from if_pos rfl, VC_3]; rfl

/-- The exchange leaves every other buffer as it was. -/
theorem VB_of (c : Dev nD) (b : DevRef τ sig) (h0 : b ≠ main_v2_0) (h1 : b ≠ main_v2_1) (h2 : b ≠ main_v2_2) (h3 : b ≠ main_v2_3) (h4 : b ≠ main_v2_4) : VB m c b = V1 m c b := by
  unfold VB; rw [Function.update_of_ne h4, Function.update_of_ne h3, Function.update_of_ne h2, Function.update_of_ne h1, Function.update_of_ne h0]

/-- The same of a reference. -/
theorem VB_ref (c : Dev nD) (r : Ref sig .tc) (h : r ∉ ([main_v2_0, main_v2_1, main_v2_2, main_v2_3, main_v2_4] : List (Ref sig .tc))) :
    VB m c r = V1 m c r := by rw [← V2_eq]; exact V2_of m (outs m) c r h

/-- The proof data of both calls. -/
def pdats : (p : Fin 2) → (c : Dev nD) → Dat τ (Elt F) Unit ℕ UU ℕ (Pipeline.pin (pcfgs (F := F)) adm p) c
  | 0 => dat0 m
  | 1 => dat1 m

/-- The arrays the exchange's windows read and write, at its start. -/
theorem arr_start0 (c : Dev nD) (w : Fin 12) : (dat0 m c).arrAt w 0 = V1 m c (Proc.devRef .tc (Pipeline.arrRef spec0 w)) := rfl

/-- And at its end. -/
theorem arr_end0 (c : Dev nD) (w : Fin 12) : (dat0 m c).arrAt w cfg0.N = VB m c (Proc.devRef .tc (Pipeline.arrRef spec0 w)) := by
  match w with
  | 0 => exact ((dat0 m c).arrAt_in 0 rfl _).trans (VB_ref m c main_v1 (by decide)).symm
  | 1 => exact ((dat0 m c).arrAt_in 1 rfl _).trans (VB_ref m c main_arg1 (by decide)).symm
  | 2 => exact ((dat0 m c).arrAt_in 2 rfl _).trans (VB_ref m c main_arg2 (by decide)).symm
  | 3 => exact ((dat0 m c).arrAt_in 3 rfl _).trans (VB_ref m c main_arg3 (by decide)).symm
  | 4 => exact ((dat0 m c).arrAt_in 4 rfl _).trans (VB_ref m c main_arg6 (by decide)).symm
  | 5 => exact ((dat0 m c).arrAt_in 5 rfl _).trans (VB_ref m c main_arg4 (by decide)).symm
  | 6 => exact ((dat0 m c).arrAt_in 6 rfl _).trans (VB_ref m c main_arg5 (by decide)).symm
  | 7 => exact (VB_0 m c).symm
  | 8 => exact (VB_1 m c).symm
  | 9 => exact (VB_2 m c).symm
  | 10 => exact (VB_3 m c).symm
  | 11 => exact (VB_4 m c).symm

/-- The attention leaves every other buffer as it was. -/
theorem VC_ref (c : Dev nD) (r : Ref sig .tc) (h : r ≠ main_v3) : VC m c r = VB m c r := by
  unfold VC; rw [Function.update_of_ne (dne h)]

/-- The attention's arrays at its end. -/
theorem arr_end1 (c : Dev nD) (w : Fin 7) : (dat1 m c).arrAt w cfg1.N = VC m c (Proc.devRef .tc (Pipeline.arrRef spec1 w)) := by
  match w with
  | 0 => exact ((dat1 m c).arrAt_in 0 rfl _).trans (VC_ref m c main_v2_0 (by decide)).symm
  | 1 => exact ((dat1 m c).arrAt_in 1 rfl _).trans (VC_ref m c main_v2_1 (by decide)).symm
  | 2 => exact ((dat1 m c).arrAt_in 2 rfl _).trans (VC_ref m c main_v2_2 (by decide)).symm
  | 3 => exact ((dat1 m c).arrAt_in 3 rfl _).trans (VC_ref m c main_v2_3 (by decide)).symm
  | 4 => exact ((dat1 m c).arrAt_in 4 rfl _).trans (VC_ref m c main_v2_4 (by decide)).symm
  | 5 => exact ((dat1 m c).arrAt_in 5 rfl _).trans (VC_ref m c main_arg7 (by decide)).symm
  | 6 => exact (VC_3 m c).symm

/-- Every array is among the buffers that outlive the calls. -/
theorem arrs_sub0 : Pipeline.arrRefs (τ := τ) spec0 ⊆ Pipeline.ucRefs τ sig := Pipeline.arrRefs_sub_ucRefs spec0 (by decide)
/-- The attention's arrays are among the buffers held. -/
theorem arrs_sub1 : Pipeline.arrRefs (τ := τ) spec1 ⊆ Pipeline.ucRefs τ sig := Pipeline.arrRefs_sub_ucRefs spec1 (by decide)

/-- The buffers no window of the exchange has. -/
abbrev rest0 : Finset (DevRef τ sig) := Pipeline.ucRefs τ sig \ Pipeline.arrRefs (τ := τ) spec0
/-- The buffers no window of the attention has. -/
abbrev rest1 : Finset (DevRef τ sig) := Pipeline.ucRefs τ sig \ Pipeline.arrRefs (τ := τ) spec1

/-- An array of a window is one of the arrays. -/
theorem mem_arrs {gr W : Nat} (win : Fin W → Pipeline.WinSpec sig gr) (w : Fin W) :
    (Proc.devRef .tc (Pipeline.arrRef win w) : DevRef τ sig) ∈ Pipeline.arrRefs (τ := τ) win :=
  Finset.mem_map_of_mem _ (Finset.mem_image_of_mem _ (Finset.mem_univ w))

/-- The exchange leaves those buffers as they were. -/
theorem VB_rest (c : Dev nD) (b : DevRef τ sig) (hb : b ∈ rest0) : VB m c b = V1 m c b := by
  have h := (Finset.mem_sdiff.mp hb).2
  exact VB_of m c b (fun e => h (by rw [e]; exact mem_arrs spec0 7)) (fun e => h (by rw [e]; exact mem_arrs spec0 8)) (fun e => h (by rw [e]; exact mem_arrs spec0 9))
    (fun e => h (by rw [e]; exact mem_arrs spec0 10)) (fun e => h (by rw [e]; exact mem_arrs spec0 11))

/-- The attention leaves its as they were. -/
theorem VC_rest (c : Dev nD) (b : DevRef τ sig) (hb : b ∈ rest1) : VC m c b = VB m c b :=
  Function.update_of_ne (fun e => (Finset.mem_sdiff.mp hb).2 (by rw [e]; exact mem_arrs spec1 6)) _ _

/-- A device's six counters at zero. -/
theorem own0_eq (c : Dev nD) : (Pipeline.ownSems0 osem0 c : sProp (MM F)) = closed c := by
  unfold Pipeline.ownSems0 closed
  exact bigSep_univ_eq_bigSepL [(0 : Fin 6), 1, 2, 3, 4, 5] (by decide) (by decide) _

/-- What rides from launch to the exchange. -/
def Tk (c : Dev nD) : sProp (MM F) := iprop((∃ K, ghost (snt m) K c) ∗ creds c)
/-- What enters it. -/
def Xk (c : Dev nD) : sProp (MM F) := iprop((∃ K, opened (snt m) K c) ∗ creds c ∗ levAts L lv)
/-- What comes out. -/
def Yk (c : Dev nD) : sProp (MM F) := semVal (barCell c) 0

/-- Entering the exchange, the six dormant cells are opened. -/
theorem hopen0 (c : Dev nD) : iprop(Tk m c ∗ Pipeline.ownSems0 osem0 c ∗ levAts L lv) ⊢ (|={Set.univ}=> Xk m c : sProp (MM F)) := by
  rw [own0_eq]
  unfold Tk Xk closed
  iintro ⟨⟨⟨%K, Hg⟩, Hcr⟩, ⟨Zs0, Zs1, Zs2, Zr0, Zr1, Zr2⟩, #Hlev⟩
  unfold ghost invs
  icases Hg with ⟨⟨#HIbar, #HIs0, #HIs1, #HIs2, #HIr0, #HIr1, #HIr2, #HIbarP, #HIp0, #HIp1, #HIp2⟩, HatB, Os0, Os1, Os2, Or0, Or1, Or2, #HrP, Ht⟩
  imod (Rounds.cell_open ER (xRd (snt m)) (g := sndCell 0 c) (Set.mem_univ (K (sndCell 0 c)))) $$ [Os0 Zs0] with ⟨As0, #Rs0⟩
  · isplitr; · iexact HIs0
    isplitl [Os0] <;> iassumption
  imod (Rounds.cell_open ER (xRd (snt m)) (g := sndCell 1 c) (Set.mem_univ (K (sndCell 1 c)))) $$ [Os1 Zs1] with ⟨As1, #Rs1⟩
  · isplitr; · iexact HIs1
    isplitl [Os1] <;> iassumption
  imod (Rounds.cell_open ER (xRd (snt m)) (g := sndCell 2 c) (Set.mem_univ (K (sndCell 2 c)))) $$ [Os2 Zs2] with ⟨As2, #Rs2⟩
  · isplitr; · iexact HIs2
    isplitl [Os2] <;> iassumption
  imod (Rounds.cell_open ER (xRd (snt m)) (g := rcvCell 0 c) (Set.mem_univ (K (rcvCell 0 c)))) $$ [Or0 Zr0] with ⟨Ar0, #Rr0⟩
  · isplitr; · iexact HIr0
    isplitl [Or0] <;> iassumption
  imod (Rounds.cell_open ER (xRd (snt m)) (g := rcvCell 1 c) (Set.mem_univ (K (rcvCell 1 c)))) $$ [Or1 Zr1] with ⟨Ar1, #Rr1⟩
  · isplitr; · iexact HIr1
    isplitl [Or1] <;> iassumption
  imod (Rounds.cell_open ER (xRd (snt m)) (g := rcvCell 2 c) (Set.mem_univ (K (rcvCell 2 c)))) $$ [Or2 Zr2] with ⟨Ar2, #Rr2⟩
  · isplitr; · iexact HIr2
    isplitl [Or2] <;> iassumption
  imodintro
  isplitr [Hcr]
  · iexists K
    unfold opened invs
    isplitr
    · isplitr; · iexact HIbar
      isplitr; · iexact HIs0
      isplitr; · iexact HIs1
      isplitr; · iexact HIs2
      isplitr; · iexact HIr0
      isplitr; · iexact HIr1
      isplitr; · iexact HIr2
      isplitr; · iexact HIbarP
      isplitr; · iexact HIp0
      isplitr; · iexact HIp1
      iexact HIp2
    isplitl [HatB]; · iexact HatB
    isplitl [As0]; · iexact As0
    isplitl [As1]; · iexact As1
    isplitl [As2]; · iexact As2
    isplitl [Ar0]; · iexact Ar0
    isplitl [Ar1]; · iexact Ar1
    isplitl [Ar2]; · iexact Ar2
    isplitr; · iexact HrP
    isplitr; · iexact Rs0
    isplitr; · iexact Rs1
    isplitr; · iexact Rs2
    isplitr; · iexact Rr0
    isplitr; · iexact Rr1
    isplitr; · iexact Rr2
    iexact Ht
  isplitl [Hcr]; · iexact Hcr
  iexact Hlev

/-- What a core may still owe sits above every staging cell. -/
theorem O₀_cut (c : Dev nD) (g : GSem nD τ sig) (u : Unit) (h : 0 < O₀ c g u) : u ∈ L g ∧ (0 : ℕ) < lv g u := by
  unfold O₀ at h
  rw [Pi.add_apply, Finsupp.add_apply] at h
  rcases Nat.add_pos_iff_pos_or_pos.mp h with h | h
  · obtain ⟨k, rfl⟩ := Orcv_pos c g u h
    exact ⟨by rw [L_tc]; exact Finset.mem_singleton_self _, by rw [lv_rcv]; decide⟩
  · rw [tallyAt_apply] at h
    split at h
    · next hg =>
      obtain ⟨rfl, -⟩ := hg
      exact ⟨by rw [L_tc]; exact Finset.mem_singleton_self _, by dsimp only [lv]; rw [if_pos rfl]; decide⟩
    · exact absurd h (Nat.lt_irrefl 0)

/-- A cell that is neither the meeting's nor a landing's sits lowest. -/
theorem lv_low (c : Dev nD) (s : DmaSem sig) (h : s ≠ rcvS 0 ∧ s ≠ rcvS 1 ∧ s ≠ rcvS 2) : lv ((c : Thread nD τ), .dma s) () ≤ 0 := by
  dsimp only [lv]
  rw [if_neg (by intro e; cases e), if_neg (by rintro (e | e | e) <;> [exact h.1 (SemLoc.dma.inj e); exact h.2.1 (SemLoc.dma.inj e); exact h.2.2 (SemLoc.dma.inj e)])]

/-- No staging cell is a landing's. -/
theorem stage_low0 : ∀ (w : Fin 12) (s : Fin (win0 w).nbuf), (win0 w).sem s ≠ rcvS 0 ∧ (win0 w).sem s ≠ rcvS 1 ∧ (win0 w).sem s ≠ rcvS 2 := by decide
/-- The attention's staging semaphores are not the receive cells. -/
theorem stage_low1 : ∀ (w : Fin 7) (s : Fin (win1 w).nbuf), (win1 w).sem s ≠ rcvS 0 ∧ (win1 w).sem s ≠ rcvS 1 ∧ (win1 w).sem s ≠ rcvS 2 := by decide

/-- Holding no buffer is holding nothing. -/
theorem held_none (c : Dev nD) (V : Valuation τ sig (Elt F)) : (StableHlo.held (c.tc : Thread nD τ) ∅ V : sProp (MM F)) = BI.emp := by
  unfold StableHlo.held; exact BI.bigSep_empty

/-- The exchange's invariant at its start, -/
theorem phi_first (c : Dev nD) : (dat0 m c).Φ 0 = phiA m c := by
  show (if (0 : Fin (cfg0.N + 1)).val = 0 then phiA m c else if (0 : Fin (cfg0.N + 1)).val = 4 then phiC c else phiB m c) = _
  exact if_pos rfl
/-- and at its end, -/
theorem phi_last (c : Dev nD) : (dat0 m c).Φ (Fin.last cfg0.N) = phiC c := by
  show (if (Fin.last cfg0.N).val = 0 then phiA m c else if (Fin.last cfg0.N).val = 4 then phiC c else phiB m c) = _
  rw [show (Fin.last cfg0.N).val = 4 from N_0, if_neg (by decide), if_pos rfl]
/-- where nothing is owed. -/
theorem owed_last (c : Dev nD) : (dat0 m c).owed (Fin.last cfg0.N) = 0 := by
  show (if (Fin.last cfg0.N).val = 0 then O₀ c else 0) = _
  rw [show (Fin.last cfg0.N).val = 4 from N_0, if_neg (by decide)]

/-- Entering the exchange: its invariant before the first point. -/
theorem hin0 (c : Dev nD) : iprop(Pipeline.scopedRest spec0 c ∗ (∃ r, prngReg c r) ∗ StableHlo.held (c.tc : Thread nD τ) ∅ (V1 m c) ∗ Xk m c)
    ⊢ (dat0 m c).Φ 0 := by
  rw [show (dat0 m c).Φ 0 = phiA m c from phi_first m c, scopedRest0_eq, held_none]
  unfold phiA Xk works others anyBuf
  iintro ⟨⟨H0, H1, H2, H3, H4, H5, H6, Ho⟩, Hp, -, HK, Hcr, Hl⟩
  isplitl [HK]; · iexact HK
  isplitl [Hcr]; · iexact Hcr
  isplitl [Hl]; · iexact Hl
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [Ho]; · iexact Ho
  iexact Hp

/-- Leaving the exchange. -/
theorem hout0 (c : Dev nD) : (dat0 m c).Φ (Fin.last cfg0.N)
    ⊢ iprop(Pipeline.scopedRest spec0 c ∗ (∃ r, prngReg c r) ∗ StableHlo.held (c.tc : Thread nD τ) ∅ (VB m c) ∗ Pipeline.ownSems0 osem0 c ∗ Yk c) := by
  rw [show (dat0 m c).Φ (Fin.last cfg0.N) = phiC c from phi_last m c, scopedRest0_eq, held_none, own0_eq]
  unfold phiC Yk works others anyBuf
  iintro ⟨Hb, Hcl, ⟨H0, H1, H2, H3, H4, H5, H6⟩, Ho, Hp⟩
  isplitl [H0 H1 H2 H3 H4 H5 H6 Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact Ho
  isplitl [Hp]; · iexact Hp
  isplitr; · iempintro
  isplitl [Hcl]; · iexact Hcl
  iexact Hb

local notation "ℝ𝕊" => Pipeline.RegionSeg (pcfgs (F := F)) adm (pdats m) () (defs₀ (F := F)) 𝒱₀ L lv

set_option backward.isDefEq.respectTransparency.types false in
/-- The exchange as a segment. -/
def reg0 : ℝ𝕊 0 :=
  Pipeline.RegionSeg.ofTalk (pcfgs (F := F)) adm (pdats m) () defs₀ 𝒱₀ L lv 0 osem0 (by decide : Pipeline.OwnSemFacts spec0 osem0)
    ∅ rest0 (Finset.empty_subset _) launch0.toP rfl (fun c => (body0 m c).loose)
    (fun _ => 0) O₀ (fun c => (owed_first m c).trans (zero_add _).symm) (owed_last m) (fun _ => rfl) (fun _ w => ite_self _)
    (V1 m) (VB m) (fun c b hb => VB_rest m c b (Finset.mem_sdiff.mp hb).1)
    (Tk m) Yk (Xk m) Yk (hopen0 m) (hin0 m) (hout0 m)
    (fun c => by iintro H; imodintro; iexact H)
    (fun _ => 0)
    ⟨fun c w s => by rw [L_tc]; exact Finset.mem_singleton_self _, fun c w s => lv_low c _ (stage_low0 w s), fun c t g i h => by
      have e : (pdats m 0 c).owed t = if t.val = 0 then O₀ c else 0 := rfl
      rw [e] at h
      split at h
      · exact O₀_cut c g i h
      · exact absurd h (Nat.lt_irrefl 0)⟩
    (fun _ => iprop(emp)) (fun c w => arr_start0 m c w) (fun c w => arr_end0 m c w)

set_option backward.isDefEq.respectTransparency.types false in
/-- The attention as a segment. -/
def reg1 : ℝ𝕊 1 :=
  Pipeline.RegionSeg.ofHeld (pcfgs (F := F)) adm (pdats m) () defs₀ 𝒱₀ L lv 1 (fun _ => 0)
    (fun c => iprop(∃ r, prngReg c r)) (fun c => iprop(∃ r, prngReg c r)) launch1.toP rfl (fun c => (body1 m c).loose)
    (fun _ _ => rfl) (fun _ => rfl) (fun _ w => ite_self _) (fun c => .rfl) (fun c => .rfl)
    (fun _ => 0)
    ⟨fun c w s => by rw [L_tc]; exact Finset.mem_singleton_self _, fun c w s => lv_low c _ (stage_low1 w s), fun c g i h => absurd h (Nat.lt_irrefl 0)⟩
    (fun c => iprop(StableHlo.held (c.tc : Thread nD τ) rest1 (VB m c) ∗ semVal (barCell c) 0))
    (VB m) (VC m) (fun c w => rfl) (fun c w => arr_end1 m c w)

/-- What rides beside the buffers into the exchange. -/
def E0 (c : Dev nD) : sProp (MM F) := iprop(start (snt m) c ∗ ∃ W, owes (c : Thread nD τ) (O₀ c) W)
/-- What rides beside them after it. -/
def E1 (c : Dev nD) : sProp (MM F) :=
  iprop((∃ r, prngReg c r) ∗ semVal (barCell c) 0 ∗ ∃ W, owes (c : Thread nD τ) (0 : CellTallies nD τ sig Unit) W)

/-- The exchange starts from the buffers and the protocol. -/
theorem reg0_pre (c : Dev nD) : iprop(StableHlo.held (c : Thread nD τ) (Pipeline.ucRefs τ sig) (V1 m c) ∗ E0 m c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) rest0 (V1 m c) ∗ emp) ∗ Tk m c ∗ ∃ Wd, owes (c : Thread nD τ) (0 + O₀ c) Wd)
  rw [StableHlo.held_sub_split (c.tc : Thread nD τ) arrs_sub0, zero_add]
  unfold E0 start Tk
  iintro ⟨⟨Ha, Hr⟩, ⟨HK, Hcr, Hp⟩, HO⟩
  isplitl [Ha]; · iexact Ha
  isplitl [Hp]; · iexact Hp
  isplitl [Hr]
  · isplitl [Hr]; · iexact Hr
    iempintro
  isplitl [HK Hcr]
  · isplitl [HK] <;> iassumption
  iexact HO

/-- The exchange leaves the buffers at its results. -/
theorem reg0_post (c : Dev nD) : (reg0 m).post c ⊢ iprop(StableHlo.held (c : Thread nD τ) (Pipeline.ucRefs τ sig) (VB m c) ∗ E1 c) := by
  show iprop(StableHlo.held (c.tc : Thread nD τ) (Pipeline.arrRefs (τ := τ) spec0) (VB m c) ∗ (∃ r, prngReg c r)
    ∗ (StableHlo.held (c.tc : Thread nD τ) rest0 (VB m c) ∗ emp) ∗ Yk c ∗ ∃ Wd, owes (c : Thread nD τ) (0 : CellTallies nD τ sig Unit) Wd) ⊢ _
  rw [StableHlo.held_sub_split (c.tc : Thread nD τ) arrs_sub0]
  unfold E1 Yk
  iintro ⟨Ha, Hp, ⟨Hr, -⟩, Hb, HO⟩
  isplitl [Ha Hr]
  · isplitl [Ha] <;> iassumption
  isplitl [Hp]; · iexact Hp
  isplitl [Hb]; · iexact Hb
  iexact HO

/-- The attention starts from them. -/
theorem reg1_pre (c : Dev nD) : iprop(StableHlo.held (c : Thread nD τ) (Pipeline.ucRefs τ sig) (VB m c) ∗ E1 c) ⊢ (reg1 m).pre c := by
  show _ ⊢ iprop(StableHlo.held (c.tc : Thread nD τ) (Pipeline.arrRefs (τ := τ) spec1) (VB m c) ∗ (∃ r, prngReg c r)
    ∗ (StableHlo.held (c.tc : Thread nD τ) rest1 (VB m c) ∗ semVal (barCell c) 0) ∗ ∃ Wd, owes (c : Thread nD τ) (0 : CellTallies nD τ sig Unit) Wd)
  rw [StableHlo.held_sub_split (c.tc : Thread nD τ) arrs_sub1]
  unfold E1
  iintro ⟨⟨Ha, Hr⟩, Hp, Hb, HO⟩
  isplitl [Ha]; · iexact Ha
  isplitl [Hp]; · iexact Hp
  isplitl [Hr Hb]
  · isplitl [Hr] <;> iassumption
  iexact HO

/-- And leaves its result. -/
theorem reg1_post (c : Dev nD) : (reg1 m).post c ⊢ iprop(StableHlo.held (c : Thread nD τ) (Pipeline.ucRefs τ sig) (VC m c) ∗ E1 c) := by
  show iprop(StableHlo.held (c.tc : Thread nD τ) (Pipeline.arrRefs (τ := τ) spec1) (VC m c) ∗ (∃ r, prngReg c r)
    ∗ (StableHlo.held (c.tc : Thread nD τ) rest1 (VB m c) ∗ semVal (barCell c) 0) ∗ ∃ Wd, owes (c : Thread nD τ) (0 : CellTallies nD τ sig Unit) Wd) ⊢ _
  rw [StableHlo.held_sub_split (c.tc : Thread nD τ) arrs_sub1,
    show (StableHlo.held (c.tc : Thread nD τ) rest1 (VB m c) : sProp (MM F)) = StableHlo.held (c.tc : Thread nD τ) rest1 (VC m c) from by
      unfold StableHlo.held; exact bigSep_congr fun b hb => by rw [VC_rest m c b hb]]
  unfold E1
  iintro ⟨Ha, Hp, ⟨Hr, Hb⟩, HO⟩
  isplitl [Ha Hr]
  · isplitl [Ha] <;> iassumption
  isplitl [Hp]; · iexact Hp
  isplitl [Hb]; · iexact Hb
  iexact HO

end Cert.Mla

end
-- ==== Proof.Run.lean ====
module

public import proofs.«01_k».proof.Proof.Segs

/-! The launch: the cells' invariants made and dealt, and the whole program run. -/

@[expose] public section

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation Seg HostSeg RegionSeg)

variable {F : FTy → Type} [FloatOps F]
variable (m : (ℓ : Loc nD τ sig) → Buf (Elt F) ℓ) (ρ : Dev nD → PrngReg)

/-! ## The cells and the tokens -/

/-- The exchange's six counters are distinct. -/
theorem osem0_inj : Function.Injective osem0 := by decide
/-- None of the six counters is the barrier's. -/
theorem osem0_ne_bar : ∀ k : Fin 6, osem0 k ≠ .reg barS := by decide

/-- The meeting cells. -/
def barEmb : Dev nD ↪ GSem nD τ sig := ⟨fun c => barCell c, fun _ _ h => congrArg (fun g : GSem nD τ sig => g.1.1) h⟩
/-- The six cells of every device's copies. -/
def scEmb : Dev nD × Fin 6 ↪ GSem nD τ sig :=
  ⟨fun ck => ((ck.1 : Thread nD τ), osem0 ck.2), fun _ _ h =>
    Prod.ext (congrArg (fun g : GSem nD τ sig => g.1.1) h) (osem0_inj (congrArg Prod.snd h))⟩

abbrev barCells : Finset (GSem nD τ sig) := Finset.univ.map barEmb
abbrev scCells : Finset (GSem nD τ sig) := Finset.univ.map scEmb

/-- The cells a device's tokens are for. -/
abbrev tsem : Fin 7 → SemLoc sig :=
  fun | 0 => .reg barS | 1 => .dma (rcvS 0) | 2 => .dma (rcvS 1) | 3 => .dma (rcvS 2) | 4 => .dma (sndS 0) | 5 => .dma (sndS 1) | 6 => .dma (sndS 2)
/-- The transfers' semaphores are distinct. -/
theorem tsem_inj : Function.Injective tsem := by decide

/-- Every cell's one token. -/
def allToks : Finset (GSem nD τ sig × ℕ × Unit) :=
  Finset.univ.map ⟨fun ck : Dev nD × Fin 7 => (((ck.1 : Thread nD τ), tsem ck.2), 0, ()), fun _ _ h =>
    Prod.ext (congrArg (fun t : GSem nD τ sig × ℕ × Unit => t.1.1.1) h) (tsem_inj (congrArg (fun t : GSem nD τ sig × ℕ × Unit => t.1.2) h))⟩

/-- The barrier cells and the counters' cells are disjoint. -/
theorem cells_disjoint : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem0_ne_bar ck.2 (congrArg Prod.snd h)

/-- A device's barrier cell is among the cells. -/
theorem mem_bar (c : Dev nD) : barCell c ∈ (barCells ∪ scCells : Finset (GSem nD τ sig)) :=
  Finset.mem_union_left _ (Finset.mem_map_of_mem barEmb (Finset.mem_univ c))
/-- A device's six counters are among the cells. -/
theorem mem_sc (k : Fin 6) (c : Dev nD) : ((c : Thread nD τ), osem0 k) ∈ (barCells ∪ scCells : Finset (GSem nD τ sig)) :=
  Finset.mem_union_right _ (Finset.mem_map_of_mem scEmb (Finset.mem_univ (c, k)))

/-- The resources a launch starts from. -/
def u₀ : UU :=
  (initOf (Pipeline.cells (Pipeline.pin (pcfgs (F := F)) adm) cellOf_inj) (Pipeline.launchToks (Pipeline.pin (pcfgs (F := F)) adm) cellOf_inj),
    launchOf barCells scCells allToks)

/-- All of a resource on device 0. -/
def onFirst (X : sProp (MM F)) (c : Dev nD) : sProp (MM F) := if c = 0 then X else iprop(emp)
/-- A family that is trivial off one device is its part there. -/
theorem bigSep_onFirst (X : sProp (MM F)) : bigSep Finset.univ (onFirst X) = X := by
  rw [bigSep_univ_at _ (0 : Dev nD), bigSep_congr (s := Finset.univ.erase (0 : Dev nD)) (Ψ := fun _ => (BI.emp : sProp (MM F)))
      fun c hc => by unfold onFirst; rw [if_neg (Finset.ne_of_mem_erase hc)]; rfl, BI.bigSep_emp_const]
  unfold onFirst; rw [if_pos rfl]
  exact BI.equiv_iff.mp sep_emp

/-- The exchange's share of the launch, kept on device 0 until it is dealt. -/
def GX : Dev nD → sProp (MM F) := onFirst (BI.own (ER (launchOf barCells scCells allToks)))

/-- What every device may consult. -/
def records (κ : GSem nD τ sig → ℕ) : sProp (MM F) :=
  iprop((bigSep (barCells ∪ scCells) fun g => cellInv ER (xRd (snt m)) (κ g) g) ∗ bigSep barCells fun g => reached ER g 0)

instance records_persistent (κ : GSem nD τ sig → ℕ) : BI.Persistent (records m κ) := by unfold records; infer_instance

/-- The invariant of one cell, out of all of them. -/
theorem inv_at (κ : GSem nD τ sig → ℕ) {g : GSem nD τ sig} (hg : g ∈ (barCells ∪ scCells : Finset (GSem nD τ sig))) :
    (bigSep (barCells ∪ scCells) fun g => (cellInv ER (xRd (snt m)) (κ g) g : sProp (MM F))) ⊢ cellInv ER (xRd (snt m)) (κ g) g :=
  bigSep_elim hg

/-- The first round of a barrier cell, out of all of them. -/
theorem reached_at (c : Dev nD) : (bigSep barCells fun g => (reached ER g 0 : sProp (MM F))) ⊢ reached ER (barCell c) 0 :=
  bigSep_elim (Finset.mem_map_of_mem barEmb (Finset.mem_univ c))

/-- What stays with one device. -/
def linear (c : Dev nD) : sProp (MM F) :=
  iprop(atPos ER (barCell c) 0 ∅ 0
    ∗ (openTok ER (sndCell 0 c) ∗ openTok ER (sndCell 1 c) ∗ openTok ER (sndCell 2 c) ∗ openTok ER (rcvCell 0 c) ∗ openTok ER (rcvCell 1 c) ∗ openTok ER (rcvCell 2 c))
    ∗ toks c)

/-- A device's share makes its protocol state. -/
theorem ghost_intro (κ : GSem nD τ sig → ℕ) (c : Dev nD) : iprop(records m κ ∗ linear c) ⊢ iprop(∃ K, ghost (snt m) K c) := by
  unfold records linear ghost invs
  iintro ⟨⟨#HI, #HR⟩, HaB, ⟨O0, O1, O2, O3, O4, O5⟩, Ht⟩
  iexists κ
  isplitr
  · isplitr; · iapply (inv_at m κ (mem_bar c)); iexact HI
    isplitr; · iapply (inv_at m κ (mem_sc 0 c)); iexact HI
    isplitr; · iapply (inv_at m κ (mem_sc 1 c)); iexact HI
    isplitr; · iapply (inv_at m κ (mem_sc 2 c)); iexact HI
    isplitr; · iapply (inv_at m κ (mem_sc 3 c)); iexact HI
    isplitr; · iapply (inv_at m κ (mem_sc 4 c)); iexact HI
    isplitr; · iapply (inv_at m κ (mem_sc 5 c)); iexact HI
    isplitr; · iapply (inv_at m κ (mem_bar (pr c))); iexact HI
    isplitr; · iapply (inv_at m κ (mem_sc 3 (pr c))); iexact HI
    isplitr; · iapply (inv_at m κ (mem_sc 4 (pr c))); iexact HI
    iapply (inv_at m κ (mem_sc 5 (pr c))); iexact HI
  isplitl [HaB]; · iexact HaB
  isplitl [O0]; · iexact O0
  isplitl [O1]; · iexact O1
  isplitl [O2]; · iexact O2
  isplitl [O3]; · iexact O3
  isplitl [O4]; · iexact O4
  isplitl [O5]; · iexact O5
  isplitr; · iapply (reached_at (F := F) (pr c)); iexact HR
  iexact Ht

/-- The tokens of one device's own cells. -/
def ownToks (c : Dev nD) : sProp (MM F) :=
  iprop(dutyTok ER (barCell c) 0 ()
    ∗ dutyTok ER (rcvCell 0 c) 0 () ∗ dutyTok ER (rcvCell 1 c) 0 () ∗ dutyTok ER (rcvCell 2 c) 0 ()
    ∗ dutyTok ER (sndCell 0 c) 0 () ∗ dutyTok ER (sndCell 1 c) 0 () ∗ dutyTok ER (sndCell 2 c) 0 ())

/-- All tokens, grouped by their holders. -/
theorem ownToks_eq : bigSep allToks (fun x => (dutyTok ER x.1 x.2.1 x.2.2 : sProp (MM F))) = bigSep Finset.univ fun c : Dev nD => ownToks c := by
  unfold allToks; rw [bigSep_map, bigSep_univ_prod]
  exact bigSep_congr fun c _ => by
    unfold ownToks
    exact bigSep_univ_eq_bigSepL [(0 : Fin 7), 1, 2, 3, 4, 5, 6] (by decide) (by decide) _

/-- The tokens of the meeting and of the landings go to the other device of the pair. -/
theorem toks_around : (bigSep Finset.univ fun c : Dev nD => (ownToks c : sProp (MM F))) ⊢ bigSep Finset.univ fun c : Dev nD => toks c := by
  unfold ownToks toks
  rw [bigSep_sep', bigSep_sep', bigSep_sep', bigSep_sep', bigSep_sep', bigSep_sep', bigSep_sep', bigSep_sep', bigSep_sep', bigSep_sep', bigSep_sep', bigSep_sep',
    bigSep_univ_equiv prEquiv (fun c : Dev nD => (dutyTok ER (barCell c) 0 () : sProp (MM F))),
    bigSep_univ_equiv prEquiv (fun c : Dev nD => (dutyTok ER (rcvCell 0 c) 0 () : sProp (MM F))),
    bigSep_univ_equiv prEquiv (fun c : Dev nD => (dutyTok ER (rcvCell 1 c) 0 () : sProp (MM F))),
    bigSep_univ_equiv prEquiv (fun c : Dev nD => (dutyTok ER (rcvCell 2 c) 0 () : sProp (MM F)))]
  exact BI.Entails.refl _

/-! ## The credits a launch gives -/

/-- What is owed to the other device's cell, read at a cell. -/
theorem tally_pr (d c : Dev nD) (s s' : SemLoc sig) (n : ℕ) :
    (tallyAt (((pr d : Dev nD) : Thread nD τ), s) () n : CellTallies nD τ sig Unit) ((c : Thread nD τ), s') () = if s' = s ∧ d = pr c then n else 0 := by
  rw [tallyAt_apply]
  by_cases h : s' = s ∧ d = pr c
  · obtain ⟨rfl, rfl⟩ := h
    rw [if_pos ⟨by rw [pr_pr], rfl⟩, if_pos ⟨rfl, rfl⟩]
  · rw [if_neg h, if_neg]
    rintro ⟨e, -⟩
    refine h ⟨congrArg Prod.snd e, ?_⟩
    rw [← pr_pr d]
    exact congrArg pr (congrArg (fun g : GSem nD τ sig => g.1.1) e).symm

/-- What a device owes to a cell at the start. -/
theorem owed_at (d c : Dev nD) (s : SemLoc sig) : O₀ d ((c : Thread nD τ), s) () =
    (((if s = .dma (rcvS 2) ∧ d = pr c then Nc else 0) + (if s = .dma (rcvS 1) ∧ d = pr c then Nw else 0)) + (if s = .dma (rcvS 0) ∧ d = pr c then Nw else 0))
      + (if s = .reg barS ∧ d = pr c then 1 else 0) := by
  unfold O₀ Orcv
  rw [Pi.add_apply, Pi.add_apply, Pi.add_apply, Finsupp.add_apply, Finsupp.add_apply, Finsupp.add_apply, tally_pr, tally_pr, tally_pr, tally_pr]

/-- The launch credits a cell with what every device owes it. -/
theorem launch_at (c : Dev nD) (s : SemLoc sig) (n : ℕ) (h : ∀ d, O₀ d ((c : Thread nD τ), s) () = if d = pr c then n else 0) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (pr c) fun _ => n,
    if_pos (Finset.mem_univ _)]

/-- A device owes its partner's barrier one unit. -/
theorem owed_bar (d c : Dev nD) : O₀ d (barCell c) () = if d = pr c then 1 else 0 := by
  rw [owed_at]; by_cases h : d = pr c <;> simp [h]
/-- A device owes its partner the key weights. -/
theorem owed_rcv0 (d c : Dev nD) : O₀ d (rcvCell 0 c) () = if d = pr c then Nw else 0 := by
  rw [owed_at, if_neg (fun h => absurd h.1 (by decide)), if_neg (fun h => absurd h.1 (by decide)), if_neg (c := _ = SemLoc.reg _ ∧ _) (fun h => absurd h.1 (by decide))]
  by_cases h : d = pr c <;> simp [h]
/-- A device owes its partner the value weights. -/
theorem owed_rcv1 (d c : Dev nD) : O₀ d (rcvCell 1 c) () = if d = pr c then Nw else 0 := by
  rw [owed_at, if_neg (c := _ = SemLoc.dma (rcvS 2) ∧ _) (fun h => absurd h.1 (by decide)), if_neg (c := _ = SemLoc.dma (rcvS 0) ∧ _) (fun h => absurd h.1 (by decide)), if_neg (c := _ = SemLoc.reg _ ∧ _) (fun h => absurd h.1 (by decide))]
  by_cases h : d = pr c <;> simp [h]
/-- A device owes its partner the latents. -/
theorem owed_rcv2 (d c : Dev nD) : O₀ d (rcvCell 2 c) () = if d = pr c then Nc else 0 := by
  rw [owed_at, if_neg (c := _ = SemLoc.dma (rcvS 1) ∧ _) (fun h => absurd h.1 (by decide)), if_neg (c := _ = SemLoc.dma (rcvS 0) ∧ _) (fun h => absurd h.1 (by decide)), if_neg (c := _ = SemLoc.reg _ ∧ _) (fun h => absurd h.1 (by decide))]
  by_cases h : d = pr c <;> simp [h]

/-- Four cells out of all of a device's. -/
theorem four_of (Φ : SemLoc sig → sProp (MM F)) :
    bigSep Finset.univ Φ ⊢ iprop(Φ (.reg barS) ∗ Φ (.dma (rcvS 0)) ∗ Φ (.dma (rcvS 1)) ∗ Φ (.dma (rcvS 2))) := by
  have h : bigSep Finset.univ Φ ⊢ bigSep [SemLoc.reg barS, .dma (rcvS 0), .dma (rcvS 1), .dma (rcvS 2)].toFinset Φ :=
    BI.bigSep_subset (Finset.subset_univ _)
  exact h.trans (Entails.of_eq (bigSep_eq_bigSepL [SemLoc.reg barS, .dma (rcvS 0), .dma (rcvS 1), .dma (rcvS 2)] (by decide) Φ))

/-- The credits of one device. -/
theorem creds_launch (c : Dev nD) : (Pipeline.launchCred O₀ c : sProp (MM F)) ⊢ creds c := by
  unfold Pipeline.launchCred creds
  rw [← launch_at c _ 1 (fun d => owed_bar d c), ← launch_at c _ Nw (fun d => owed_rcv0 d c), ← launch_at c _ Nw (fun d => owed_rcv1 d c), ← launch_at c _ Nc (fun d => owed_rcv2 d c)]
  exact four_of _

/-! ## The launch -/

/-- What of a core's launch holdings is not the exchange's ghost state. -/
def bundle (c : Dev nD) : sProp (MM F) :=
  iprop(StableHlo.held (c : Thread nD τ) (Pipeline.ucRefs τ sig) (V0 m c) ∗ creds c ∗ owes (c : Thread nD τ) (O₀ c) ∅ ∗ ∃ r, prngReg c r)

abbrev T₀ (c : Dev nD) : sProp (MM F) := iprop(StableHlo.held (c : Thread nD τ) (Pipeline.ucRefs τ sig) (V0 m c) ∗ E0 m c)
abbrev Tₙ (c : Dev nD) : sProp (MM F) := iprop(StableHlo.held (c : Thread nD τ) (Pipeline.ucRefs τ sig) (V4 m (outs m) c) ∗ semVal (barCell c) 0)

/-- The state before the first item, from the records and a device's own part. -/
theorem T₀_intro (κ : GSem nD τ sig → ℕ) (c : Dev nD) : iprop(records m κ ∗ (linear c ∗ bundle m c)) ⊢ T₀ m c := by
  unfold bundle T₀ E0 start
  iintro ⟨#HR, Hl, Hh, Hcr, HO, Hp⟩
  isplitl [Hh]; · iexact Hh
  isplitr [HO]
  · isplitl [Hl]
    · iapply (ghost_intro m κ c)
      isplitr; · iexact HR
      iexact Hl
    isplitl [Hcr] <;> iassumption
  · iexists ∅; iexact HO

/-- The one counter outside the calls' scopes. -/
theorem barOnly (c : Dev nD) : (unscopedSems0 c : sProp (MM F)) = semVal (barCell c) 0 := by
  unfold unscopedSems0
  rw [show (Finset.univ.filter fun sm : SemLoc sig => ¬ sm.isScoped .tc) = {SemLoc.reg barS} from by decide, BI.bigSep_singleton]

/-- What a core is launched with, sorted. -/
theorem sorted (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ GX c)
    ⊢ (iprop(bundle m c ∗ (semVal (barCell c) 0 ∗ GX c)) : sProp (MM F)) := by
  rw [show (unscopedBufs c (fun b => m ((c : Thread nD τ).loc b)) : sProp (MM F)) = StableHlo.held (c : Thread nD τ) (Pipeline.ucRefs τ sig) (V0 m c) from
      Pipeline.unscopedBufs_held c (V0 m c), barOnly]
  unfold bundle
  iintro ⟨Hh, Hus, HO, Hcr, Hp, HG⟩
  ihave Hc := (creds_launch (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- Every core's first state at once. -/
theorem begin_all :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ GX c)) ∗ levAts L lv)
      ⊢ (|={Set.univ}=> bigSep Finset.univ (T₀ m) : sProp (MM F)) := by
  have hv : bigSep Finset.univ (fun c : Dev nD => (semVal (barCell c) 0 : sProp (MM F))) ⊢ bigSep barCells (fun g => (semVal g 0 : sProp (MM F))) :=
    Entails.of_eq (bigSep_map (s := Finset.univ) barEmb (Φ := fun g : GSem nD τ sig => (semVal g 0 : sProp (MM F)))).symm
  have hat : bigSep barCells (fun g => (atPos ER g 0 ∅ 0 : sProp (MM F))) ⊢ bigSep Finset.univ (fun c : Dev nD => (atPos ER (barCell c) 0 ∅ 0 : sProp (MM F))) :=
    Entails.of_eq (bigSep_map (s := Finset.univ) barEmb (Φ := fun g : GSem nD τ sig => (atPos ER g 0 ∅ 0 : sProp (MM F))))
  have hopen : bigSep scCells (fun g => (openTok ER g : sProp (MM F)))
      ⊢ bigSep Finset.univ (fun c : Dev nD => iprop(openTok ER (sndCell 0 c) ∗ openTok ER (sndCell 1 c) ∗ openTok ER (sndCell 2 c)
          ∗ openTok ER (rcvCell 0 c) ∗ openTok ER (rcvCell 1 c) ∗ openTok ER (rcvCell 2 c))) :=
    Entails.of_eq (by
      rw [bigSep_map, bigSep_univ_prod]
      exact bigSep_congr fun c _ => bigSep_univ_eq_bigSepL [(0 : Fin 6), 1, 2, 3, 4, 5] (by decide) (by decide)
        (fun k : Fin 6 => (openTok ER ((c : Thread nD τ), osem0 k) : sProp (MM F))))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ GX c))
      ⊢ (bigSep Finset.univ fun c : Dev nD => iprop(bundle m c ∗ (semVal (barCell c) 0 ∗ GX c)) : sProp (MM F)) from bigSep_mono fun c _ => sorted m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (GX (F := F)) ⊢ BI.own (ER (launchOf barCells scCells allToks)) from
    Entails.of_eq (bigSep_onFirst (F := F) (BI.own (ER (launchOf barCells scCells allToks))))) $$ HG
  imod (Rounds.fund_launch ER (xRd (snt m)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply hopen $$ Hopen
    iapply (toks_around (F := F))
    iapply (Entails.of_eq (ownToks_eq (F := F))) $$ Htok
  · iexact HB

/-- The only counter a call does not scope is the meeting's. -/
theorem unscoped_bar : ∀ sm : SemLoc sig, sm.isScoped .tc = false → sm = .reg barS := by decide

/-! ## The run -/

/-- What rides along between the program's items. -/
def ride : Fin 3 → Dev nD → sProp (MM F) := fun | 0 => E0 m | 1 => E1 | 2 => E1

/-- The program's items. -/
abbrev items : List (Seg (pcfgs (F := F)) adm (pdats m) () defs₀ 𝒱₀ L lv) :=
  [.host (seg0 m 𝒱₀ L lv (ride m)), .region (reg0 m), .region (reg1 m), .host (seg3 m (outs m) 𝒱₀ L lv (ride m))]

/-- What a final memory shows of one device. -/
def Shown (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_v4) = V4 m (outs m) c main_v4

/-- A buffer outside the calls' scopes, read off the last valuation. -/
theorem end_read (c : Dev nD) (s' : Phys nD τ sig (Elt F)) : (iprop(Tₙ m c ∗ SI s') : sProp (MM F)) ⊢ |={Set.univ}=> iprop(⌜Shown m c s'.mem ∧ s'.mem.sem (barCell c) = 0⌝ ∗ SI s') := by
  dsimp only [Tₙ]
  unfold StableHlo.held
  iintro ⟨⟨Hh, Hb0⟩, HSI⟩
  icombine HSI Hb0 gives %hb
  ihave Hr := (pointsTo_read_all (Pipeline.ucRefs τ sig) (fun b => ((c : Thread nD τ).1, b)) (V4 m (outs m) c) s') $$ [Hh HSI]
  · isplitl [Hh] <;> iassumption
  icases Hr with ⟨%h, HSI⟩
  imodintro
  isplitr
  · ipureintro
    refine ⟨⟨?_, ?_, ?_, ?_, ?_, ?_, ?_, ?_, ?_⟩, by simpa using hb⟩
    · exact (h (Proc.devRef .tc main_arg0) (Finset.mem_filter.mpr ⟨StableHlo.devRef_mem_tcRefs main_arg0, by decide⟩)).trans (V4_main_arg0 m (outs m) c)
    · exact (h (Proc.devRef .tc main_arg1) (Finset.mem_filter.mpr ⟨StableHlo.devRef_mem_tcRefs main_arg1, by decide⟩)).trans (V4_main_arg1 m (outs m) c)
    · exact (h (Proc.devRef .tc main_arg2) (Finset.mem_filter.mpr ⟨StableHlo.devRef_mem_tcRefs main_arg2, by decide⟩)).trans (V4_main_arg2 m (outs m) c)
    · exact (h (Proc.devRef .tc main_arg3) (Finset.mem_filter.mpr ⟨StableHlo.devRef_mem_tcRefs main_arg3, by decide⟩)).trans (V4_main_arg3 m (outs m) c)
    · exact (h (Proc.devRef .tc main_arg4) (Finset.mem_filter.mpr ⟨StableHlo.devRef_mem_tcRefs main_arg4, by decide⟩)).trans (V4_main_arg4 m (outs m) c)
    · exact (h (Proc.devRef .tc main_arg5) (Finset.mem_filter.mpr ⟨StableHlo.devRef_mem_tcRefs main_arg5, by decide⟩)).trans (V4_main_arg5 m (outs m) c)
    · exact (h (Proc.devRef .tc main_arg6) (Finset.mem_filter.mpr ⟨StableHlo.devRef_mem_tcRefs main_arg6, by decide⟩)).trans (V4_main_arg6 m (outs m) c)
    · exact (h (Proc.devRef .tc main_arg7) (Finset.mem_filter.mpr ⟨StableHlo.devRef_mem_tcRefs main_arg7, by decide⟩)).trans (V4_main_arg7 m (outs m) c)
    · exact h (Proc.devRef .tc main_v4) (Finset.mem_filter.mpr ⟨StableHlo.devRef_mem_tcRefs main_v4, by decide⟩)
  · iexact HSI

/-- The states at the ends of the items fit. -/
theorem chains : Seg.Chains (T₀ m) (items m) fun c => iprop(Tₙ m c ∗ ∃ W, owes (c : Thread nD τ) (0 : CellTallies nD τ sig Unit) W) := by
  refine ⟨fun c => .rfl, fun c => reg0_pre m c, fun c => (reg0_post m c).trans (reg1_pre m c), fun c => (reg1_post m c).trans ?_, fun c => ?_⟩
  · rw [← V3_eq m c]; exact .rfl
  · show iprop(StableHlo.held (c : Thread nD τ) (Pipeline.ucRefs τ sig) (V4 m (outs m) c) ∗ E1 c) ⊢ _
    unfold E1
    iintro ⟨Hh, -, Hb, HO⟩
    isplitr [HO]
    · isplitl [Hh] <;> iassumption
    · iexact HO

set_option backward.isDefEq.respectTransparency.types false in
/-- From any memory with zero counters every weakly fair execution of the program ends; then each device's arguments are
    unchanged, its result buffer holds what the exchange and the attention compute, and every counter is at zero. -/
theorem run_main : θ_run defs (onTc (τ := τ) (main (F := F))) ⟨m, fun _ => 0, ρ⟩
    (fun r => (∀ c : Dev nD, Shown m c r.2) ∧ r.2.sem = fun _ => 0) :=
  Pipeline.θ_run_regions_kit_sems (pcfgs (F := F)) adm (pdats m) () cellOf_inj EP defs₀ 𝒱₀ L lv m ρ main (items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (by simp only [items, Seg.pipes_host, Seg.pipes_region, Seg.pipes_nil]; decide)
    (O₀ := O₀) (hL := L_of_ne) (G := GX) (u₀ := u₀)
    (hu₀ := by
      unfold u₀ GX
      iintro Hu
      ihave H := (ownU_pair _ _) $$ Hu
      icases H with ⟨HP, HX⟩
      imodintro
      isplitl [HP]; · iexact HP
      rw [bigSep_onFirst]; iexact HX)
    (T₀ := T₀ m) (Tₙ := Tₙ m)
    (hch := chains m)
    (hinit := begin_all m ρ)
    (QY := fun c s => Shown m c s ∧ s.sem (barCell c) = 0)
    (hfin := end_read m)
    (hQ := fun s h hs => ⟨fun c => (h c).1,
      sem_eq_zero hs fun c sm hsm => by
        obtain rfl := unscoped_bar sm hsm
        exact (h c).2⟩)

end Cert.Mla

end
-- ==== Proof.Frame.lean ====
module

public import proofs.«01_k».proof.Proof.Run
public import proofs.«01_k».proof.Proof.Gen.Kernel
public import Idealize.ShloMosaic.PureOps.BitExact

/-! The two printings of the kernel are one program. -/

@[expose] public section

noncomputable section

namespace Cert.Mla

open Cert.KernelIdeal
open Idealize.ShloMosaic Idealize.ShloMosaic.TcCoe Idealize.SL.Sem

set_option maxHeartbeats 4000000 in
/-- The body is the same function. -/
theorem e_cc0__exchange_body (i : grid0.Coords) (arg1 : Memref sig .tc .vmem S1024x2048 .f32) (harg1 : arg1.IsWhole) (arg2 : Memref sig .tc .vmem S2048x128 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S2048x32 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S1024x1024 .bf16) (harg8 : arg8.IsWhole) (arg9 : Memref sig .tc .vmem S1024x32 .bf16) (harg9 : arg9.IsWhole) (arg10 : Memref sig .tc .vmem S1024x256 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S128x2048 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S4x1024x128 .bf16) (harg19 : arg19.IsWhole) (arg20 : DmaSems sig S3) (arg21 : DmaSems sig S3) :
    Cert.Kernel.cc0__exchange_body (F := Bits) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 = Cert.KernelIdeal.cc0__exchange_body (F := Bits) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 := rfl
set_option maxHeartbeats 4000000 in
/-- The body is the same function. -/
theorem e_cc1__attn_body (i : grid1.Coords) (arg2 : Memref sig .tc .vmem S512x4096 .bf16) (harg2 : arg2.IsWhole) (arg3 : Memref sig .tc .vmem S512x32 .bf16) (harg3 : arg3.IsWhole) (arg4 : Memref sig .tc .vmem S512x256 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x2048 .f32) (harg7 : arg7.IsWhole) (arg8 : Memref sig .tc .vmem S512x2048 .f32) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .f32) (harg11 : arg11.IsWhole) :
    Cert.Kernel.cc1__attn_body (F := Bits) i arg2 harg2 arg3 harg3 arg4 harg4 arg5 harg5 arg6 harg6 arg7 harg7 arg8 harg8 arg9 harg9 arg10 harg10 arg11 harg11 = Cert.KernelIdeal.cc1__attn_body (F := Bits) i arg2 harg2 arg3 harg3 arg4 harg4 arg5 harg5 arg6 harg6 arg7 harg7 arg8 harg8 arg9 harg9 arg10 harg10 arg11 harg11 := rfl

set_option maxHeartbeats 8000000 in
/-- The tables of bodies are the same. -/
theorem e_defs0 : (Cert.Kernel.defs₀ (F := Bits)) = Cert.KernelIdeal.defs₀ (F := Bits) := by
  unfold Cert.Kernel.defs₀ Cert.KernelIdeal.defs₀
  refine congrArg Defs.onTc (funext fun l => funext fun a => ?_)
  match l, a with
  | 0, (t, s) =>
    dsimp only
    exact e_cc0__exchange_body _ _ _ _ _ _ _ _ _ _ _ _ _ _ _ _ _ _ _ _ _ _ _ _ _ _ _ _ _ _ _ _ _ _ _ _ _ _ _ _ _
  | 1, (t, s) =>
    dsimp only
    exact e_cc1__attn_body _ _ _ _ _ _ _ _ _ _ _ _ _ _ _ _ _ _ _ _ _
set_option maxHeartbeats 8000000 in
/-- With the calls added, too. -/
theorem e_defs : (Cert.Kernel.defs (F := Bits)) = Cert.KernelIdeal.defs (F := Bits) := by
  unfold Cert.Kernel.defs Cert.KernelIdeal.defs
  rw [e_defs0]
  rfl
/-- The kernel as it is compiled runs as the kernel over any carrier does. -/
theorem run_kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩
      (fun r => (∀ c : Dev Cert.Kernel.nD, Shown (F := Bits) m c r.2) ∧ r.2.sem = fun _ => 0) :=
  by
  rw [e_defs]
  exact run_main (F := Bits) m g

end Cert.Mla

end
-- ==== Proof.Spec.lean ====
module

public import Idealize.ShloMosaic.Lib.Pointwise
public import Idealize.ShloMosaic.Lib.IdealHost

/-! The attention as sums over the extended reals, and its two forms of the softmax. -/

@[expose] public section

noncomputable section

namespace Cert.Mla

open Idealize.ShloMosaic

/-- The factor of the scores. -/
def scale : EReal := Ideal.ofBits .f32 0x3DA1E89B#32

/-- The activations times a matrix. -/
def proj {n : ℕ} (X : FVec Ideal ⟨3, ![2, 512, 2048]⟩ .f32) (W : FVec Ideal ⟨2, ![2048, n]⟩ .f32) (b : Fin 2) (s : Fin 512) (j : Fin n) : EReal :=
  ∑ k : Fin 2048, X (ix3 b s k) * W (ix2 k j)

/-- The latents times an up-projection. -/
def up (C : Fin 2 → Fin 512 → Fin 256 → EReal) (W : FVec Ideal ⟨2, ![256, 2048]⟩ .f32) (b : Fin 2) (s : Fin 512) (j : Fin 2048) : EReal :=
  ∑ l : Fin 256, C b s l * W (ix2 l j)

/-- A head's column of the 2048. -/
def hd (h : Fin 16) (d : Fin 128) : Fin 2048 := ⟨h.val * 128 + d.val, by omega⟩
/-- A head's column of the 512 rotary ones. -/
def hr (h : Fin 16) (d : Fin 32) : Fin 512 := ⟨h.val * 32 + d.val, by omega⟩

/-- A head's score of a query row against a key row, from queries, keys and their rotary parts. -/
def score (Q K : Fin 2 → Fin 512 → Fin 2048 → EReal) (R : Fin 2 → Fin 512 → Fin 512 → EReal) (P : Fin 2 → Fin 512 → Fin 32 → EReal)
    (b : Fin 2) (h : Fin 16) (q k : Fin 512) : EReal :=
  ((∑ d : Fin 128, Q b q (hd h d) * K b k (hd h d)) + ∑ d : Fin 32, R b q (hr h d) * P b k d) * scale

/-- The greatest of a row's scores. -/
def top (S : Fin 512 → EReal) : EReal := Finset.univ.fold max ⊥ S

/-- Values weighted by the exponentials of a row's scores under their greatest, over the exponentials' sum. -/
def soft (S V : Fin 512 → EReal) : EReal :=
  ∑ k : Fin 512, V k * Ideal.div (Ideal.exp (S k - top S)) (0 + ∑ j : Fin 512, Ideal.exp (S j - top S))

/-- Values weighted by the exponentials of a row's scores as they are, the whole over the exponentials' sum. -/
def plain (S V : Fin 512 → EReal) : EReal :=
  Ideal.div (∑ k : Fin 512, Ideal.exp (S k) * V k) (∑ j : Fin 512, Ideal.exp (S j))

/-- The heads' outputs times the output projection. -/
def outp (O : Fin 2 → Fin 512 → Fin 16 → Fin 128 → EReal) (W : FVec Ideal ⟨2, ![2048, 2048]⟩ .f32) (b : Fin 2) (s : Fin 512) (n : Fin 2048) : EReal :=
  ∑ j : Fin 2048, O b s ⟨j.val / 128, by omega⟩ ⟨j.val % 128, by omega⟩ * W (ix2 j n)

/-- A number that is neither infinity. -/
def Fin' (x : EReal) : Prop := ∃ r : ℝ, x = r

/-- A product of reals is a real. -/
theorem Fin'.mul {x y : EReal} (hx : Fin' x) (hy : Fin' y) : Fin' (x * y) := by
  obtain ⟨a, rfl⟩ := hx; obtain ⟨b, rfl⟩ := hy; exact ⟨a * b, (EReal.coe_mul a b).symm⟩

/-- A sum of two reals is a real. -/
theorem Fin'.add {x y : EReal} (hx : Fin' x) (hy : Fin' y) : Fin' (x + y) := by
  obtain ⟨a, rfl⟩ := hx; obtain ⟨b, rfl⟩ := hy; exact ⟨a + b, (EReal.coe_add a b).symm⟩

/-- A finite sum of finite numbers is finite. -/
theorem Fin'.sum {ι : Type} (s : Finset ι) {f : ι → EReal} (hf : ∀ i, Fin' (f i)) : Fin' (∑ i ∈ s, f i) := by
  classical
  induction s using Finset.induction_on with
  | empty => exact ⟨0, by simp⟩
  | insert a s ha ih => rw [Finset.sum_insert ha]; exact (hf a).add ih

/-- Real numbers summed among the extended ones. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum times a nonnegative real, term by term. -/
theorem sum_mul_real {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.mpr hr) (EReal.coe_ne_top r)]

/-- The scores' factor is finite. -/
theorem fin_scale : Fin' scale := by
  unfold scale
  refine ⟨Ideal.ofBits .f32 0x3DA1E89B#32 |>.toReal, (EReal.coe_toReal ?_ ?_).symm⟩ <;>
    (simp [Ideal.ofBits, Ideal.ieee]; rw [← EReal.coe_mul])
  · exact EReal.coe_ne_top _
  · exact EReal.coe_ne_bot _

/-- The greatest of real scores is one of them. -/
theorem fin_top (S : Fin 512 → EReal) (hS : ∀ k, Fin' (S k)) : Fin' (top S) := by
  have key : ∀ s : Finset (Fin 512), s.fold max ⊥ S = ⊥ ∧ s = ∅ ∨ Fin' (s.fold max ⊥ S) := by
    classical
    intro s
    induction s using Finset.induction_on with
    | empty => exact .inl ⟨rfl, rfl⟩
    | insert a s ha ih =>
      right
      rw [Finset.fold_insert ha]
      rcases ih with ⟨ih, -⟩ | ih
      · rw [ih, max_eq_left bot_le]; exact hS a
      · rcases max_choice (S a) (s.fold max ⊥ S) with h | h <;> rw [h]
        · exact hS a
        · exact ih
  rcases key Finset.univ with ⟨-, h⟩ | h
  · exact absurd h (Finset.univ_nonempty.ne_empty)
  · exact h

/-- For real scores the two forms of the softmax agree, whatever the values. -/
theorem soft_eq_plain (S V : Fin 512 → EReal) (hS : ∀ k, Fin' (S k)) : soft S V = plain S V := by
  obtain ⟨M, hM⟩ := fin_top S hS
  choose s hs using hS
  have hZ : 0 < ∑ j : Fin 512, Real.exp (s j) := Finset.sum_pos (fun j _ => Real.exp_pos _) Finset.univ_nonempty
  have hE : ∀ k, Ideal.exp (S k) = ((Real.exp (s k) : ℝ) : EReal) := fun k => by rw [hs k]; rfl
  have hEM : ∀ k, Ideal.exp (S k - M) = ((Real.exp (s k) * Real.exp (-M) : ℝ) : EReal) := fun k => by
    rw [hs k, ← EReal.coe_sub, ← Real.exp_add, ← sub_eq_add_neg]; rfl
  have hd : ∀ (x : EReal) (z : ℝ), 0 < z → Ideal.div x (z : EReal) = x * ((z⁻¹ : ℝ) : EReal) := fun x z hz => by
    unfold Ideal.div
    rw [if_neg (by exact_mod_cast hz.ne'), EReal.coe_inv]
  unfold soft plain
  rw [hM]
  simp only [hE, hEM, coe_sum, zero_add]
  rw [← Finset.sum_mul, hd _ _ hZ, sum_mul_real _ _ _ (inv_nonneg.mpr hZ.le)]
  refine Finset.sum_congr rfl fun k _ => ?_
  rw [hd _ _ (mul_pos hZ (Real.exp_pos _)), ← EReal.coe_mul, mul_comm (V k), mul_right_comm ((Real.exp (s k) : ℝ) : EReal), ← EReal.coe_mul]
  congr 2
  have := hZ.ne'
  have := (Real.exp_pos (-M)).ne'
  field_simp

/-- Finite factors make a finite score. -/
theorem fin_score {Q K R P} (hQ : ∀ b s j, Fin' (Q b s j)) (hK : ∀ b s j, Fin' (K b s j)) (hR : ∀ b s j, Fin' (R b s j)) (hP : ∀ b s j, Fin' (P b s j))
    (b : Fin 2) (h : Fin 16) (q k : Fin 512) : Fin' (score Q K R P b h q k) :=
  ((Fin'.sum _ fun _ => (hQ _ _ _).mul (hK _ _ _)).add (Fin'.sum _ fun _ => (hR _ _ _).mul (hP _ _ _))).mul fin_scale

/-- A projection of reals by real weights is of reals. -/
theorem fin_proj {n : ℕ} {X : FVec Ideal ⟨3, ![2, 512, 2048]⟩ .f32} {W : FVec Ideal ⟨2, ![2048, n]⟩ .f32} (hX : ∀ i, Fin' (X i)) (hW : ∀ i, Fin' (W i))
    (b : Fin 2) (s : Fin 512) (j : Fin n) : Fin' (proj X W b s j) := Fin'.sum _ fun _ => (hX _).mul (hW _)

/-- An up-projection of real latents by real weights is of reals. -/
theorem fin_up {C : Fin 2 → Fin 512 → Fin 256 → EReal} {W : FVec Ideal ⟨2, ![256, 2048]⟩ .f32} (hC : ∀ b s l, Fin' (C b s l)) (hW : ∀ i, Fin' (W i))
    (b : Fin 2) (s : Fin 512) (j : Fin 2048) : Fin' (up C W b s j) := Fin'.sum _ fun _ => (hC _ _ _).mul (hW _)

end Cert.Mla

end
-- ==== Proof.Pays.lean ====
module

public import proofs.«01_k».proof.Proof.QVals
public import proofs.«01_k».proof.Proof.Spec
public import Idealize.ShloMosaic.Lib.Pointwise
public import Idealize.ShloMosaic.Lib.IdealHost

/-! What the kernel's arithmetic is over the extended reals, element by element. -/

@[expose] public section

noncomputable section

namespace Cert.Mla

open Cert.KernelIdeal Cert.KernelIdeal.Gen
open Idealize.ShloMosaic Idealize.ShloMosaic.TcCoe Idealize.ShloMosaic.Tactic

/-- A share of the latents. -/
theorem pay8_at (x : FVec Ideal S1024x2048 .f32) (w : FVec Ideal S2048x128 .f32) (r : Fin 1024) (j : Fin 128) :
    k0_pay8 (F := Ideal) x w (ix2 r j) = ∑ k : Fin 2048, x (ix2 r k) * w (ix2 k j) := by
  pointwise [k0_pay8]

/-- The rotary keys. -/
theorem pay9_at (x : FVec Ideal S1024x2048 .f32) (w : FVec Ideal S2048x32 .f32) (r : Fin 1024) (j : Fin 32) :
    k0_pay9 (F := Ideal) x w (ix2 r j) = ∑ k : Fin 2048, x (ix2 r k) * w (ix2 k j) := by
  pointwise [k0_pay9]

/-- The rotary queries. -/
theorem pay10_at (x : FVec Ideal S1024x2048 .f32) (w : FVec Ideal S2048x512 .f32) (r : Fin 1024) (j : Fin 512) :
    k0_pay10 (F := Ideal) x w (ix2 r j) = ∑ k : Fin 2048, x (ix2 r k) * w (ix2 k j) := by
  pointwise [k0_pay10]

/-- The queries. -/
theorem pay15_at (x : FVec Ideal S1024x2048 .f32) (w : FVec Ideal S2048x512 .f32) (r : Fin 1024) (j : Fin 512) :
    k0_pay15 (F := Ideal) x w (ix2 r j) = ∑ k : Fin 2048, x (ix2 r k) * w (ix2 k j) := by
  pointwise [k0_pay15]

/-- A share of the keys' up-projection. -/
theorem pay6_at (w : FVec Ideal S128x2048 .f32) (y : S128x2048.Idx) : k0_pay6 (F := Ideal) w y = w y := by
  pointwise [k0_pay6]

/-- A share of the values' up-projection. -/
theorem pay7_at (w : FVec Ideal S128x2048 .f32) (y : S128x2048.Idx) : k0_pay7 (F := Ideal) w y = w y := by
  pointwise [k0_pay7]

/-- One group's rotary queries without their leading axis. -/
theorem pay16_at (q : FVec Ideal S1x1024x128 .bf16) (r : Fin 1024) (j : Fin 128) : k0_pay16 (F := Ideal) q (ix2 r j) = q (ix3 0 r j) := by
  pointwise [k0_pay16]

/-- The padding of the queries is zero. -/
theorem pay17_at (y : S1024x1024.Idx) : k0_pay17 (F := Ideal) y = 0 := by
  pointwise [k0_pay17]

/-- The keys of all heads. -/
theorem kpay2_at (cf : FVec Ideal S512x256 .bf16) (w : FVec Ideal S256x2048 .bf16) (r : Fin 512) (j : Fin 2048) :
    k1_pay2 (F := Ideal) cf w (ix2 r j) = ∑ k : Fin 256, cf (ix2 r k) * w (ix2 k j) := by
  pointwise [k1_pay2]

/-- The values of all heads. -/
theorem kpay3_at (cf : FVec Ideal S512x256 .bf16) (w : FVec Ideal S256x2048 .bf16) (r : Fin 512) (j : Fin 2048) :
    k1_pay3 (F := Ideal) cf w (ix2 r j) = ∑ k : Fin 256, cf (ix2 r k) * w (ix2 k j) := by
  pointwise [k1_pay3]

/-- The padding of the keys is zero. -/
theorem kpay4_at (y : S512x4096.Idx) : k1_pay4 (F := Ideal) y = 0 := by
  pointwise [k1_pay4]

/-- The output projection. -/
theorem kpay1_at (o : FVec Ideal S512x2048 .f32) (w : FVec Ideal S2048x2048 .f32) (r : Fin 512) (j : Fin 2048) :
    k1_pay1 (F := Ideal) o w (constant S512x2048 .f32 0x00000000#32) (ix2 r j) = ∑ k : Fin 2048, o (ix2 r k) * w (ix2 k j) := by
  pointwise [k1_pay1]

/-- One head: exponentials of the scaled scores against the values, over their sum. -/
theorem kpay40_at (q k : FVec Ideal S512x256 .bf16) (v : FVec Ideal S512x128 .bf16) (r : Fin 512) (j : Fin 128) :
    k1_pay40 (F := Ideal) q k v (ix2 r j)
      = Ideal.div (∑ t : Fin 512, Ideal.exp ((∑ e : Fin 256, q (ix2 r e) * k (ix2 t e)) * scale) * v (ix2 t j))
          (∑ t : Fin 512, Ideal.exp ((∑ e : Fin 256, q (ix2 r e) * k (ix2 t e)) * scale)) := by
  pointwise [k1_pay40]
  simp [scale]

end Cert.Mla

end
-- ==== Proof.Blocks.lean ====
module

public import proofs.«01_k».proof.Proof.Run
public import proofs.«01_k».proof.Proof.Pays
public import Idealize.ShloMosaic.Lib.Pipeline.ValueKit.Geometry

/-! What each block a grid point reads holds, element by element. -/

@[expose] public section

noncomputable section

namespace Cert.Mla

open Cert.KernelIdeal Cert.KernelIdeal.Gen
open Idealize.ShloMosaic Idealize.ShloMosaic.TcCoe Idealize.ShloMosaic.Tactic
open Idealize.ShloMosaic.Pipeline (Dat)

variable {F : FTy → Type} [FloatOps F]
variable (m : (ℓ : Loc nD τ sig) → Buf (Elt F) ℓ)

/-- The block that window 0 of the exchange takes at a grid point. -/
theorem ix0_0 : ∀ t : Fin cfg0.N, win0_0.index t = ![0, 0] := (by decide +kernel : ∀ t : Fin grid0.N, _)
/-- The block that window 1 of the exchange takes at a grid point. -/
theorem ix0_1 : ∀ t : Fin cfg0.N, win0_1.index t = ![0, 0] := (by decide +kernel : ∀ t : Fin grid0.N, _)
/-- The block that window 2 of the exchange takes at a grid point. -/
theorem ix0_2 : ∀ t : Fin cfg0.N, win0_2.index t = ![0, 0] := (by decide +kernel : ∀ t : Fin grid0.N, _)
/-- The block that window 3 of the exchange takes at a grid point. -/
theorem ix0_3 : ∀ t : Fin cfg0.N, win0_3.index t = ![0, 0] := (by decide +kernel : ∀ t : Fin grid0.N, _)
/-- The block that window 4 of the exchange takes at a grid point. -/
theorem ix0_4 : ∀ t : Fin cfg0.N, win0_4.index t = ![0, 0] := (by decide +kernel : ∀ t : Fin grid0.N, _)
/-- The block that window 5 of the exchange takes at a grid point. -/
theorem ix0_5 : ∀ t : Fin cfg0.N, win0_5.index t = ![0, t.val] := (by decide +kernel : ∀ t : Fin grid0.N, _)
/-- The block that window 6 of the exchange takes at a grid point. -/
theorem ix0_6 : ∀ t : Fin cfg0.N, win0_6.index t = ![0, 0] := (by decide +kernel : ∀ t : Fin grid0.N, _)
/-- The block that window 7 of the exchange takes at a grid point. -/
theorem ix0_7 : ∀ t : Fin cfg0.N, win0_7.index t = ![0, t.val] := (by decide +kernel : ∀ t : Fin grid0.N, _)
/-- The block that window 0 of the attention takes at a grid point. -/
theorem ix1_0 : ∀ t : Fin cfg1.N, win1_0.index t = ![t.val, 0] := (by decide +kernel : ∀ t : Fin grid1.N, _)
/-- The block that window 1 of the attention takes at a grid point. -/
theorem ix1_1 : ∀ t : Fin cfg1.N, win1_1.index t = ![t.val, 0] := (by decide +kernel : ∀ t : Fin grid1.N, _)
/-- The block that window 2 of the attention takes at a grid point. -/
theorem ix1_2 : ∀ t : Fin cfg1.N, win1_2.index t = ![t.val, 0] := (by decide +kernel : ∀ t : Fin grid1.N, _)
/-- The block that window 3 of the attention takes at a grid point. -/
theorem ix1_3 : ∀ t : Fin cfg1.N, win1_3.index t = ![0, 0] := (by decide +kernel : ∀ t : Fin grid1.N, _)
/-- The block that window 4 of the attention takes at a grid point. -/
theorem ix1_4 : ∀ t : Fin cfg1.N, win1_4.index t = ![0, 0] := (by decide +kernel : ∀ t : Fin grid1.N, _)
/-- The block that window 5 of the attention takes at a grid point. -/
theorem ix1_5 : ∀ t : Fin cfg1.N, win1_5.index t = ![0, 0] := (by decide +kernel : ∀ t : Fin grid1.N, _)
/-- The block that window 6 of the attention takes at a grid point. -/
theorem ix1_6 : ∀ t : Fin cfg1.N, win1_6.index t = ![t.val, 0] := (by decide +kernel : ∀ t : Fin grid1.N, _)

/-- The activations, the same at every point. -/
theorem xb_at (c : Dev nD) (t : Fin cfg0.N) (y : S1024x2048.Idx) : xb m c t y = V1 m c main_v1 y := by
  blk_simp [xb]
  congr 1
  blk_ext [ix0_0]

/-- The share of the down-projection. -/
theorem wdkvb_at (c : Dev nD) (t : Fin cfg0.N) (y : S2048x128.Idx) : wdkvb m c t y = V1 m c main_arg1 y := by
  blk_simp [wdkvb]
  congr 1
  blk_ext [ix0_1]

/-- The share of the keys' up-projection. -/
theorem wukb_at (c : Dev nD) (t : Fin cfg0.N) (y : S128x2048.Idx) : wukb m c t y = V1 m c main_arg2 y := by
  blk_simp [wukb]
  congr 1
  blk_ext [ix0_2]

/-- The share of the values' up-projection. -/
theorem wuvb_at (c : Dev nD) (t : Fin cfg0.N) (y : S128x2048.Idx) : wuvb m c t y = V1 m c main_arg3 y := by
  blk_simp [wuvb]
  congr 1
  blk_ext [ix0_3]

/-- The rotary keys' projection. -/
theorem wkrb_at (c : Dev nD) (t : Fin cfg0.N) (y : S2048x32.Idx) : wkrb m c t y = V1 m c main_arg6 y := by
  blk_simp [wkrb]
  congr 1
  blk_ext [ix0_4]

/-- The rotary queries' projection. -/
theorem wqrb_at (c : Dev nD) (t : Fin cfg0.N) (y : S2048x512.Idx) : wqrb m c t y = V1 m c main_arg5 y := by
  blk_simp [wqrb]
  congr 1
  blk_ext [ix0_6]

/-- A block of the queries' projection. -/
theorem wqb_at (c : Dev nD) (t : Fin cfg0.N) (k : Fin 2048) (j : Fin 512) :
    wqb m c t (ix2 k j) = V1 m c main_arg4 (ix2 k ⟨512 * t.val + j.val, by have := t.isLt; have : cfg0.N = 4 := rfl; omega⟩) := by
  blk_simp [wqb]
  congr 1
  blk_ext [ix0_5]

/-- The keys' up-projection. -/
theorem wukfb_at (c : Dev nD) (t : Fin cfg1.N) (y : S256x2048.Idx) : wukfb m c t y = VB m c main_v2_3 y := by
  blk_simp [wukfb]
  congr 1
  blk_ext [ix1_3]

/-- The values' up-projection. -/
theorem wuvfb_at (c : Dev nD) (t : Fin cfg1.N) (y : S256x2048.Idx) : wuvfb m c t y = VB m c main_v2_4 y := by
  blk_simp [wuvfb]
  congr 1
  blk_ext [ix1_4]

/-- The output projection. -/
theorem wob_at (c : Dev nD) (t : Fin cfg1.N) (y : S2048x2048.Idx) : wob m c t y = VB m c main_arg7 y := by
  blk_simp [wob]
  congr 1
  blk_ext [ix1_5]

/-- A batch's queries. -/
theorem qb_at (c : Dev nD) (t : Fin cfg1.N) (r : Fin 512) (j : Fin 4096) :
    qb m c t (ix2 r j) = VB m c main_v2_0 (ix2 ⟨512 * t.val + r.val, by have := t.isLt; have : cfg1.N = 2 := rfl; omega⟩ j) := by
  blk_simp [qb]
  congr 1
  blk_ext [ix1_0]

/-- A batch's rotary keys. -/
theorem krb_at (c : Dev nD) (t : Fin cfg1.N) (r : Fin 512) (j : Fin 32) :
    krb m c t (ix2 r j) = VB m c main_v2_1 (ix2 ⟨512 * t.val + r.val, by have := t.isLt; have : cfg1.N = 2 := rfl; omega⟩ j) := by
  blk_simp [krb]
  congr 1
  blk_ext [ix1_1]

/-- A batch's latents. -/
theorem cfb_at (c : Dev nD) (t : Fin cfg1.N) (r : Fin 512) (j : Fin 256) :
    cfb m c t (ix2 r j) = VB m c main_v2_2 (ix2 ⟨512 * t.val + r.val, by have := t.isLt; have : cfg1.N = 2 := rfl; omega⟩ j) := by
  blk_simp [cfb]
  congr 1
  blk_ext [ix1_2]

end Cert.Mla

end
-- ==== Proof.Arrays.lean ====
module

public import proofs.«01_k».proof.Proof.Blocks

/-! What the kernel's arrays hold after the exchange, as sums over the extended reals. -/

@[expose] public section

noncomputable section

namespace Cert.Mla

open Cert.KernelIdeal Cert.KernelIdeal.Gen
open Idealize.ShloMosaic Idealize.ShloMosaic.TcCoe Idealize.ShloMosaic.Tactic
open Idealize.ShloMosaic.Pipeline (Dat)

section Generic

variable {F : FTy → Type} [FloatOps F]
variable (m : (ℓ : Loc nD τ sig) → Buf (Elt F) ℓ)

/-- The flattened activations. -/
theorem V1_x (c : Dev nD) : V1 m c main_v1 = shapeCast S1024x2048 (m ((c.tc : Thread nD τ).loc main_arg0)) shapeCasts_S2x512x2048_S1024x2048 := by
  rfl

/-- The latents' weights are as launched. -/
theorem V1_1 (c : Dev nD) : V1 m c main_arg1 = m ((c.tc : Thread nD τ).loc main_arg1) := (V1_of m c main_arg1 (by decide)).trans rfl
/-- The key weights are as launched. -/
theorem V1_2 (c : Dev nD) : V1 m c main_arg2 = m ((c.tc : Thread nD τ).loc main_arg2) := (V1_of m c main_arg2 (by decide)).trans rfl
/-- The value weights are as launched. -/
theorem V1_3 (c : Dev nD) : V1 m c main_arg3 = m ((c.tc : Thread nD τ).loc main_arg3) := (V1_of m c main_arg3 (by decide)).trans rfl
/-- The query weights are as launched. -/
theorem V1_4 (c : Dev nD) : V1 m c main_arg4 = m ((c.tc : Thread nD τ).loc main_arg4) := (V1_of m c main_arg4 (by decide)).trans rfl
/-- The rotary query weights are as launched. -/
theorem V1_5 (c : Dev nD) : V1 m c main_arg5 = m ((c.tc : Thread nD τ).loc main_arg5) := (V1_of m c main_arg5 (by decide)).trans rfl
/-- The rotary key weights are as launched. -/
theorem V1_6 (c : Dev nD) : V1 m c main_arg6 = m ((c.tc : Thread nD τ).loc main_arg6) := (V1_of m c main_arg6 (by decide)).trans rfl

end Generic

variable (m : (ℓ : Loc nD τ sig) → Buf (Elt Ideal) ℓ)

/-- A row of the flattened activations. -/
theorem V1_x_at (c : Dev nD) (r : Fin 1024) (k : Fin 2048) :
    V1 m c main_v1 (ix2 r k) = m ((c.tc : Thread nD τ).loc main_arg0) (ix3 (n0 := 2) (n1 := 512) ⟨r.val / 512, by omega⟩ ⟨r.val % 512, by omega⟩ k) := by
  have key : ∀ X : FVec Ideal S2x512x2048 .f32, shapeCast S1024x2048 X shapeCasts_S2x512x2048_S1024x2048 (ix2 r k)
      = X (ix3 ⟨r.val / 512, by omega⟩ ⟨r.val % 512, by omega⟩ k) := fun X => by pointwise []
  rw [V1_x]
  exact key _

/-- The packed queries: per head 128 columns, 32 rotary columns, zeros. -/
def packedQ (X : FVec Ideal S2x512x2048 .f32) (Wq : FVec Ideal S2048x2048 .f32) (Wr : FVec Ideal S2048x512 .f32) (y : S1024x4096.Idx) : EReal :=
  if h : (y 1).val % 256 < 128 then
    proj X Wq ⟨(y 0).val / 512, by have := ValueIdx.idx2_lt0 y; omega⟩ ⟨(y 0).val % 512, by omega⟩
      ⟨128 * ((y 1).val / 256) + (y 1).val % 256, by have := ValueIdx.idx2_lt1 y; omega⟩
  else if h' : (y 1).val % 256 < 160 then
    proj X Wr ⟨(y 0).val / 512, by have := ValueIdx.idx2_lt0 y; omega⟩ ⟨(y 0).val % 512, by omega⟩
      ⟨32 * ((y 1).val / 256) + ((y 1).val % 256 - 128), by have := ValueIdx.idx2_lt1 y; omega⟩
  else 0

/-- A point's block of queries is its share of the packed ones. -/
theorem qOut_packed (c : Dev nD) (t : Fin cfg0.N) (y : S1024x1024.Idx) (z : S1024x4096.Idx) (h0 : (z 0).val = (y 0).val)
    (h1 : (z 1).val = 1024 * t.val + (y 1).val) :
    qOut (xb m c t) (wqb m c t) (qrAt (grp (grid0.coords t)) (qrs m c)) y
      = packedQ (m ((c.tc : Thread nD τ).loc main_arg0)) (m ((c.tc : Thread nD τ).loc main_arg4)) (m ((c.tc : Thread nD τ).loc main_arg5)) z := by
  have ht : t.val < 4 := t.isLt
  have hy1 : (y 1).val < 1024 := (y 1).isLt
  have hx : ∀ k : Fin 2048, V1 m c main_v1 (ix2 (n0 := 1024) (n1 := 2048) (y 0) k) = m ((c.tc : Thread nD τ).loc main_arg0)
      (ix3 (n0 := 2) (n1 := 512) ⟨(z 0).val / 512, by have := ValueIdx.idx2_lt0 z; omega⟩ ⟨(z 0).val % 512, by omega⟩ k) := fun k => by
    refine (V1_x_at m c (y 0) k).trans (congrArg₂ (fun a b => m ((c.tc : Thread nD τ).loc main_arg0) (ix3 (n0 := 2) (n1 := 512) a b k)) (Fin.ext ?_) (Fin.ext ?_))
    · show (y 0).val / 512 = (z 0).val / 512
      rw [h0]
    · show (y 0).val % 512 = (z 0).val % 512
      rw [h0]
  unfold qOut packedQ
  by_cases h : (y 1).val % 256 < 128
  · rw [dif_pos h, dif_pos (show (z 1).val % 256 < 128 by omega)]
    show k0_pay15 (F := Ideal) (xb m c t) (wqb m c t) _ = _
    refine (congrArg (k0_pay15 (F := Ideal) _ _) (ix2_eq_valueIdx _ _).symm).trans ((pay15_at _ _ _ _).trans (Finset.sum_congr rfl fun k _ => ?_))
    refine congrArg₂ (· * ·) ((xb_at m c t _).trans (hx k)) ((wqb_at m c t k _).trans ((congrFun (V1_4 m c) _).trans <| congrArg (fun j => m ((c.tc : Thread nD τ).loc main_arg4) (ix2 (n0 := 2048) (n1 := 2048) k j)) (Fin.ext ?_)))
    show 512 * t.val + (128 * ((y 1).val / 256) + (y 1).val % 256) = 128 * ((z 1).val / 256) + (z 1).val % 256
    omega
  · rw [dif_neg h, dif_neg (show ¬ (z 1).val % 256 < 128 by omega)]
    by_cases h' : (y 1).val % 256 < 160
    · rw [dif_pos h', dif_pos (show (z 1).val % 256 < 160 by omega)]
      refine (congrArg (k0_pay16 (F := Ideal) _) (ix2_eq_valueIdx _ _).symm).trans ((pay16_at _ _ _).trans ?_)
      unfold qrAt qrs qrAll
      show k0_pay10 (F := Ideal) (xb m c t0_0) (wqrb m c t0_0) _ = _
      refine (congrArg (k0_pay10 (F := Ideal) _ _) (ix2_eq_valueIdx _ _).symm).trans ((pay10_at _ _ _ _).trans (Finset.sum_congr rfl fun k _ => ?_))
      refine congrArg₂ (· * ·) ((xb_at m c t0_0 _).trans (hx k)) ((wqrb_at m c t0_0 _).trans ((congrFun (V1_5 m c) _).trans <| congrArg (fun j => m ((c.tc : Thread nD τ).loc main_arg5) (ix2 (n0 := 2048) (n1 := 512) k j)) (Fin.ext ?_)))
      have hg : (grp (grid0.coords t)).val = t.val := (by decide +kernel : ∀ t : Fin grid0.N, (grp (grid0.coords t)).val = t.val) t
      show 128 * (grp (grid0.coords t)).val + (32 * ((y 1).val / 256) + ((y 1).val % 256 - 128)) = 32 * ((z 1).val / 256) + ((z 1).val % 256 - 128)
      omega
    · rw [dif_neg h', dif_neg (show ¬ (z 1).val % 256 < 160 by omega)]
      exact pay17_at y

/-- The queries' array after the exchange. -/
theorem arr_q (c : Dev nD) : (dat0 m c).arrAt 7 cfg0.N
    = packedQ (m ((c.tc : Thread nD τ).loc main_arg0)) (m ((c.tc : Thread nD τ).loc main_arg4)) (m ((c.tc : Thread nD τ).loc main_arg5)) := by
  refine (dat0 m c).arrAt_eq_of_covers 7 _ (by decide +kernel) fun t hf y => ?_
  blk_simp
  refine qOut_packed m c t y _ ?_ ?_
  · blk_simp [ix0_7]
  · blk_simp [ix0_7]
    simp [mul_comm]

/-- The exchange's last point. -/
abbrev tLast : Fin cfg0.N := ⟨3, by decide⟩

/-- The row of a batch that a row of the flattened activations is. -/
abbrev bOf {n : ℕ} (y : (⟨2, ![1024, n]⟩ : Shape).Idx) : Fin 2 := ⟨(y 0).val / 512, by have := ValueIdx.idx2_lt0 y; omega⟩
abbrev sOf {n : ℕ} (y : (⟨2, ![1024, n]⟩ : Shape).Idx) : Fin 512 := ⟨(y 0).val % 512, by omega⟩

/-- The rotary keys' array after the exchange. -/
theorem arr_kr (c : Dev nD) : (dat0 m c).arrAt 8 cfg0.N = fun y : S1024x32.Idx =>
    proj (m ((c.tc : Thread nD τ).loc main_arg0)) (m ((c.tc : Thread nD τ).loc main_arg6)) (bOf y) (sOf y) (y 1) := by
  refine (dat0 m c).arrAt_eq_of_after_last 8 tLast (by decide +kernel) _ fun (y : S1024x32.Idx) => ?_
  blk_simp
  show k0_pay9 (F := Ideal) (xb m c t0_0) (wkrb m c t0_0) y
    = proj (m ((c.tc : Thread nD τ).loc main_arg0)) (m ((c.tc : Thread nD τ).loc main_arg6)) (bOf y) (sOf y) (y 1)
  refine (congrArg (k0_pay9 (F := Ideal) _ _) (show y = ix2 (n0 := 1024) (n1 := 32) (y 0) (y 1) from
    (ValueIdx.eq_ix2 (n0 := 1024) (n1 := 32) y).trans (ix2_eq_valueIdx _ _).symm)).trans ((pay9_at _ _ _ _).trans (Finset.sum_congr rfl fun k _ => ?_))
  exact congrArg₂ (· * ·) ((xb_at m c t0_0 _).trans (V1_x_at m c (y 0) k)) ((wkrb_at m c t0_0 _).trans (congrFun (V1_6 m c) _))

/-- Of two partners one holds the first share and one the second. -/
theorem pr_share : ∀ c : Dev nD, (pr c).val % 2 + c.val % 2 = 1 := by decide

/-- Where a device's share of the latents' 256 columns lies. -/
abbrev shareAt (c : Dev nD) (j : Fin 128) : Fin 256 := ⟨128 * (c.val % 2) + j.val, by omega⟩

/-- Where a head's projection, its rotary projection and its zeros lie in the packed queries. -/
abbrev headAt (h : Fin 16) (d : Fin 128) : Fin 4096 := ⟨256 * h.val + d.val, by omega⟩
abbrev rotAt (h : Fin 16) (d : Fin 32) : Fin 4096 := ⟨256 * h.val + (128 + d.val), by omega⟩
abbrev padAt (h : Fin 16) (d : Fin 96) : Fin 4096 := ⟨256 * h.val + (160 + d.val), by omega⟩

section Whole

variable (X : FVec Ideal S2x512x2048 .f32) (Wd : FVec Ideal ⟨2, ![2048, 256]⟩ .f32) (Wk Wv : FVec Ideal S256x2048 .f32)
variable (hX : ∀ c : Dev nD, m ((c.tc : Thread nD τ).loc main_arg0) = X)
variable (hWd : ∀ (c : Dev nD) (k : Fin 2048) (j : Fin 128), m ((c.tc : Thread nD τ).loc main_arg1) (ix2 k j) = Wd (ix2 k (shareAt c j)))
variable (hWk : ∀ (c : Dev nD) (k : Fin 128) (j : Fin 2048), m ((c.tc : Thread nD τ).loc main_arg2) (ix2 k j) = Wk (ix2 (shareAt c k) j))
variable (hWv : ∀ (c : Dev nD) (k : Fin 128) (j : Fin 2048), m ((c.tc : Thread nD τ).loc main_arg3) (ix2 k j) = Wv (ix2 (shareAt c k) j))

include hX hWd in
/-- A device's share of the latents. -/
theorem snt_c (c : Dev nD) (r : Fin 1024) (j : Fin 128) : (snt m).c c (ix2 r j)
    = proj X Wd ⟨r.val / 512, by omega⟩ ⟨r.val % 512, by omega⟩ ⟨128 * (c.val % 2) + j.val, by omega⟩ := by
  refine (pay8_at (xb m c t0_0) (wdkvb m c t0_0) r j).trans (Finset.sum_congr rfl fun k _ => ?_)
  exact congrArg₂ (· * ·) ((xb_at m c t0_0 _).trans ((V1_x_at m c r k).trans (congrFun (hX c) _)))
    ((wdkvb_at m c t0_0 _).trans ((congrFun (V1_1 m c) _).trans (hWd c k j)))

include hX hWd in
/-- The latents' array after the exchange is whole. -/
theorem arr_c (c : Dev nD) : (dat0 m c).arrAt 9 cfg0.N = fun y : S1024x256.Idx => proj X Wd (bOf y) (sOf y) (y 1) := by
  refine (dat0 m c).arrAt_eq_of_after_last 9 tLast (by decide +kernel) _ fun (y : S1024x256.Idx) => ?_
  blk_simp
  show joinC (c.val % 2) ((snt m).c c) ((snt m).c (pr c)) y = proj X Wd (bOf y) (sOf y) (y 1)
  have h1 : (y 1).val < 256 := (y 1).isLt
  have hp := pr_share c
  unfold joinC
  by_cases h : (y 1).val / 128 = c.val % 2
  · rw [if_pos h]
    refine (congrArg ((snt m).c c) (ix2_eq_valueIdx _ _).symm).trans ((snt_c m X Wd hX hWd c _ _).trans (congrArg (proj X Wd (bOf y) (sOf y)) (Fin.ext ?_)))
    show 128 * (c.val % 2) + (y 1).val % 128 = (y 1).val
    omega
  · rw [if_neg h]
    refine (congrArg ((snt m).c (pr c)) (ix2_eq_valueIdx _ _).symm).trans ((snt_c m X Wd hX hWd (pr c) _ _).trans (congrArg (proj X Wd (bOf y) (sOf y)) (Fin.ext ?_)))
    show 128 * ((pr c).val % 2) + (y 1).val % 128 = (y 1).val
    omega

/-- An up-projection joined from two shares is whole. -/
theorem joinW_whole (W : FVec Ideal S256x2048 .f32) (S : Dev nD → Vec Ideal S128x2048 .bf16)
    (hS : ∀ (c : Dev nD) (k : Fin 128) (j : Fin 2048), S c (ix2 k j) = W (ix2 ⟨128 * (c.val % 2) + k.val, by omega⟩ j)) (c : Dev nD) (y : S256x2048.Idx) :
    joinW (c.val % 2) (S c) (S (pr c)) y = W y := by
  have h0 : (y 0).val < 256 := (y 0).isLt
  have hp := pr_share c
  have hy : ∀ p : Fin 256, p.val = (y 0).val → W (ix2 (n0 := 256) (n1 := 2048) p (y 1)) = W y := fun p hp => by
    refine congrArg W (Eq.trans ?_ (ValueIdx.eq_ix2 (n0 := 256) (n1 := 2048) y).symm)
    rw [← ix2_eq_valueIdx]
    exact congrArg (fun p => ix2 (n0 := 256) (n1 := 2048) p (y 1)) (Fin.ext hp)
  unfold joinW
  by_cases h : (y 0).val / 128 = c.val % 2
  · rw [if_pos h]
    refine (congrArg (S c) (ix2_eq_valueIdx _ _).symm).trans ((hS c _ _).trans (hy _ ?_))
    show 128 * (c.val % 2) + (y 0).val % 128 = (y 0).val
    omega
  · rw [if_neg h]
    refine (congrArg (S (pr c)) (ix2_eq_valueIdx _ _).symm).trans ((hS (pr c) _ _).trans (hy _ ?_))
    show 128 * ((pr c).val % 2) + (y 0).val % 128 = (y 0).val
    omega

include hWk in
/-- The keys' up-projection after the exchange is whole. -/
theorem arr_k (c : Dev nD) : (dat0 m c).arrAt 10 cfg0.N = Wk := by
  refine (dat0 m c).arrAt_eq_of_after_last 10 tLast (by decide +kernel) _ fun (y : S256x2048.Idx) => ?_
  blk_simp
  exact joinW_whole Wk (snt m).k (fun c k j => (pay6_at (wukb m c t0_0) _).trans ((wukb_at m c t0_0 _).trans ((congrFun (V1_2 m c) _).trans (hWk c k j)))) c y

include hWv in
/-- The values' up-projection after the exchange is whole. -/
theorem arr_v (c : Dev nD) : (dat0 m c).arrAt 11 cfg0.N = Wv := by
  refine (dat0 m c).arrAt_eq_of_after_last 11 tLast (by decide +kernel) _ fun (y : S256x2048.Idx) => ?_
  blk_simp
  exact joinW_whole Wv (snt m).v (fun c k j => (pay7_at (wuvb m c t0_0) _).trans ((wuvb_at m c t0_0 _).trans ((congrFun (V1_3 m c) _).trans (hWv c k j)))) c y

end Whole

end Cert.Mla

end
-- ==== Proof.Heads.lean ====
module

public import proofs.«01_k».proof.Proof.Arrays

/-! The attention of one batch, as sums over the extended reals. -/

@[expose] public section

noncomputable section

namespace Cert.Mla

open Cert.KernelIdeal Cert.KernelIdeal.Gen
open Idealize.ShloMosaic Idealize.ShloMosaic.TcCoe Idealize.ShloMosaic.Tactic
open Idealize.ShloMosaic.Pipeline (Dat)

/-- A sum over a head's 256 packed columns, in its three parts. -/
theorem sum_packed (f : Fin 256 → EReal) : ∑ e : Fin 256, f e
    = (∑ d : Fin 128, f ⟨d.val, by omega⟩) + ((∑ d : Fin 32, f ⟨128 + d.val, by omega⟩) + ∑ d : Fin 96, f ⟨160 + d.val, by omega⟩) := by
  have e1 := Fin.sum_univ_add (a := 128) (b := 128) f
  have e2 := Fin.sum_univ_add (a := 32) (b := 96) fun i => f (Fin.natAdd 128 i)
  refine e1.trans ?_
  rw [e2]
  refine congrArg₂ (· + ·) rfl (congrArg₂ (· + ·) rfl (Finset.sum_congr rfl fun d _ => congrArg f (Fin.ext ?_)))
  show 128 + (32 + d.val) = 160 + d.val
  omega

section Batch

variable (q : FVec Ideal S512x4096 .bf16) (kr : FVec Ideal S512x32 .bf16) (cf : FVec Ideal S512x256 .bf16) (wuk wuv : FVec Ideal S256x2048 .bf16)
variable (Q K : Fin 2 → Fin 512 → Fin 2048 → EReal) (R : Fin 2 → Fin 512 → Fin 512 → EReal) (P : Fin 2 → Fin 512 → Fin 32 → EReal)
variable (C : Fin 2 → Fin 512 → Fin 256 → EReal) (b : Fin 2)
variable (hq1 : ∀ (r : Fin 512) (h : Fin 16) (d : Fin 128), q (ix2 r (headAt h d)) = Q b r (hd h d))
variable (hq2 : ∀ (r : Fin 512) (h : Fin 16) (d : Fin 32), q (ix2 r (rotAt h d)) = R b r (hr h d))
variable (hq3 : ∀ (r : Fin 512) (h : Fin 16) (d : Fin 96), q (ix2 r (padAt h d)) = 0)
variable (hP : ∀ (r : Fin 512) (d : Fin 32), kr (ix2 r d) = P b r d)
variable (hC : ∀ (r : Fin 512) (l : Fin 256), cf (ix2 r l) = C b r l)

include hC in
/-- The packed keys' key columns. -/
theorem kb1 (r : Fin 512) (h : Fin 16) (d : Fin 128) : kbAll (F := Ideal) kr cf wuk (ix2 r ⟨256 * h.val + d.val, by omega⟩) = up C wuk b r (hd h d) := by
  unfold kbAll
  refine (dif_pos (show (256 * h.val + d.val) % 256 < 128 by omega)).trans ?_
  refine (congrArg (k1_pay2 (F := Ideal) cf wuk) (ix2_eq_valueIdx _ _).symm).trans ((kpay2_at _ _ _ _).trans (Finset.sum_congr rfl fun l _ => ?_))
  refine congrArg₂ (· * ·) (hC r l) (congrArg (fun j => wuk (ix2 (n0 := 256) (n1 := 2048) l j)) (Fin.ext ?_))
  show 128 * ((256 * h.val + d.val) / 256) + (256 * h.val + d.val) % 256 = h.val * 128 + d.val
  omega

include hP in
/-- The packed keys' rotary columns. -/
theorem kb2 (r : Fin 512) (h : Fin 16) (d : Fin 32) : kbAll (F := Ideal) kr cf wuk (ix2 r ⟨256 * h.val + (128 + d.val), by omega⟩) = P b r d := by
  unfold kbAll
  refine (dif_neg (show ¬ (256 * h.val + (128 + d.val)) % 256 < 128 by omega)).trans ((dif_pos (show (256 * h.val + (128 + d.val)) % 256 < 160 by omega)).trans ?_)
  refine (congrArg kr (ix2_eq_valueIdx _ _).symm).trans ((hP r _).trans (congrArg (P b r) (Fin.ext ?_)))
  show (256 * h.val + (128 + d.val)) % 256 - 128 = d.val
  omega

include hq1 hq2 hq3 hP hC in
/-- A head's scores. -/
theorem head_score (h : Fin 16) (r k : Fin 512) :
    (∑ e : Fin 256, cols (n := 512) (m := 4096) 256 (256 * h.val) (by omega) q (ix2 r e)
        * cols (n := 512) (m := 4096) 256 (256 * h.val) (by omega) (kbAll (F := Ideal) kr cf wuk) (ix2 k e)) * scale
      = score Q (up C wuk) R P b h r k := by
  unfold score
  refine congrArg (· * scale) ?_
  have hc : ∀ (Y : FVec Ideal S512x4096 .bf16) (i : Fin 512) (e : Fin 256),
      cols (n := 512) (m := 4096) 256 (256 * h.val) (by omega) Y (ix2 i e) = Y (ix2 (n0 := 512) (n1 := 4096) i ⟨256 * h.val + e.val, by omega⟩) := fun Y i e =>
    congrArg Y (ix2_eq_valueIdx _ _).symm
  rw [sum_packed]
  refine congrArg₂ (· + ·) (Finset.sum_congr rfl fun d _ => ?_) ?_
  · exact congrArg₂ (· * ·) ((hc _ _ _).trans (hq1 r h d)) ((hc _ _ _).trans (kb1 kr cf wuk C b hC k h d))
  · refine Eq.trans (congrArg₂ (· + ·) (Finset.sum_congr rfl fun d _ => ?_) (Finset.sum_eq_zero fun d _ => ?_)) (add_zero _)
    · exact congrArg₂ (· * ·) ((hc _ _ _).trans (hq2 r h d)) ((hc _ _ _).trans (kb2 kr cf wuk P b hP k h d))
    · rw [hc, hq3 r h d, zero_mul]

include hq1 hq2 hq3 hP hC in
/-- A head's output. -/
theorem head_at (h : Fin 16) (r : Fin 512) (d : Fin 128) :
    headOut (F := Ideal) q kr cf wuk wuv h (ix2 r d) = plain (score Q (up C wuk) R P b h r) fun k => up C wuv b k (hd h d) := by
  unfold headOut plain
  refine (kpay40_at _ _ _ _ _).trans ?_
  refine congrArg₂ Ideal.div (Finset.sum_congr rfl fun k _ => congrArg₂ (· * ·) (congrArg Ideal.exp ?_) ?_) (Finset.sum_congr rfl fun k _ => congrArg Ideal.exp ?_)
  · exact head_score q kr cf wuk Q R P C b hq1 hq2 hq3 hP hC h r k
  · refine (congrArg (k1_pay3 (F := Ideal) cf wuv) (ix2_eq_valueIdx _ _).symm).trans ((kpay3_at _ _ _ _).trans (Finset.sum_congr rfl fun l _ => ?_))
    refine congrArg₂ (· * ·) (hC k l) (congrArg (fun j => wuv (ix2 (n0 := 256) (n1 := 2048) l j)) (Fin.ext ?_))
    show 128 * h.val + d.val = h.val * 128 + d.val
    omega
  · exact head_score q kr cf wuk Q R P C b hq1 hq2 hq3 hP hC h r k

include hq1 hq2 hq3 hP hC in
/-- A batch's result. -/
theorem attn_at (wo : FVec Ideal S2048x2048 .f32) (r : Fin 512) (n : Fin 2048) :
    attnOut (F := Ideal) q kr cf wuk wuv wo (ix2 r n)
      = outp (fun b r h d => plain (score Q (up C wuk) R P b h r) fun k => up C wuv b k (hd h d)) wo b r n := by
  unfold attnOut outp
  refine (kpay1_at _ _ _ _).trans (Finset.sum_congr rfl fun j _ => congrArg₂ (· * ·) ?_ rfl)
  unfold oAll
  refine (congrArg (headOut (F := Ideal) q kr cf wuk wuv _) (ix2_eq_valueIdx _ _).symm).trans ?_
  exact head_at q kr cf wuk wuv Q R P C b hq1 hq2 hq3 hP hC _ _ _

end Batch

end Cert.Mla

end
-- ==== Proof.Result.lean ====
module

public import proofs.«01_k».proof.Proof.Arrays
public import proofs.«01_k».proof.Proof.Heads

/-! What the kernel returns, by index, over the extended reals. -/

@[expose] public section

noncomputable section

namespace Cert.Mla

open Cert.KernelIdeal Cert.KernelIdeal.Gen
open Idealize.ShloMosaic Idealize.ShloMosaic.TcCoe Idealize.ShloMosaic.Tactic
open Idealize.ShloMosaic.Pipeline (Dat)

/-- The packed queries' first 128 columns of a head hold its projection of the activations. -/
theorem packedQ_head (X : FVec Ideal S2x512x2048 .f32) (Wq : FVec Ideal S2048x2048 .f32) (Wr : FVec Ideal S2048x512 .f32) (t : Fin 2) (r : Fin 512)
    (h : Fin 16) (d : Fin 128) : packedQ X Wq Wr (ix2 (n0 := 1024) (n1 := 4096) ⟨512 * t.val + r.val, by omega⟩ ⟨256 * h.val + d.val, by omega⟩)
      = proj X Wq t r (hd h d) := by
  unfold packedQ
  refine (dif_pos (show (256 * h.val + d.val) % 256 < 128 by omega)).trans ?_
  congr 1
  · exact Fin.ext (show (512 * t.val + r.val) / 512 = t.val by omega)
  · exact Fin.ext (show (512 * t.val + r.val) % 512 = r.val by omega)
  · exact Fin.ext (show 128 * ((256 * h.val + d.val) / 256) + (256 * h.val + d.val) % 256 = h.val * 128 + d.val by omega)

/-- The next 32 columns hold its rotary projection. -/
theorem packedQ_rot (X : FVec Ideal S2x512x2048 .f32) (Wq : FVec Ideal S2048x2048 .f32) (Wr : FVec Ideal S2048x512 .f32) (t : Fin 2) (r : Fin 512)
    (h : Fin 16) (d : Fin 32) : packedQ X Wq Wr (ix2 (n0 := 1024) (n1 := 4096) ⟨512 * t.val + r.val, by omega⟩ ⟨256 * h.val + (128 + d.val), by omega⟩)
      = proj X Wr t r (hr h d) := by
  unfold packedQ
  refine (dif_neg (show ¬ (256 * h.val + (128 + d.val)) % 256 < 128 by omega)).trans ?_
  refine (dif_pos (show (256 * h.val + (128 + d.val)) % 256 < 160 by omega)).trans ?_
  congr 1
  · exact Fin.ext (show (512 * t.val + r.val) / 512 = t.val by omega)
  · exact Fin.ext (show (512 * t.val + r.val) % 512 = r.val by omega)
  · exact Fin.ext (show 32 * ((256 * h.val + (128 + d.val)) / 256) + ((256 * h.val + (128 + d.val)) % 256 - 128) = h.val * 32 + d.val by omega)

/-- The last 96 columns hold zero. -/
theorem packedQ_pad (X : FVec Ideal S2x512x2048 .f32) (Wq : FVec Ideal S2048x2048 .f32) (Wr : FVec Ideal S2048x512 .f32) (t : Fin 2) (r : Fin 512)
    (h : Fin 16) (d : Fin 96) : packedQ X Wq Wr (ix2 (n0 := 1024) (n1 := 4096) ⟨512 * t.val + r.val, by omega⟩ ⟨256 * h.val + (160 + d.val), by omega⟩) = 0 := by
  unfold packedQ
  refine (dif_neg (show ¬ (256 * h.val + (160 + d.val)) % 256 < 128 by omega)).trans ?_
  exact dif_neg (show ¬ (256 * h.val + (160 + d.val)) % 256 < 160 by omega)

variable (m : (ℓ : Loc nD τ sig) → Buf (Elt Ideal) ℓ)
variable (X : FVec Ideal S2x512x2048 .f32) (Wd : FVec Ideal ⟨2, ![2048, 256]⟩ .f32) (Wk Wv : FVec Ideal S256x2048 .f32)
variable (hX : ∀ c : Dev nD, m ((c.tc : Thread nD τ).loc main_arg0) = X)
variable (hWd : ∀ (c : Dev nD) (k : Fin 2048) (j : Fin 128), m ((c.tc : Thread nD τ).loc main_arg1) (ix2 k j) = Wd (ix2 k (shareAt c j)))
variable (hWk : ∀ (c : Dev nD) (k : Fin 128) (j : Fin 2048), m ((c.tc : Thread nD τ).loc main_arg2) (ix2 k j) = Wk (ix2 (shareAt c k) j))
variable (hWv : ∀ (c : Dev nD) (k : Fin 128) (j : Fin 2048), m ((c.tc : Thread nD τ).loc main_arg3) (ix2 k j) = Wv (ix2 (shareAt c k) j))

/-- The output projection's weights are as launched. -/
theorem wob_whole (c : Dev nD) (t : Fin cfg1.N) : wob m c t = m ((c.tc : Thread nD τ).loc main_arg7) :=
  funext fun y => (wob_at m c t y).trans (congrFun ((VB_ref m c main_arg7 (by decide)).trans ((V1_of m c main_arg7 (by decide)).trans rfl)) y)

include hWk in
/-- The attention reads the whole key weights. -/
theorem wukfb_whole (c : Dev nD) (t : Fin cfg1.N) : wukfb m c t = Wk :=
  funext fun y => (wukfb_at m c t y).trans (congrFun ((VB_3 m c).trans (arr_k m Wk hWk c)) y)

include hWv in
/-- The attention reads the whole value weights. -/
theorem wuvfb_whole (c : Dev nD) (t : Fin cfg1.N) : wuvfb m c t = Wv :=
  funext fun y => (wuvfb_at m c t y).trans (congrFun ((VB_4 m c).trans (arr_v m Wv hWv c)) y)

include hX in
/-- The packed queries a batch reads. -/
theorem qb_whole (c : Dev nD) (t : Fin cfg1.N) (r : Fin 512) (j : Fin 4096) : qb m c t (ix2 r j)
    = packedQ X (m ((c.tc : Thread nD τ).loc main_arg4)) (m ((c.tc : Thread nD τ).loc main_arg5))
      (ix2 (n0 := 1024) (n1 := 4096) ⟨512 * t.val + r.val, by have := t.isLt; have : cfg1.N = 2 := rfl; omega⟩ j) := by
  refine (qb_at m c t r j).trans ((congrFun ((VB_0 m c).trans (arr_q m c)) _).trans ?_)
  exact congrArg (fun X => packedQ X _ _ _) (hX c)

include hX in
/-- The rotary keys a batch reads. -/
theorem krb_whole (c : Dev nD) (t : Fin 2) (r : Fin 512) (d : Fin 32) : krb m c t (ix2 r d) = proj X (m ((c.tc : Thread nD τ).loc main_arg6)) t r d := by
  refine (krb_at m c t r d).trans ((congrFun ((VB_1 m c).trans (arr_kr m c)) _).trans ?_)
  refine (congrArg (fun X => proj X _ _ _ _) (hX c)).trans ?_
  congr 1
  · exact Fin.ext (show (512 * t.val + r.val) / 512 = t.val by omega)
  · exact Fin.ext (show (512 * t.val + r.val) % 512 = r.val by omega)

include hX hWd in
/-- The latents a batch reads. -/
theorem cfb_whole (c : Dev nD) (t : Fin 2) (r : Fin 512) (l : Fin 256) : cfb m c t (ix2 r l) = proj X Wd t r l := by
  refine (cfb_at m c t r l).trans ((congrFun ((VB_2 m c).trans (arr_c m X Wd hX hWd c)) _).trans ?_)
  show proj X Wd (bOf _) (sOf _) _ = _
  congr 1
  · exact Fin.ext (show (512 * t.val + r.val) / 512 = t.val by omega)
  · exact Fin.ext (show (512 * t.val + r.val) % 512 = r.val by omega)

/-- Attention over the latents, its weights divided after they meet the values. -/
def attended (X : FVec Ideal S2x512x2048 .f32) (Wd : FVec Ideal ⟨2, ![2048, 256]⟩ .f32) (Wk Wv : FVec Ideal S256x2048 .f32)
    (Wq : FVec Ideal S2048x2048 .f32) (Wr : FVec Ideal S2048x512 .f32) (Wp : FVec Ideal S2048x32 .f32) (Wo : FVec Ideal S2048x2048 .f32)
    (b : Fin 2) (s : Fin 512) (n : Fin 2048) : EReal :=
  outp (fun b q h d => plain (score (proj X Wq) (up (proj X Wd) Wk) (proj X Wr) (proj X Wp) b h q) fun k => up (proj X Wd) Wv b k (hd h d)) Wo b s n

include hX hWd hWk hWv in
/-- A batch's block of the attention's output. -/
theorem batch_at (c : Dev nD) (t : Fin 2) (r : Fin 512) (n : Fin 2048) :
    attnOut (F := Ideal) (qb m c t) (krb m c t) (cfb m c t) (wukfb m c t) (wuvfb m c t) (wob m c t) (ix2 r n)
      = attended X Wd Wk Wv (m ((c.tc : Thread nD τ).loc main_arg4)) (m ((c.tc : Thread nD τ).loc main_arg5))
        (m ((c.tc : Thread nD τ).loc main_arg6)) (m ((c.tc : Thread nD τ).loc main_arg7)) t r n := by
  rw [wukfb_whole m Wk hWk c t, wuvfb_whole m Wv hWv c t, wob_whole m c t]
  exact attn_at (qb m c t) (krb m c t) (cfb m c t) Wk Wv (proj X (m ((c.tc : Thread nD τ).loc main_arg4))) (proj X (m ((c.tc : Thread nD τ).loc main_arg5)))
    (proj X (m ((c.tc : Thread nD τ).loc main_arg6))) (proj X Wd) t
    (fun r h d => (qb_whole m X hX c t r _).trans (packedQ_head X _ _ t r h d))
    (fun r h d => (qb_whole m X hX c t r _).trans (packedQ_rot X _ _ t r h d))
    (fun r h d => (qb_whole m X hX c t r _).trans (packedQ_pad X _ _ t r h d))
    (fun r d => krb_whole m X hX c t r d) (fun r l => cfb_whole m X Wd hX hWd c t r l) (m ((c.tc : Thread nD τ).loc main_arg7)) r n

include hX hWd hWk hWv in
/-- The attention's array at its end. -/
theorem arr_out (c : Dev nD) : (dat1 m c).arrAt 6 cfg1.N = fun y : S1024x2048.Idx =>
    attended X Wd Wk Wv (m ((c.tc : Thread nD τ).loc main_arg4)) (m ((c.tc : Thread nD τ).loc main_arg5))
        (m ((c.tc : Thread nD τ).loc main_arg6)) (m ((c.tc : Thread nD τ).loc main_arg7)) (bOf y) (sOf y) (y 1) := by
  refine (dat1 m c).arrAt_eq_of_covers 6 _ (by decide +kernel) fun t hf (y : S512x2048.Idx) => ?_
  blk_simp
  show attnOut (F := Ideal) (qb m c t) (krb m c t) (cfb m c t) (wukfb m c t) (wuvfb m c t) (wob m c t) y = _
  refine (congrArg (attnOut (F := Ideal) _ _ _ _ _ _) (show y = ix2 (n0 := 512) (n1 := 2048) (y 0) (y 1) from
    (ValueIdx.eq_ix2 (n0 := 512) (n1 := 2048) y).trans (ix2_eq_valueIdx _ _).symm)).trans ((batch_at m X Wd Wk Wv hX hWd hWk hWv c t (y 0) (y 1)).trans ?_)
  have h0 : (y 0).val < 512 := (y 0).isLt
  congr 1
  · refine Fin.ext ?_
    blk_simp [bOf, ix1_6]
    show t.val = (t.val * 512 + (y 0).val) / 512
    omega
  · refine Fin.ext ?_
    blk_simp [sOf, ix1_6]
    show (y 0).val = (t.val * 512 + (y 0).val) % 512
    omega
  · refine Fin.ext ?_
    blk_simp [ix1_6]

include hX hWd hWk hWv in
/-- What the kernel returns at an index. -/
theorem result_at (c : Dev nD) (b : Fin 2) (s : Fin 512) (n : Fin 2048) : V4 m (outs m) c main_v4 (ix3 b s n)
    = attended X Wd Wk Wv (m ((c.tc : Thread nD τ).loc main_arg4)) (m ((c.tc : Thread nD τ).loc main_arg5))
        (m ((c.tc : Thread nD τ).loc main_arg6)) (m ((c.tc : Thread nD τ).loc main_arg7)) b s n := by
  have e4 : V4 m (outs m) c main_v4 = shapeCast S2x512x2048 (V3 m (outs m) c main_v3) shapeCasts_S1024x2048_S2x512x2048 := rfl
  have key : ∀ Y : FVec Ideal S1024x2048 .f32, shapeCast S2x512x2048 Y shapeCasts_S1024x2048_S2x512x2048 (ix3 b s n)
      = Y (ix2 ⟨b.val * 512 + s.val, by omega⟩ n) := fun Y => by pointwise []
  rw [e4, V3_eq, VC_3, arr_out m X Wd Wk Wv hX hWd hWk hWv c]
  refine (key _).trans ?_
  show attended X Wd Wk Wv _ _ _ _ (bOf _) (sOf _) _ = _
  congr 1
  · exact Fin.ext (show (b.val * 512 + s.val) / 512 = b.val by omega)
  · exact Fin.ext (show (b.val * 512 + s.val) % 512 = s.val by omega)

end Cert.Mla

end
-- ==== Proof.RefVal.lean ====
module

public import proofs.«01_k».proof.Proof.Spec
public import proofs.«01_k».proof.Proof.Gen.ReferenceIdeal.Run

/-! The reference's result, element by element. -/

@[expose] public section

noncomputable section

namespace Cert.Mla

open Cert.ReferenceIdeal Cert.ReferenceIdeal.Gen Cert.ReferenceIdeal.Facts Cert.ReferenceIdeal.Value
open Idealize.ShloMosaic Idealize.ShloMosaic.TcCoe

/-- The reference's scores. -/
def refScore (X : FVec Ideal S2x512x2048 .f32) (Wd : FVec Ideal S2048x256 .f32) (Wk : FVec Ideal S256x2048 .f32) (Wq : FVec Ideal S2048x2048 .f32)
    (Wr : FVec Ideal S2048x512 .f32) (Wp : FVec Ideal S2048x32 .f32) : FVec Ideal S2x16x512x512 .f32 :=
  mulf (addf (Host.dotGeneral dot_S2x512x16x128_S2x512x16x128_S2x16x512x512_3_3_1_1_02_02 none (shapeCast _ (Host.dotGeneral dot_S2x512x2048_S2048x2048_S2x512x2048_2_0_01_1_n_n none X Wq) shapeCasts_S2x512x2048_S2x512x16x128) (shapeCast _ (Host.dotGeneral dot_S2x512x256_S256x2048_S2x512x2048_2_0_01_1_n_n none (Host.dotGeneral dot_S2x512x2048_S2048x256_S2x512x256_2_0_01_1_n_n none X Wd) Wk) shapeCasts_S2x512x2048_S2x512x16x128))
    (Host.dotGeneral dot_S2x512x16x32_S2x512x16x32_S2x16x512x512_3_3_1_1_02_02 none (shapeCast _ (Host.dotGeneral dot_S2x512x2048_S2048x512_S2x512x512_2_0_01_1_n_n none X Wr) shapeCasts_S2x512x512_S2x512x16x32) (broadcastInDim S2x512x16x32 ![0, 1, 2, 3] bcast_S2x512x1x32_S2x512x16x32_0_1_2_3 (shapeCast _ (Host.dotGeneral dot_S2x512x2048_S2048x32_S2x512x32_2_0_01_1_n_n none X Wp) shapeCasts_S2x512x32_S2x512x1x32))))
    (broadcastInDim S2x16x512x512 ![] bcast_S_S2x16x512x512 (constant S_ .f32 0x3DA1E89B#32))

/-- The exponentials of scores under their rows' greatest. -/
def refExp (S : FVec Ideal S2x16x512x512 .f32) : FVec Ideal S2x16x512x512 .f32 :=
  Host.exp (subf S (broadcastInDim S2x16x512x512 ![0, 1, 2, 3] bcast_S2x16x512x1_S2x16x512x512_0_1_2_3 (broadcastInDim S2x16x512x1 ![0, 1, 2] bcast_S2x16x512_S2x16x512x1_0_1_2 (Host.reduce FloatOps.maximumf S (constant S_ .f32 0xFF800000#32) reducesTo_S2x16x512x512_S2x16x512_d3 h_S_))))

/-- The softmax's weights from the exponentials. -/
def refProb (E : FVec Ideal S2x16x512x512 .f32) : FVec Ideal S2x16x512x512 .f32 :=
  Host.divf E (broadcastInDim S2x16x512x512 ![0, 1, 2, 3] bcast_S2x16x512x1_S2x16x512x512_0_1_2_3 (broadcastInDim S2x16x512x1 ![0, 1, 2] bcast_S2x16x512_S2x16x512x1_0_1_2 (Host.reduceAdd E (constant S_ .f32 0x00000000#32) reducesTo_S2x16x512x512_S2x16x512_d3 h_S_)))

/-- The result from the weights. -/
def refOut (X : FVec Ideal S2x512x2048 .f32) (Wd : FVec Ideal S2048x256 .f32) (Wv : FVec Ideal S256x2048 .f32) (P : FVec Ideal S2x16x512x512 .f32)
    (Wo : FVec Ideal S2048x2048 .f32) : FVec Ideal S2x512x2048 .f32 :=
  Host.dotGeneral dot_S2x512x2048_S2048x2048_S2x512x2048_2_0_01_1_n_n none (shapeCast _ (transpose S2x512x16x128 [0, 3, 1, 2] (Host.dotGeneral dot_S2x512x16x128_S2x16x512x512_S2x16x128x512_1_3_3_2_02_01 none (shapeCast _ (Host.dotGeneral dot_S2x512x256_S256x2048_S2x512x2048_2_0_01_1_n_n none (Host.dotGeneral dot_S2x512x2048_S2048x256_S2x512x256_2_0_01_1_n_n none X Wd) Wv) shapeCasts_S2x512x2048_S2x512x16x128) P) transposes_S2x16x128x512_S2x512x16x128_0_3_1_2) shapeCasts_S2x512x16x128_S2x512x2048) Wo

/-- The reference's result in these stages. -/
theorem res_stages (m : (ℓ : Loc nD τ sig) → Buf (Elt Ideal) ℓ) (c : Dev nD) :
    res_main_v29 m c = refOut (m ((c.tc : Thread nD τ).loc main_arg0)) (m ((c.tc : Thread nD τ).loc main_arg1)) (m ((c.tc : Thread nD τ).loc main_arg3))
      (refProb (refExp (refScore (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) (m ((c.tc : Thread nD τ).loc main_arg6)))))
      (m ((c.tc : Thread nD τ).loc main_arg7)) := rfl

/-- The reference's scores at an index. -/
theorem refScore_at (X : FVec Ideal S2x512x2048 .f32) (Wd : FVec Ideal S2048x256 .f32) (Wk : FVec Ideal S256x2048 .f32) (Wq : FVec Ideal S2048x2048 .f32)
    (Wr : FVec Ideal S2048x512 .f32) (Wp : FVec Ideal S2048x32 .f32) (b : Fin 2) (h : Fin 16) (q k : Fin 512) :
    refScore X Wd Wk Wq Wr Wp (ix4 b h q k) = score (proj X Wq) (up (proj X Wd) Wk) (proj X Wr) (proj X Wp) b h q k := by
  unfold score proj up scale hd hr
  pointwise [refScore]

/-- The exponentials at an index. -/
theorem refExp_at (S : FVec Ideal S2x16x512x512 .f32) (b : Fin 2) (h : Fin 16) (q k : Fin 512) :
    refExp S (ix4 b h q k) = Ideal.exp (S (ix4 b h q k) - top fun j => S (ix4 b h q j)) := by
  unfold top
  pointwise [refExp]
  rw [show Ideal.ofBits .f32 0xFF800000#32 = ⊥ from by simp [Ideal.ofBits, Ideal.ieee]]

/-- The weights at an index. -/
theorem refProb_at (E : FVec Ideal S2x16x512x512 .f32) (b : Fin 2) (h : Fin 16) (q k : Fin 512) :
    refProb E (ix4 b h q k) = Ideal.div (E (ix4 b h q k)) (0 + ∑ j : Fin 512, E (ix4 b h q j)) := by
  pointwise [refProb]

/-- The result at an index. -/
theorem refOut_at (X : FVec Ideal S2x512x2048 .f32) (Wd : FVec Ideal S2048x256 .f32) (Wv : FVec Ideal S256x2048 .f32) (P : FVec Ideal S2x16x512x512 .f32)
    (Wo : FVec Ideal S2048x2048 .f32) (b : Fin 2) (s : Fin 512) (n : Fin 2048) :
    refOut X Wd Wv P Wo (ix3 b s n) = outp (fun b q h d => ∑ k : Fin 512, up (proj X Wd) Wv b k (hd h d) * P (ix4 b h q k)) Wo b s n := by
  unfold outp proj up hd
  pointwise [refOut]
  simp only [Nat.div_add_mod', Fin.eta]

/-- The reference's result at an index. -/
theorem res_at (m : (ℓ : Loc nD τ sig) → Buf (Elt Ideal) ℓ) (c : Dev nD) (b : Fin 2) (s : Fin 512) (n : Fin 2048) :
    res_main_v29 m c (ix3 b s n)
      = outp (fun b q h d => soft (score (proj (m ((c.tc : Thread nD τ).loc main_arg0)) (m ((c.tc : Thread nD τ).loc main_arg4)))
            (up (proj (m ((c.tc : Thread nD τ).loc main_arg0)) (m ((c.tc : Thread nD τ).loc main_arg1))) (m ((c.tc : Thread nD τ).loc main_arg2)))
            (proj (m ((c.tc : Thread nD τ).loc main_arg0)) (m ((c.tc : Thread nD τ).loc main_arg5)))
            (proj (m ((c.tc : Thread nD τ).loc main_arg0)) (m ((c.tc : Thread nD τ).loc main_arg6))) b h q)
          fun k => up (proj (m ((c.tc : Thread nD τ).loc main_arg0)) (m ((c.tc : Thread nD τ).loc main_arg1))) (m ((c.tc : Thread nD τ).loc main_arg3)) b k (hd h d))
        (m ((c.tc : Thread nD τ).loc main_arg7)) b s n := by
  rw [res_stages, refOut_at]
  simp only [refProb_at, refExp_at, refScore_at]
  rfl

end Cert.Mla

end
-- ==== Proof.Finite.lean ====
module

public import proofs.«01_k».proof.Proof.Spec
public import proofs.«01_k».proof.Defs
public import Idealize.ShloMosaic.Lib.ReduceAll
public import Idealize.ShloMosaic.Lib.LayoutAt
public import Idealize.ShloMosaic.PureOps.Ideal

/-! The precondition, element by element, and a device's share of a weight. -/

@[expose] public section

noncomputable section

namespace Cert.Mla

open Idealize.ShloMosaic Idealize.ShloMosaic.TcCoe Idealize.ShloMosaic.Tactic

/-- An extended real whose absolute value is below infinity is a real. -/
theorem fin_of_abs_lt (x : EReal) (h : max x (-x) < ⊤) : Fin' x := by
  induction x using EReal.rec with
  | bot => simp at h
  | coe r => exact ⟨r, rfl⟩
  | top => simp at h

/-- The precondition's infinity. -/
theorem inf_top : Ideal.ofBits .f32 0x7F800000#32 = ⊤ := by simp [Ideal.ofBits, Ideal.ieee]

/-- An array whose every comparison with infinity holds is of reals. -/
theorem fin_of_all {s u t : Shape} {axes : List (Fin s.rank)} [Subsingleton t.Idx] (x : FVec Ideal s .f32) (e : FVec Ideal s .f32) (he : ∀ i, e i = ⊤)
    (init : u.Idx → BitVec 1) (h : s.ReducesTo axes t) (hu : 0 < u.numel) (j : t.Idx)
    (hr : Host.reduce IntOp.andi (cmpf .olt (Host.absf x) e) init h hu j = 1#1) (i : s.Idx) : Fin' (x i) := by
  have h1 := Host.reduce_andi_all _ _ _ _ j hr i
  have h2 : Ideal.cmp .olt (max (x i) (-(x i))) (e i) = 1#1 := h1
  rw [he i] at h2
  refine fin_of_abs_lt _ ?_
  by_contra hn
  simp [Ideal.cmp, hn] at h2

/-- Both sides of a conjunction. -/
theorem andi_split (x y : BitVec 1) (h : x &&& y = 1#1) : x = 1#1 ∧ y = 1#1 := by
  revert x y; decide

open Cert.Pre_finite_KernelIdeal in
/-- The precondition says six arguments are of reals. -/
theorem finite_args [Cert.Pre_finite_KernelIdeal.Facts] (a0 : FVec Ideal S2x512x2048 .f32) (a1 : FVec Ideal S2048x128 .f32) (a2 a3 : FVec Ideal S128x2048 .f32)
    (a4 : FVec Ideal S2048x2048 .f32) (a5 : FVec Ideal S2048x512 .f32) (a6 : FVec Ideal S2048x32 .f32) (a7 : FVec Ideal S2048x2048 .f32)
    (h : Cert.Pre_finite_KernelIdeal.fn (F := Ideal) a0 a1 a2 a3 a4 a5 a6 a7 = fun _ => 1#1) :
    (∀ i, Fin' (a0 i)) ∧ (∀ i, Fin' (a1 i)) ∧ (∀ i, Fin' (a2 i)) ∧ (∀ i, Fin' (a4 i)) ∧ (∀ i, Fin' (a5 i)) ∧ ∀ i, Fin' (a6 i) := by
  have hs : Subsingleton S_.Idx := ⟨fun a b => funext fun k => k.elim0⟩
  have hj := congrFun h (fun k => k.elim0 : S_.Idx)
  obtain ⟨hj, h6⟩ := andi_split _ _ hj
  obtain ⟨hj, h5⟩ := andi_split _ _ hj
  obtain ⟨hj, h4⟩ := andi_split _ _ hj
  obtain ⟨hj, h2⟩ := andi_split _ _ hj
  obtain ⟨h0, h1⟩ := andi_split _ _ hj
  exact ⟨fin_of_all a0 _ (fun _ => inf_top) _ _ _ _ h0, fin_of_all a1 _ (fun _ => inf_top) _ _ _ _ h1, fin_of_all a2 _ (fun _ => inf_top) _ _ _ _ h2,
    fin_of_all a4 _ (fun _ => inf_top) _ _ _ _ h4, fin_of_all a5 _ (fun _ => inf_top) _ _ _ _ h5, fin_of_all a6 _ (fun _ => inf_top) _ _ _ _ h6⟩

/-- A device's column block is the one its last mesh coordinate names. -/
theorem mesh_col : ∀ c : Fin 8, ((Layout.meshBlock [2, 2, 2] ![[], [2]] c : (b : Fin 2) → _) 1).val = c.val % 2 := by decide
/-- Rows are not cut when columns are. -/
theorem mesh_col0 : ∀ c : Fin 8, ((Layout.meshBlock [2, 2, 2] ![[], [2]] c : (b : Fin 2) → _) 0).val = 0 := by decide
/-- A device's row block is the one its last mesh coordinate names. -/
theorem mesh_row : ∀ c : Fin 8, ((Layout.meshBlock [2, 2, 2] ![[2], []] c : (b : Fin 2) → _) 0).val = c.val % 2 := by decide
/-- Columns are not cut when rows are. -/
theorem mesh_row0 : ∀ c : Fin 8, ((Layout.meshBlock [2, 2, 2] ![[2], []] c : (b : Fin 2) → _) 1).val = 0 := by decide

/-- A device's columns of a whole weight. -/
theorem cols_at (c : Fin 8) (W : (⟨2, ![2048, 256]⟩ : Shape).Idx → EReal) (k : Fin 2048) (j : Fin 128) (l : Fin 256) (hl : l.val = 128 * (c.val % 2) + j.val) :
    Layout.blockN ⟨2, ![2048, 128]⟩ ⟨2, ![2048, 256]⟩ (Layout.meshBlock [2, 2, 2] ![[], [2]] c) W (by decide) (ix2 k j) = W (ix2 k l) := by
  refine congrArg W (Layout.idx_ext fun b => ?_)
  refine (Layout.TilesN.idx_val _ _ _ b).trans ?_
  fin_cases b
  · show ((Layout.meshBlock [2, 2, 2] ![[], [2]] c : (b : Fin 2) → _) 0).val * 2048 + k.val = k.val
    rw [mesh_col0]; omega
  · show ((Layout.meshBlock [2, 2, 2] ![[], [2]] c : (b : Fin 2) → _) 1).val * 128 + j.val = l.val
    rw [mesh_col]; omega

/-- A device's rows of a whole weight. -/
theorem rows_at (c : Fin 8) (W : (⟨2, ![256, 2048]⟩ : Shape).Idx → EReal) (k : Fin 128) (j : Fin 2048) (l : Fin 256) (hl : l.val = 128 * (c.val % 2) + k.val) :
    Layout.blockN ⟨2, ![128, 2048]⟩ ⟨2, ![256, 2048]⟩ (Layout.meshBlock [2, 2, 2] ![[2], []] c) W (by decide) (ix2 k j) = W (ix2 l j) := by
  refine congrArg W (Layout.idx_ext fun b => ?_)
  refine (Layout.TilesN.idx_val _ _ _ b).trans ?_
  fin_cases b
  · show ((Layout.meshBlock [2, 2, 2] ![[2], []] c : (b : Fin 2) → _) 0).val * 128 + k.val = l.val
    rw [mesh_row]; omega
  · show ((Layout.meshBlock [2, 2, 2] ![[2], []] c : (b : Fin 2) → _) 1).val * 2048 + j.val = j.val
    rw [mesh_row0]; omega

end Cert.Mla

end
-- ==== Proof.lean ====
/- The certificate's claims, from the launch of the kernel and the run of the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frame
public import proofs.«01_k».proof.Proof.Result
public import proofs.«01_k».proof.Proof.RefVal
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel as compiled: it ends, its arguments are as launched and every counter is at zero. -/
theorem frame_kernel : Cert.quiescent_Kernel (hKernel := Cert.Kernel.Gen.facts) := fun m g _ =>
  (θ_run _ _ _).mono (fun _ h => ⟨fun c => by
    obtain ⟨h0, h1, h2, h3, h4, h5, h6, h7, -⟩ := h.1 c
    exact ⟨h0, h1, h2, h3, h4, h5, h6, h7⟩, h.2⟩) (Cert.Mla.run_kernel m g)

/-- The kernel over the reals: likewise. -/
theorem frame_ideal : Cert.quiescent_KernelIdeal (hKernelIdeal := Cert.KernelIdeal.Gen.facts) := fun m g _ =>
  (θ_run _ _ _).mono (fun _ h => ⟨fun c => by
    obtain ⟨h0, h1, h2, h3, h4, h5, h6, h7, -⟩ := h.1 c
    exact ⟨h0, h1, h2, h3, h4, h5, h6, h7⟩, h.2⟩) (Cert.Mla.run_main (F := Ideal) m g)

/-- The reference: likewise. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

/-- The precondition's stated shapes, over the kernel's arguments. -/
theorem preK : Cert.Pre_finite_KernelIdeal.Facts := by
  constructor <;> decide

/-- The precondition's stated shapes, over the reference's arguments. -/
theorem preR : Cert.Pre_finite_ReferenceIdeal.Facts := by
  constructor <;> decide

/-- The kernel over the reals from arguments under the precondition: a case of `frame_ideal`. -/
theorem frame_ideal_finite : Cert.quiescent_KernelIdeal_pre_finite_KernelIdeal (hKernelIdeal := Cert.KernelIdeal.Gen.facts) (hPre_finite_KernelIdeal := preK) :=
  fun m g _ => (θ_run _ _ _).mono (fun _ h => ⟨fun c => by
    obtain ⟨h0, h1, h2, h3, h4, h5, h6, h7, -⟩ := h.1 c
    exact ⟨h0, h1, h2, h3, h4, h5, h6, h7⟩, h.2⟩) (Cert.Mla.run_main (F := Ideal) m g)

/-- The reference from arguments under the precondition: a case of `frame_reference`. -/
theorem frame_reference_finite : Cert.quiescent_ReferenceIdeal_pre_finite_ReferenceIdeal (hReferenceIdeal := Cert.ReferenceIdeal.Gen.facts)
    (hPre_finite_ReferenceIdeal := preR) := fun m g _ =>
  (θ_run _ _ _).mono (fun r h => ⟨fun c => (h c).2, sem_eq_zero_of_no_sems rfl r.2⟩) (Cert.ReferenceIdeal.Value.run (F := Ideal) m g)

section Value

open Cert.Mla

variable (X : FVec Ideal Cert.KernelIdeal.S2x512x2048 .f32) (Wd : FVec Ideal ⟨2, ![2048, 256]⟩ .f32) (Wk Wv : FVec Ideal Cert.KernelIdeal.S256x2048 .f32)
variable (Wq : FVec Ideal Cert.KernelIdeal.S2048x2048 .f32) (Wr : FVec Ideal Cert.KernelIdeal.S2048x512 .f32) (Wp : FVec Ideal Cert.KernelIdeal.S2048x32 .f32)
variable (Wo : FVec Ideal Cert.KernelIdeal.S2048x2048 .f32)

/-- For finite scores, dividing the weights by their sum before or after they meet the values is the same. -/
theorem soft_attended (hX : ∀ i, Fin' (X i)) (hD : ∀ i, Fin' (Wd i)) (hK : ∀ i, Fin' (Wk i)) (hQ : ∀ i, Fin' (Wq i)) (hR : ∀ i, Fin' (Wr i))
    (hP : ∀ i, Fin' (Wp i)) (b : Fin 2) (s : Fin 512) (n : Fin 2048) :
    outp (fun b q h d => soft (score (proj X Wq) (up (proj X Wd) Wk) (proj X Wr) (proj X Wp) b h q) fun k => up (proj X Wd) Wv b k (hd h d)) Wo b s n
      = attended X Wd Wk Wv Wq Wr Wp Wo b s n := by
  unfold attended
  congr 1
  funext b q h d
  exact soft_eq_plain _ _ (fin_score (fin_proj hX hQ) (fin_up (fin_proj hX hD) hK) (fin_proj hX hR) (fin_proj hX hP) b h q)

/-- A weight cut by columns over the devices is of reals when every device's columns are. -/
theorem fin_cols (W : FVec Ideal ⟨2, ![2048, 256]⟩ .f32) (S : Dev Cert.KernelIdeal.nD → FVec Ideal Cert.KernelIdeal.S2048x128 .f32)
    (hS : ∀ c (k : Fin 2048) (j : Fin 128), S c (ix2 k j) = W (ix2 k (shareAt c j))) (hf : ∀ c i, Fin' (S c i)) (i : (⟨2, ![2048, 256]⟩ : Shape).Idx) :
    Fin' (W i) := by
  have h1 : (i 1).val < 256 := (i 1).isLt
  have e : i = ix2 (n0 := 2048) (n1 := 256) (i 0) (shareAt ⟨(i 1).val / 128, by show _ < 8; omega⟩ ⟨(i 1).val % 128, by omega⟩) := by
    refine (ValueIdx.eq_ix2 (n0 := 2048) (n1 := 256) i).trans ((ix2_eq_valueIdx _ _).symm.trans (congrArg (ix2 (n0 := 2048) (n1 := 256) (i 0)) ?_))
    exact Fin.ext (show (i 1).val = 128 * ((i 1).val / 128 % 2) + (i 1).val % 128 by omega)
  refine (congrArg Fin' ((congrArg W e).trans (hS _ _ _).symm)).mpr ?_
  exact hf _ _

/-- A weight cut by rows over the devices is of reals when every device's rows are. -/
theorem fin_rows (W : FVec Ideal Cert.KernelIdeal.S256x2048 .f32) (S : Dev Cert.KernelIdeal.nD → FVec Ideal Cert.KernelIdeal.S128x2048 .f32)
    (hS : ∀ c (k : Fin 128) (j : Fin 2048), S c (ix2 k j) = W (ix2 (shareAt c k) j)) (hf : ∀ c i, Fin' (S c i)) (i : Cert.KernelIdeal.S256x2048.Idx) :
    Fin' (W i) := by
  have h0 : (i 0).val < 256 := (i 0).isLt
  have e : i = ix2 (n0 := 256) (n1 := 2048) (shareAt ⟨(i 0).val / 128, by show _ < 8; omega⟩ ⟨(i 0).val % 128, by omega⟩) (i 1) := by
    refine (ValueIdx.eq_ix2 (n0 := 256) (n1 := 2048) i).trans ((ix2_eq_valueIdx _ _).symm.trans (congrArg (fun a => ix2 (n0 := 256) (n1 := 2048) a (i 1)) ?_))
    exact Fin.ext (show (i 0).val = 128 * ((i 0).val / 128 % 2) + (i 0).val % 128 by omega)
  refine (congrArg Fin' ((congrArg W e).trans (hS _ _ _).symm)).mpr ?_
  exact hf _ _

end Value

open Cert.Mla in
/-- The kernel returns what the reference returns, on every device. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := preK) := by
  intro m g m' g' hpre harg
  have fin := fun c : Dev Cert.KernelIdeal.nD => @finite_args preK _ _ _ _ _ _ _ _ (hpre c)
  have hX := fun c => (harg c).1
  have hWd := fun (c : Dev Cert.KernelIdeal.nD) (k : Fin 2048) (j : Fin 128) => (congrFun (harg c).2.1 (ix2 k j)).trans (cols_at c _ k j (shareAt c j) rfl)
  have hWk := fun (c : Dev Cert.KernelIdeal.nD) (k : Fin 128) (j : Fin 2048) => (congrFun (harg c).2.2.1 (ix2 k j)).trans (rows_at c _ k j (shareAt c k) rfl)
  have hWv := fun (c : Dev Cert.KernelIdeal.nD) (k : Fin 128) (j : Fin 2048) => (congrFun (harg c).2.2.2.1 (ix2 k j)).trans (rows_at c _ k j (shareAt c k) rfl)
  obtain ⟨-, -, -, -, e4, e5, e6, -⟩ := harg 0
  have f0 := fun i => (congrArg Fin' (congrFun (hX 0) i)).mp ((fin 0).1 i)
  have f4 := fun i => (congrArg Fin' (congrFun e4 i)).mp ((fin 0).2.2.2.1 i)
  have f5 := fun i => (congrArg Fin' (congrFun e5 i)).mp ((fin 0).2.2.2.2.1 i)
  have f6 := fun i => (congrArg Fin' (congrFun e6 i)).mp ((fin 0).2.2.2.2.2 i)
  have f1 := fin_cols _ (fun c => m ((c.tc : Thread Cert.KernelIdeal.nD Cert.KernelIdeal.τ).loc Cert.KernelIdeal.main_arg1)) hWd fun c => (fin c).2.1
  have f2 := fin_rows _ (fun c => m ((c.tc : Thread Cert.KernelIdeal.nD Cert.KernelIdeal.τ).loc Cert.KernelIdeal.main_arg2)) hWk fun c => (fin c).2.2.1
  have val : ∀ c : Dev Cert.KernelIdeal.nD, Cert.KernelIdeal.Gen.V4 m (outs m) c Cert.KernelIdeal.main_v4 = Cert.ReferenceIdeal.Value.res_main_v29 m' 0 := by
    intro c
    funext (i : Cert.KernelIdeal.S2x512x2048.Idx)
    obtain ⟨-, -, -, -, e4, e5, e6, e7⟩ := harg c
    have ei : i = ix3 (n0 := 2) (n1 := 512) (n2 := 2048) (i 0) (i 1) (i 2) := by
      funext k; fin_cases k <;> rfl
    refine (congrArg (Cert.KernelIdeal.Gen.V4 m (outs m) c Cert.KernelIdeal.main_v4) ei).trans ?_
    refine Eq.trans ?_ (congrArg (Cert.ReferenceIdeal.Value.res_main_v29 m' 0) ei).symm
    refine (result_at m _ _ _ _ hX hWd hWk hWv c (i 0) (i 1) (i 2)).trans ?_
    refine Eq.trans ?_ (res_at m' 0 (i 0) (i 1) (i 2)).symm
    rw [e4, e5, e6, e7]
    exact (soft_attended _ _ _ _ _ _ _ _ f0 f1 f2 f4 f5 f6 (i 0) (i 1) (i 2)).symm
  refine ⟨Cert.ReferenceIdeal.Value.res_main_v29 m' 0, ?_, ?_⟩
  · refine (θ_run _ _ _).mono (fun r h c => ?_) (run_main (F := Ideal) m g)
    obtain ⟨h0, h1, h2, h3, h4, h5, h6, h7, h8⟩ := h.1 c
    exact ⟨h8.trans (val c), h0, h1, h2, h3, h4, h5, h6, h7⟩
  · exact (θ_run _ _ _).mono (fun r h => h 0) (Cert.ReferenceIdeal.Value.run (F := Ideal) m' g')

/-- Everything claimed. -/
theorem claim : Cert.Claim :=
  ⟨Cert.Kernel.Gen.facts, Cert.KernelIdeal.Gen.facts, Cert.ReferenceIdeal.Gen.facts, preK, preR, frame_kernel, frame_ideal, frame_ideal_finite,
    frame_reference, frame_reference_finite, trivial, algebraic⟩

end Cert.Proof

end
